-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_named_KernelIdeal [hPre_finite_and_named_KernelIdeal : Cert.Pre_finite_and_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_named_ReferenceIdeal [hPre_finite_and_named_ReferenceIdeal : Cert.Pre_finite_and_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_named_KernelIdeal [hKernelIdeal : Cert.KernelIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_named_ReferenceIdeal [hReferenceIdeal : Cert.ReferenceIdeal.Facts] [hPre_finite_and_named_ReferenceIdeal : Cert.Pre_finite_and_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_named_KernelIdeal [hKernelIdeal : Cert.KernelIdeal.Facts] [hReferenceIdeal : Cert.ReferenceIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![256, 32, 16, 128]⟩ ⟨4, ![512, 32, 16, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![256, 32, 16, 128]⟩ ⟨4, ![512, 32, 16, 128]⟩ (Layout.meshBlock [2, 2, 2] ![[0], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_named_KernelIdeal : Cert.Pre_finite_and_named_KernelIdeal.Facts) (hPre_finite_and_named_ReferenceIdeal : Cert.Pre_finite_and_named_ReferenceIdeal.Facts),
    quiescent_Kernel (hKernel := hKernel)
    ∧ quiescent_KernelIdeal (hKernelIdeal := hKernelIdeal)
    ∧ quiescent_KernelIdeal_pre_finite_and_named_KernelIdeal (hKernelIdeal := hKernelIdeal) (hPre_finite_and_named_KernelIdeal := hPre_finite_and_named_KernelIdeal)
    ∧ quiescent_ReferenceIdeal (hReferenceIdeal := hReferenceIdeal)
    ∧ quiescent_ReferenceIdeal_pre_finite_and_named_ReferenceIdeal (hReferenceIdeal := hReferenceIdeal) (hPre_finite_and_named_ReferenceIdeal := hPre_finite_and_named_ReferenceIdeal)
    ∧ preserves_Kernel_KernelIdeal
    ∧ algebraic_KernelIdeal_ReferenceIdeal_pre_finite_and_named_KernelIdeal (hKernelIdeal := hKernelIdeal) (hReferenceIdeal := hReferenceIdeal) (hPre_finite_and_named_KernelIdeal := hPre_finite_and_named_KernelIdeal)
-- ==== Pre_finite_and_named_KernelIdeal.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S256x32x16x128 : S_.BroadcastsInDim S256x32x16x128 (![] : Fin 0 → Fin S256x32x16x128.rank)
  reducesTo_S256x32x16x128_S_d0_1_2_3 : S256x32x16x128.ReducesTo [0, 1, 2, 3] S_
  reducesTo_S32x256_S32_d1 : S32x256.ReducesTo [1] S32
  reducesTo_S32_S_d0 : S32.ReducesTo [0] S_

variable [Facts]

def fn_part1 {F : FTy → Type} [FloatOps F] (main_v11 : IVec S32x256 1) (main_v15 : IVec S_ 1) (main_v18 : IVec S256x32x16x128 1) : IVec S_ 1 :=
  let main_c_3 : IVec S_ 1 := constantI S_ 1 1#1
  let main_v19 : IVec S_ 1 := (fun x v => Host.reduce IntOp.andi x v reducesTo_S256x32x16x128_S_d0_1_2_3 h_S_) main_v18 main_c_3
  let main_v20 : IVec S_ 1 := andi main_v15 main_v19
  let main_c_4 : IVec S_ 1 := constantI S_ 1 0#1
  let main_v21 : IVec S32 1 := (fun x v => Host.reduce IntOp.ori x v reducesTo_S32x256_S32_d1 h_S_) main_v11 main_c_4
  let main_c_5 : IVec S_ 1 := constantI S_ 1 1#1
  let main_v22 : IVec S_ 1 := (fun x v => Host.reduce IntOp.andi x v reducesTo_S32_S_d0 h_S_) main_v21 main_c_5
  let main_v23 : IVec S_ 1 := andi main_v20 main_v22
  main_v23

def fn {F : FTy → Type} [FloatOps F] (main_arg0 : FVec F S32x1x16x128 .f32) (main_arg1 : FVec F S256x32x16x128 .f32) (main_arg2 : FVec F S256x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_v8 : IVec S32x256 1 := andi main_v5 main_v7
  let main_c_0 : IVec S_ 32 := constantI S_ 32 512#32
  let main_v9 : IVec S32x256 32 := broadcastInDim S32x256 ![] bcast_S_S32x256 main_c_0
  let main_v10 : IVec S32x256 1 := cmpi .slt main_arg3 main_v9
  let main_v11 : IVec S32x256 1 := andi main_v8 main_v10
  let main_v12 : FVec F S32x1x16x128 .f32 := Host.absf main_arg0
  let main_cst : FVec F S_ .f32 := constant S_ .f32 0x7F800000#32
  let main_v13 : FVec F S32x1x16x128 .f32 := broadcastInDim S32x1x16x128 ![] bcast_S_S32x1x16x128 main_cst
  let main_v14 : IVec S32x1x16x128 1 := cmpf .olt main_v12 main_v13
  let main_c_1 : IVec S_ 1 := constantI S_ 1 1#1
  let main_v15 : IVec S_ 1 := (fun x v => Host.reduce IntOp.andi x v reducesTo_S32x1x16x128_S_d0_1_2_3 h_S_) main_v14 main_c_1
  let main_v16 : FVec F S256x32x16x128 .f32 := Host.absf main_arg1
  let main_cst_2 : FVec F S_ .f32 := constant S_ .f32 0x7F800000#32
  let main_v17 : FVec F S256x32x16x128 .f32 := broadcastInDim S256x32x16x128 ![] bcast_S_S256x32x16x128 main_cst_2
  let main_v18 : IVec S256x32x16x128 1 := cmpf .olt main_v16 main_v17
  fn_part1 (F := F) main_v11 main_v15 main_v18
-- ==== Pre_finite_and_named_ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S256 : Shape := ⟨1, ![256]⟩
abbrev S1x256 : Shape := ⟨2, ![1, 256]⟩
abbrev S32x1 : Shape := ⟨2, ![32, 1]⟩
abbrev S_ : Shape := ⟨0, ![]⟩

class Facts : Prop where
  bcast_S256_S1x256_1 : S256.BroadcastsInDim S1x256 (![1] : Fin 1 → Fin S1x256.rank)
  bcast_S32_S32x1_0 : S32.BroadcastsInDim S32x1 (![0] : Fin 1 → Fin S32x1.rank)
  bcast_S1x256_S32x256_0_1 : S1x256.BroadcastsInDim S32x256 (![0, 1] : Fin 2 → Fin S32x256.rank)
  bcast_S32x1_S32x256_0_1 : S32x1.BroadcastsInDim S32x256 (![0, 1] : Fin 2 → Fin S32x256.rank)
  bcast_S_S32x256 : S_.BroadcastsInDim S32x256 (![] : Fin 0 → Fin S32x256.rank)
  bcast_S_S32x1x16x128 : S_.BroadcastsInDim S32x1x16x128 (![] : Fin 0 → Fin S32x1x16x128.rank)
  reducesTo_S32x1x16x128_S_d0_1_2_3 : S32x1x16x128.ReducesTo [0, 1, 2, 3] S_
  h_S_ : 0 < S_.numel
  bcast_S_S512x32x16x128 : S_.BroadcastsInDim S512x32x16x128 (![] : Fin 0 → Fin S512x32x16x128.rank)
  reducesTo_S512x32x16x128_S_d0_1_2_3 : S512x32x16x128.ReducesTo [0, 1, 2, 3] S_
  reducesTo_S32x256_S32_d1 : S32x256.ReducesTo [1] S32
  reducesTo_S32_S_d0 : S32.ReducesTo [0] S_

variable [Facts]

def fn_part1 {F : FTy → Type} [FloatOps F] (main_v11 : IVec S32x256 1) (main_v15 : IVec S_ 1) (main_v18 : IVec S512x32x16x128 1) : IVec S_ 1 :=
  let main_c_3 : IVec S_ 1 := constantI S_ 1 1#1
  let main_v19 : IVec S_ 1 := (fun x v => Host.reduce IntOp.andi x v reducesTo_S512x32x16x128_S_d0_1_2_3 h_S_) main_v18 main_c_3
  let main_v20 : IVec S_ 1 := andi main_v15 main_v19
  let main_c_4 : IVec S_ 1 := constantI S_ 1 0#1
  let main_v21 : IVec S32 1 := (fun x v => Host.reduce IntOp.ori x v reducesTo_S32x256_S32_d1 h_S_) main_v11 main_c_4
  let main_c_5 : IVec S_ 1 := constantI S_ 1 1#1
  let main_v22 : IVec S_ 1 := (fun x v => Host.reduce IntOp.andi x v reducesTo_S32_S_d0 h_S_) main_v21 main_c_5
  let main_v23 : IVec S_ 1 := andi main_v20 main_v22
  main_v23

def fn {F : FTy → Type} [FloatOps F] (main_arg0 : FVec F S32x1x16x128 .f32) (main_arg1 : FVec F S512x32x16x128 .f32) (main_arg2 : FVec F S512x32x16x128 .f32) (main_arg3 : IVec S32x256 32) (main_arg4 : IVec S32 32) : IVec S_ 1 :=
  let main_v0 : IVec S256 32 := iotaInDim S256 32 0
  let main_v1 : IVec S1x256 32 := broadcastInDim S1x256 ![1] bcast_S256_S1x256_1 main_v0
  let main_v2 : IVec S32x1 32 := broadcastInDim S32x1 ![0] bcast_S32_S32x1_0 main_arg4
  let main_v3 : IVec S32x256 32 := broadcastInDim S32x256 ![0, 1] bcast_S1x256_S32x256_0_1 main_v1
  let main_v4 : IVec S32x256 32 := broadcastInDim S32x256 ![0, 1] bcast_S32x1_S32x256_0_1 main_v2
  let main_v5 : IVec S32x256 1 := cmpi .slt main_v3 main_v4
  let main_c : IVec S_ 32 := constantI S_ 32 0#32
  let main_v6 : IVec S32x256 32 := broadcastInDim S32x256 ![] bcast_S_S32x256 main_c
  let main_v7 : IVec S32x256 1 := cmpi .sge main_arg3 main_v6
  let main_v8 : IVec S32x256 1 := andi main_v5 main_v7
  let main_c_0 : IVec S_ 32 := constantI S_ 32 512#32
  let main_v9 : IVec S32x256 32 := broadcastInDim S32x256 ![] bcast_S_S32x256 main_c_0
  let main_v10 : IVec S32x256 1 := cmpi .slt main_arg3 main_v9
  let main_v11 : IVec S32x256 1 := andi main_v8 main_v10
  let main_v12 : FVec F S32x1x16x128 .f32 := Host.absf main_arg0
  let main_cst : FVec F S_ .f32 := constant S_ .f32 0x7F800000#32
  let main_v13 : FVec F S32x1x16x128 .f32 := broadcastInDim S32x1x16x128 ![] bcast_S_S32x1x16x128 main_cst
  let main_v14 : IVec S32x1x16x128 1 := cmpf .olt main_v12 main_v13
  let main_c_1 : IVec S_ 1 := constantI S_ 1 1#1
  let main_v15 : IVec S_ 1 := (fun x v => Host.reduce IntOp.andi x v reducesTo_S32x1x16x128_S_d0_1_2_3 h_S_) main_v14 main_c_1
  let main_v16 : FVec F S512x32x16x128 .f32 := Host.absf main_arg1
  let main_cst_2 : FVec F S_ .f32 := constant S_ .f32 0x7F800000#32
  let main_v17 : FVec F S512x32x16x128 .f32 := broadcastInDim S512x32x16x128 ![] bcast_S_S512x32x16x128 main_cst_2
  let main_v18 : IVec S512x32x16x128 1 := cmpf .olt main_v16 main_v17
  fn_part1 (F := F) main_v11 main_v15 main_v18
-- ==== Kernel.lean ====
abbrev S32x1x16x128 : Shape := ⟨4, ![32, 1, 16, 128]⟩
abbrev S256x32x16x128 : Shape := ⟨4, ![256, 32, 16, 128]⟩
abbrev S32x256 : Shape := ⟨2, ![32, 256]⟩
abbrev S32 : Shape := ⟨1, ![32]⟩
abbrev S_ : Shape := ⟨0, ![]⟩
abbrev S256 : Shape := ⟨1, ![256]⟩
abbrev S1x256 : Shape := ⟨2, ![1, 256]⟩
abbrev S32x1 : Shape := ⟨2, ![32, 1]⟩
abbrev S64 : Shape := ⟨1, ![64]⟩
abbrev S32x256x1 : Shape := ⟨3, ![32, 256, 1]⟩
abbrev S1x1x64 : Shape := ⟨3, ![1, 1, 64]⟩
abbrev S32x256x64 : Shape := ⟨3, ![32, 256, 64]⟩
abbrev S32x64 : Shape := ⟨2, ![32, 64]⟩
abbrev S32x64x32 : Shape := ⟨3, ![32, 64, 32]⟩
abbrev S32x2048 : Shape := ⟨2, ![32, 2048]⟩
abbrev S32x16x128 : Shape := ⟨3, ![32, 16, 128]⟩
abbrev S16x32x128 : Shape := ⟨3, ![16, 32, 128]⟩
abbrev S1 : Shape := ⟨1, ![1]⟩
abbrev S8x32x16x128 : Shape := ⟨4, ![8, 32, 16, 128]⟩
abbrev S2x16x32 : Shape := ⟨3, ![2, 16, 32]⟩
abbrev S4x16x32x128 : Shape := ⟨4, ![4, 16, 32, 128]⟩
abbrev S4x2x16x32 : Shape := ⟨4, ![4, 2, 16, 32]⟩
abbrev S4 : Shape := ⟨1, ![4]⟩
abbrev S16x32 : Shape := ⟨2, ![16, 32]⟩
abbrev S1x16x32 : Shape := ⟨3, ![1, 16, 32]⟩
abbrev S256x16x128 : Shape := ⟨3, ![256, 16, 128]⟩
abbrev S16x32x256 : Shape := ⟨3, ![16, 32, 256]⟩
abbrev S1x32x256 : Shape := ⟨3, ![1, 32, 256]⟩
abbrev S16x32x1 : Shape := ⟨3, ![16, 32, 1]⟩
abbrev S1x16x32x128 : Shape := ⟨4, ![1, 16, 32, 128]⟩
abbrev S1x2x16x32 : Shape := ⟨4, ![1, 2, 16, 32]⟩
abbrev S1x1x16x32 : Shape := ⟨4, ![1, 1, 16, 32]⟩

abbrev nBuf : Space → Nat
  | .hbm => 60
  | .vmem => 14
  | .smem => 1
  | _ => 0

abbrev bufTy : (tb : Table) → Fin (tcTables nBuf tb) → BufTy
  | .hbm, ⟨0, _⟩ => ⟨S32x1x16x128, .f32⟩
  | .hbm, ⟨1, _⟩ => ⟨S256x32x16x128, .f32⟩
  | .hbm, ⟨2, _⟩ => ⟨S256x32x16x128, .f32⟩
  | .hbm, ⟨3, _⟩ => ⟨S32x256, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S256, .i32⟩
  | .hbm, ⟨27, _⟩ => ⟨S1x256, .i32⟩
  | .hbm, ⟨28, _⟩ => ⟨S32x1, .i32⟩
  | .hbm, ⟨29, _⟩ => ⟨S32x256, .i32⟩
  | .hbm, ⟨30, _⟩ => ⟨S32x256, .i32⟩
  | .hbm, ⟨31, _⟩ => ⟨S32x256, .i1⟩
  | .hbm, ⟨32, _⟩ => ⟨S_, .i32⟩
  | .hbm, ⟨33, _⟩ => ⟨S_, .i32⟩
  | .hbm, ⟨34, _⟩ => ⟨S32x256, .i32⟩
  | .hbm, ⟨35, _⟩ => ⟨S32x256, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S32x256x1, .i32⟩
  | .hbm, ⟨45, _⟩ => ⟨S1x1x64, .i32⟩
  | .hbm, ⟨46, _⟩ => ⟨S32x256x64, .i32⟩
  | .hbm, ⟨47, _⟩ => ⟨S32x256x64, .i32⟩
  | .hbm, ⟨48, _⟩ => ⟨S32x256x64, .i1⟩
  | .hbm, ⟨49, _⟩ => ⟨S32x256x64, .i32⟩
  | .hbm, ⟨50, _⟩ => ⟨S_, .i32⟩
  | .hbm, ⟨51, _⟩ => ⟨S32x64, .i32⟩
  | .hbm, ⟨52, _⟩ => ⟨S32x64x32, .i32⟩
  | .hbm, ⟨53, _⟩ => ⟨S32x2048, .i32⟩
  | .hbm, ⟨54, _⟩ => ⟨S32x2048, .f32⟩
  | .hbm, ⟨55, _⟩ => ⟨S32x16x128, .f32⟩
  | .hbm, ⟨56, _⟩ => ⟨S16x32x128, .f32⟩
  | .hbm, ⟨57, _⟩ => ⟨S_, .i32⟩
  | .hbm, ⟨58, _⟩ => ⟨S_, .i32⟩
  | .hbm, ⟨59, _⟩ => ⟨S32x1x16x128, .f32⟩
  | .local _ .vmem, ⟨0, _⟩ => ⟨S16x32x128, .f32⟩
  | .local _ .vmem, ⟨1, _⟩ => ⟨S8x32x16x128, .f32⟩
  | .local _ .vmem, ⟨2, _⟩ => ⟨S8x32x16x128, .f32⟩
  | .local _ .vmem, ⟨3, _⟩ => ⟨S8x32x16x128, .f32⟩
  | .local _ .vmem, ⟨4, _⟩ => ⟨S8x32x16x128, .f32⟩
  | .local _ .vmem, ⟨5, _⟩ => ⟨S32x256, .f32⟩
  | .local _ .vmem, ⟨6, _⟩ => ⟨S32x256, .f32⟩
  | .local _ .vmem, ⟨7, _⟩ => ⟨S32x1x16x128, .f32⟩
  | .local _ .vmem, ⟨8, _⟩ => ⟨S16x32x128, .f32⟩
  | .local _ .vmem, ⟨9, _⟩ => ⟨S2x16x32, .f32⟩
  | .local _ .vmem, ⟨10, _⟩ => ⟨S4x16x32x128, .bf16⟩
  | .local _ .vmem, ⟨11, _⟩ => ⟨S4x2x16x32, .f32⟩
  | .local _ .vmem, ⟨12, _⟩ => ⟨S4x16x32x128, .bf16⟩
  | .local _ .vmem, ⟨13, _⟩ => ⟨S4x2x16x32, .f32⟩
  | .local _ .smem, ⟨0, _⟩ => ⟨S1, .i32⟩
  | _, _ => ⟨S32x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 2 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_c_8 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v42 : Ref sig .tc := ⟨.hbm, 59, rfl⟩
abbrev main_v41 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev barrier0 : Sem sig := 0

abbrev nD : Nat := 8
abbrev τ : Topo := Topo.v7x

variable {F : FTy → Type} [FloatOps F]

abbrev grid0 : Pipeline.Grid := ⟨1, ![8], ![false]⟩

abbrev pre0 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_6 : BitVec 32 := 0#32
  let v14 : BitVec 1 := Scalar.cmpi .ne v13 c0_i32_6
  v14

def k0_dev1 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v75 : BitVec 32 := Scalar.muli v2 c4_i32_45
  let v76 : BitVec 32 := Scalar.addi c0_i32_46 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v77 : BitVec 32 := Scalar.muli v5 c2_i32_47
  let v78 : BitVec 32 := Scalar.addi v76 v77
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_48 : BitVec 32 := 1#32
  let v79 : BitVec 32 := Scalar.muli v9 c1_i32_48
  let v80 : BitVec 32 := Scalar.addi v78 v79
  v80.toNat
def k0_dev2 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v81 : BitVec 32 := Scalar.muli v2 c4_i32_50
  let v82 : BitVec 32 := Scalar.addi c0_i32_51 v81
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_52 : BitVec 32 := 2#32
  let v83 : BitVec 32 := Scalar.muli v10 c2_i32_52
  let v84 : BitVec 32 := Scalar.addi v82 v83
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v85 : BitVec 32 := Scalar.muli v8 c1_i32_53
  let v86 : BitVec 32 := Scalar.addi v84 v85
  v86.toNat
def k0_dev3 (d0 : Dev nD) : Nat :=
  let c0_i32_56 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_55 : BitVec 32 := 4#32
  let v87 : BitVec 32 := Scalar.muli v11 c4_i32_55
  let v88 : BitVec 32 := Scalar.addi c0_i32_56 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v89 : BitVec 32 := Scalar.muli v5 c2_i32_57
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v91 : BitVec 32 := Scalar.muli v8 c1_i32_58
  let v92 : BitVec 32 := Scalar.addi v90 v91
  v92.toNat
def k0_cond2 (i : grid0.Coords) : BitVec 1 :=
  let arg0 : BitVec 32 := BitVec.ofNat 32 (i 0).val
  let c3_i32 : BitVec 32 := 3#32
  let v68 : BitVec 1 := Scalar.cmpi .eq arg0 c3_i32
  let v69 : BitVec 32 := Scalar.extui v68
  let c0_i32_42 : BitVec 32 := 0#32
  let v70 : BitVec 1 := Scalar.cmpi .ne v69 c0_i32_42
  v70

def k0_dev4 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v83 : BitVec 32 := Scalar.muli v2 c4_i32_62
  let v84 : BitVec 32 := Scalar.addi c0_i32_63 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v85 : BitVec 32 := Scalar.muli v5 c2_i32_64
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v87 : BitVec 32 := Scalar.muli v9 c1_i32_65
  let v88 : BitVec 32 := Scalar.addi v86 v87
  v88.toNat
def k0_dev5 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v97 : BitVec 32 := Scalar.muli v2 c4_i32_76
  let v98 : BitVec 32 := Scalar.addi c0_i32_77 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v99 : BitVec 32 := Scalar.muli v5 c2_i32_78
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v101 : BitVec 32 := Scalar.muli v9 c1_i32_79
  let v102 : BitVec 32 := Scalar.addi v100 v101
  v102.toNat
def k0_cond3 (i : grid0.Coords) : BitVec 1 :=
  let arg0 : BitVec 32 := BitVec.ofNat 32 (i 0).val
  let c7_i32 : BitVec 32 := 7#32
  let v71 : BitVec 1 := Scalar.cmpi .eq arg0 c7_i32
  let v72 : BitVec 32 := Scalar.extui v71
  let c0_i32_43 : BitVec 32 := 0#32
  let v73 : BitVec 1 := Scalar.cmpi .ne v72 c0_i32_43
  v73

def k0_dev6 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v83 : BitVec 32 := Scalar.muli v2 c4_i32_62
  let v84 : BitVec 32 := Scalar.addi c0_i32_63 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v85 : BitVec 32 := Scalar.muli v5 c2_i32_64
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_65 : BitVec 32 := 1#32
  let v87 : BitVec 32 := Scalar.muli v9 c1_i32_65
  let v88 : BitVec 32 := Scalar.addi v86 v87
  v88.toNat
def k0_dev7 (d0 : Dev nD) : Nat :=
  let c0_i32_77 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_76 : BitVec 32 := 4#32
  let v97 : BitVec 32 := Scalar.muli v2 c4_i32_76
  let v98 : BitVec 32 := Scalar.addi c0_i32_77 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_78 : BitVec 32 := 2#32
  let v99 : BitVec 32 := Scalar.muli v5 c2_i32_78
  let v100 : BitVec 32 := Scalar.addi v98 v99
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_79 : BitVec 32 := 1#32
  let v101 : BitVec 32 := Scalar.muli v9 c1_i32_79
  let v102 : BitVec 32 := Scalar.addi v100 v101
  v102.toNat
def k0_dev8 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v264 : BitVec 32 := Scalar.muli v2 c4_i32_246
  let v265 : BitVec 32 := Scalar.addi c0_i32_247 v264
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_248 : BitVec 32 := 2#32
  let v266 : BitVec 32 := Scalar.muli v10 c2_i32_248
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v268 : BitVec 32 := Scalar.muli v8 c1_i32_249
  let v269 : BitVec 32 := Scalar.addi v267 v268
  v269.toNat
def k0_dev9 (d0 : Dev nD) : Nat :=
  let c0_i32_261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_260 : BitVec 32 := 4#32
  let v278 : BitVec 32 := Scalar.muli v2 c4_i32_260
  let v279 : BitVec 32 := Scalar.addi c0_i32_261 v278
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_262 : BitVec 32 := 2#32
  let v280 : BitVec 32 := Scalar.muli v10 c2_i32_262
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_263 : BitVec 32 := 1#32
  let v282 : BitVec 32 := Scalar.muli v8 c1_i32_263
  let v283 : BitVec 32 := Scalar.addi v281 v282
  v283.toNat
def k0_dev10 (d0 : Dev nD) : Nat :=
  let c0_i32_348 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_347 : BitVec 32 := 4#32
  let v360 : BitVec 32 := Scalar.muli v11 c4_i32_347
  let v361 : BitVec 32 := Scalar.addi c0_i32_348 v360
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v362 : BitVec 32 := Scalar.muli v5 c2_i32_349
  let v363 : BitVec 32 := Scalar.addi v361 v362
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v364 : BitVec 32 := Scalar.muli v8 c1_i32_350
  let v365 : BitVec 32 := Scalar.addi v363 v364
  v365.toNat
def k0_dev11 (d0 : Dev nD) : Nat :=
  let c0_i32_362 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_361 : BitVec 32 := 4#32
  let v374 : BitVec 32 := Scalar.muli v11 c4_i32_361
  let v375 : BitVec 32 := Scalar.addi c0_i32_362 v374
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_363 : BitVec 32 := 2#32
  let v376 : BitVec 32 := Scalar.muli v5 c2_i32_363
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_364 : BitVec 32 := 1#32
  let v378 : BitVec 32 := Scalar.muli v8 c1_i32_364
  let v379 : BitVec 32 := Scalar.addi v377 v378
  v379.toNat
def k0_dev12 (d0 : Dev nD) : Nat :=
  let c0_i32_439_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438_r0 : BitVec 32 := 4#32
  let v453_r0 : BitVec 32 := Scalar.muli v2 c4_i32_438_r0
  let v454_r0 : BitVec 32 := Scalar.addi c0_i32_439_r0 v453_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440_r0 : BitVec 32 := 2#32
  let v455_r0 : BitVec 32 := Scalar.muli v5 c2_i32_440_r0
  let v456_r0 : BitVec 32 := Scalar.addi v454_r0 v455_r0
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_441_r0 : BitVec 32 := 1#32
  let v457_r0 : BitVec 32 := Scalar.muli v9 c1_i32_441_r0
  let v458_r0 : BitVec 32 := Scalar.addi v456_r0 v457_r0
  v458_r0.toNat
def k0_dev13 (d0 : Dev nD) : Nat :=
  let c0_i32_444_r0 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_443_r0 : BitVec 32 := 4#32
  let v459_r0 : BitVec 32 := Scalar.muli v2 c4_i32_443_r0
  let v460_r0 : BitVec 32 := Scalar.addi c0_i32_444_r0 v459_r0
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_445_r0 : BitVec 32 := 2#32
  let v461_r0 : BitVec 32 := Scalar.muli v10 c2_i32_445_r0
  let v462_r0 : BitVec 32 := Scalar.addi v460_r0 v461_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_446_r0 : BitVec 32 := 1#32
  let v463_r0 : BitVec 32 := Scalar.muli v8 c1_i32_446_r0
  let v464_r0 : BitVec 32 := Scalar.addi v462_r0 v463_r0
  v464_r0.toNat
def k0_dev14 (d0 : Dev nD) : Nat :=
  let c0_i32_449_r0 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_448_r0 : BitVec 32 := 4#32
  let v465_r0 : BitVec 32 := Scalar.muli v11 c4_i32_448_r0
  let v466_r0 : BitVec 32 := Scalar.addi c0_i32_449_r0 v465_r0
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_450_r0 : BitVec 32 := 2#32
  let v467_r0 : BitVec 32 := Scalar.muli v5 c2_i32_450_r0
  let v468_r0 : BitVec 32 := Scalar.addi v466_r0 v467_r0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_451_r0 : BitVec 32 := 1#32
  let v469_r0 : BitVec 32 := Scalar.muli v8 c1_i32_451_r0
  let v470_r0 : BitVec 32 := Scalar.addi v468_r0 v469_r0
  v470_r0.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S16x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x32x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x1x16x128 : Shape := ⟨4, ![32, 1, 16, 128]⟩
abbrev S512x32x16x128 : Shape := ⟨4, ![512, 32, 16, 128]⟩
abbrev S32x256 : Shape := ⟨2, ![32, 256]⟩
abbrev S32 : Shape := ⟨1, ![32]⟩
abbrev S32x256x1 : Shape := ⟨3, ![32, 256, 1]⟩
abbrev S32x256x32x16x128 : Shape := ⟨5, ![32, 256, 32, 16, 128]⟩
abbrev S32x8192x16x128 : Shape := ⟨4, ![32, 8192, 16, 128]⟩
abbrev S256 : Shape := ⟨1, ![256]⟩
abbrev S1x256 : Shape := ⟨2, ![1, 256]⟩
abbrev S32x1 : Shape := ⟨2, ![32, 1]⟩
abbrev S_ : Shape := ⟨0, ![]⟩
abbrev S32x256x32 : Shape := ⟨3, ![32, 256, 32]⟩
abbrev S32x8192 : Shape := ⟨2, ![32, 8192]⟩
abbrev S32x16x1x8192 : Shape := ⟨4, ![32, 16, 1, 8192]⟩
abbrev S32x1x1x8192 : Shape := ⟨4, ![32, 1, 1, 8192]⟩
abbrev S32x16x1 : Shape := ⟨3, ![32, 16, 1]⟩
abbrev S32x16x1x1 : Shape := ⟨4, ![32, 16, 1, 1]⟩
abbrev S32x16x128x1 : Shape := ⟨4, ![32, 16, 128, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x1x16x128, .f32⟩
  | .hbm, ⟨1, _⟩ => ⟨S512x32x16x128, .f32⟩
  | .hbm, ⟨2, _⟩ => ⟨S512x32x16x128, .f32⟩
  | .hbm, ⟨3, _⟩ => ⟨S32x256, .i32⟩
  | .hbm, ⟨4, _⟩ => ⟨S32, .i32⟩
  | .hbm, ⟨5, _⟩ => ⟨S32x256x1, .i32⟩
  | .hbm, ⟨6, _⟩ => ⟨S32x256x32x16x128, .f32⟩
  | .hbm, ⟨7, _⟩ => ⟨S32x8192x16x128, .f32⟩
  | .hbm, ⟨8, _⟩ => ⟨S32x256x1, .i32⟩
  | .hbm, ⟨9, _⟩ => ⟨S32x256x32x16x128, .f32⟩
  | .hbm, ⟨10, _⟩ => ⟨S32x8192x16x128, .f32⟩
  | .hbm, ⟨11, _⟩ => ⟨S256, .i32⟩
  | .hbm, ⟨12, _⟩ => ⟨S1x256, .i32⟩
  | .hbm, ⟨13, _⟩ => ⟨S32x1, .i32⟩
  | .hbm, ⟨14, _⟩ => ⟨S32x256, .i32⟩
  | .hbm, ⟨15, _⟩ => ⟨S32x256, .i32⟩
  | .hbm, ⟨16, _⟩ => ⟨S32x256, .i1⟩
  | .hbm, ⟨17, _⟩ => ⟨S_, .i32⟩
  | .hbm, ⟨18, _⟩ => ⟨S32x256, .i32⟩
  | .hbm, ⟨19, _⟩ => ⟨S32x256, .i1⟩
  | .hbm, ⟨20, _⟩ => ⟨S32x256, .i1⟩
  | .hbm, ⟨21, _⟩ => ⟨S_, .i32⟩
  | .hbm, ⟨22, _⟩ => ⟨S32x256, .i32⟩
  | .hbm, ⟨23, _⟩ => ⟨S32x256, .i1⟩
  | .hbm, ⟨24, _⟩ => ⟨S32x256, .i1⟩
  | .hbm, ⟨25, _⟩ => ⟨S32x256x1, .i1⟩
  | .hbm, ⟨26, _⟩ => ⟨S32x256x32, .i1⟩
  | .hbm, ⟨27, _⟩ => ⟨S32x8192, .i1⟩
  | .hbm, ⟨28, _⟩ => ⟨S32x16x1x8192, .f32⟩
  | .hbm, ⟨29, _⟩ => ⟨S_, .f32⟩
  | .hbm, ⟨30, _⟩ => ⟨S32x16x1x8192, .f32⟩
  | .hbm, ⟨31, _⟩ => ⟨S32x16x1x8192, .f32⟩
  | .hbm, ⟨32, _⟩ => ⟨S32x1x1x8192, .i1⟩
  | .hbm, ⟨33, _⟩ => ⟨S_, .f32⟩
  | .hbm, ⟨34, _⟩ => ⟨S_, .f32⟩
  | .hbm, ⟨35, _⟩ => ⟨S32x16x1x8192, .i1⟩
  | .hbm, ⟨36, _⟩ => ⟨S32x16x1x8192, .f32⟩
  | .hbm, ⟨37, _⟩ => ⟨S32x16x1x8192, .f32⟩
  | .hbm, ⟨38, _⟩ => ⟨S_, .f32⟩
  | .hbm, ⟨39, _⟩ => ⟨S32x16x1, .f32⟩
  | .hbm, ⟨40, _⟩ => ⟨S32x16x1x1, .f32⟩
  | .hbm, ⟨41, _⟩ => ⟨S32x16x1x8192, .f32⟩
  | .hbm, ⟨42, _⟩ => ⟨S32x16x1x8192, .f32⟩
  | .hbm, ⟨43, _⟩ => ⟨S32x16x1x8192, .f32⟩
  | .hbm, ⟨44, _⟩ => ⟨S_, .f32⟩
  | .hbm, ⟨45, _⟩ => ⟨S32x16x1, .f32⟩
  | .hbm, ⟨46, _⟩ => ⟨S32x16x1x1, .f32⟩
  | .hbm, ⟨47, _⟩ => ⟨S32x16x1x8192, .f32⟩
  | .hbm, ⟨48, _⟩ => ⟨S32x16x1x8192, .f32⟩
  | .hbm, ⟨49, _⟩ => ⟨S32x16x128x1, .f32⟩
  | .hbm, ⟨50, _⟩ => ⟨S32x1x16x128, .f32⟩
  | _, _ => ⟨S32x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Proof.State.lean ====
/-
  The kernel's running state as pure values: the running maximum and sum of the weights (`m`, `l`) and the weighted sum of
  the values (`acc`); how the two statistics lie in one buffer (`pack`), how four states lie in the slot buffers (`pk4`,
  `pkst`), what a load reads there and what a store leaves, and what a copy of one slot to another buffer's slot writes.
-/
module

public import proofs.«01_k».proof.Proof.Gen.KernelIdeal.Skeleton
public import proofs.«01_k».proof.Proof.Gen.KernelIdeal.Launch
public import Idealize.ShloMosaic.Lib.PointwiseCore

@[expose] public section

noncomputable section

namespace Cert.Proof.KV

open Idealize.ShloMosaic Cert.KernelIdeal Cert.KernelIdeal.Gen

variable {F : FTy → Type} [FloatOps F]

/-- A running state of the attention: per head and query row, maximum, sum of weights, weighted sum of values. -/
@[ext] structure St (F : FTy → Type) where
  m : FVec F S16x32 .f32
  l : FVec F S16x32 .f32
  acc : FVec F S16x32x128 .f32

/-- The two statistics in the buffer of the statistics: plane 0 the maximum, plane 1 the sum. -/
def pack (m l : FVec F S16x32 .f32) : Vec F S2x16x32 .f32 := fun i =>
  if (i 0).val = 0 then m (ix2 (i 1) (i 2)) else l (ix2 (i 1) (i 2))

/-- Every contents of the statistics buffer is a pair of planes. -/
theorem pack_eta (f : Vec F S2x16x32 .f32) :
    f = pack (fun j => f (ix3 0 (j 0) (j 1))) (fun j => f (ix3 1 (j 0) (j 1))) := by
  funext i
  idx_vars i
  unfold pack
  fin_cases i0 <;> rfl

/-- Four accumulators in the slots of an exchange buffer. -/
def pk4 (g : Fin 4 → FVec F S16x32x128 .bf16) : Vec F S4x16x32x128 .bf16 := fun i => g (i 0) (ix3 (i 1) (i 2) (i 3))

/-- Four pairs of statistics in the slots of an exchange buffer. -/
def pkst (g : Fin 4 → Vec F S2x16x32 .f32) : Vec F S4x2x16x32 .f32 := fun i => g (i 0) (ix3 (i 1) (i 2) (i 3))

/-- The elements of slot `s` of an exchange buffer. -/
def slA (s : Fin 4) : Finset S4x16x32x128.Idx := Finset.univ.filter fun i => (i 0).val = s.val
def slS (s : Fin 4) : Finset S4x2x16x32.Idx := Finset.univ.filter fun i => (i 0).val = s.val

theorem mem_slA {s : Fin 4} {i : S4x16x32x128.Idx} : i ∈ slA s ↔ (i 0).val = s.val := by simp [slA]
theorem mem_slS {s : Fin 4} {i : S4x2x16x32.Idx} : i ∈ slS s ↔ (i 0).val = s.val := by simp [slS]

abbrev stM : Memref sig .tc .vmem S2x16x32 .f32 := Memref.whole cc0_scratch1

theorem idx_stat (n : Nat) (hn : n < 2) (inb) (x : S1x16x32.Idx) :
    (Rect.unit (s := S2x16x32) ![n, 0, 0] S1x16x32.size inb).idx x = (ix3 ⟨n, hn⟩ (x 1) (x 2) : S2x16x32.Idx) := by
  funext a
  apply Fin.ext
  have h0 : (x 0).val = 0 := Nat.lt_one_iff.mp (x 0).isLt
  match a with
  | ⟨0, _⟩ => show n + 1 * (x 0).val = n; omega
  | ⟨1, _⟩ => show 0 + 1 * (x 1).val = (x 1).val; omega
  | ⟨2, _⟩ => show 0 + 1 * (x 2).val = (x 2).val; omega

theorem idx_acc (n : Nat) (hn : n < 4) (inb) (x : S1x16x32x128.Idx) :
    (Rect.unit (s := S4x16x32x128) ![n, 0, 0, 0] S1x16x32x128.size inb).idx x
      = (ix4 ⟨n, hn⟩ (x 1) (x 2) (x 3) : S4x16x32x128.Idx) := by
  funext a
  apply Fin.ext
  have h0 : (x 0).val = 0 := Nat.lt_one_iff.mp (x 0).isLt
  match a with
  | ⟨0, _⟩ => show n + 1 * (x 0).val = n; omega
  | ⟨1, _⟩ => show 0 + 1 * (x 1).val = (x 1).val; omega
  | ⟨2, _⟩ => show 0 + 1 * (x 2).val = (x 2).val; omega
  | ⟨3, _⟩ => show 0 + 1 * (x 3).val = (x 3).val; omega

theorem idx_sst (n : Nat) (hn : n < 4) (inb) (x : S1x2x16x32.Idx) :
    (Rect.unit (s := S4x2x16x32) ![n, 0, 0, 0] S1x2x16x32.size inb).idx x
      = (ix4 ⟨n, hn⟩ (x 1) (x 2) (x 3) : S4x2x16x32.Idx) := by
  funext a
  apply Fin.ext
  have h0 : (x 0).val = 0 := Nat.lt_one_iff.mp (x 0).isLt
  match a with
  | ⟨0, _⟩ => show n + 1 * (x 0).val = n; omega
  | ⟨1, _⟩ => show 0 + 1 * (x 1).val = (x 1).val; omega
  | ⟨2, _⟩ => show 0 + 1 * (x 2).val = (x 2).val; omega
  | ⟨3, _⟩ => show 0 + 1 * (x 3).val = (x 3).val; omega

theorem idx_sst1 (n k : Nat) (hn : n < 4) (hk : k < 2) (inb) (x : S1x1x16x32.Idx) :
    (Rect.unit (s := S4x2x16x32) ![n, k, 0, 0] S1x1x16x32.size inb).idx x
      = (ix4 ⟨n, hn⟩ ⟨k, hk⟩ (x 2) (x 3) : S4x2x16x32.Idx) := by
  funext a
  apply Fin.ext
  have h0 : (x 0).val = 0 := Nat.lt_one_iff.mp (x 0).isLt
  have h1 : (x 1).val = 0 := Nat.lt_one_iff.mp (x 1).isLt
  match a with
  | ⟨0, _⟩ => show n + 1 * (x 0).val = n; omega
  | ⟨1, _⟩ => show k + 1 * (x 1).val = k; omega
  | ⟨2, _⟩ => show 0 + 1 * (x 2).val = (x 2).val; omega
  | ⟨3, _⟩ => show 0 + 1 * (x 3).val = (x 3).val; omega

/-! ### The statistics buffer -/

theorem rd0 (m l : FVec F S16x32 .f32) (inb) :
    (stM.access (Rect.unit (s := S2x16x32) ![0, 0, 0] S1x16x32.size inb)).read (Elt F) (pack m l)
      = shapeCast S1x16x32 m shapeCasts_S16x32_S1x16x32 := by
  funext x
  show pack m l ((Rect.unit (s := S2x16x32) ![0, 0, 0] S1x16x32.size inb).idx x) = _
  rw [idx_stat 0 (by decide)]
  change S1x16x32.Idx at x
  idx_vars x
  pointwise [pack]

theorem rd1 (m l : FVec F S16x32 .f32) (inb) :
    (stM.access (Rect.unit (s := S2x16x32) ![1, 0, 0] S1x16x32.size inb)).read (Elt F) (pack m l)
      = shapeCast S1x16x32 l shapeCasts_S16x32_S1x16x32 := by
  funext x
  show pack m l ((Rect.unit (s := S2x16x32) ![1, 0, 0] S1x16x32.size inb).idx x) = _
  rw [idx_stat 1 (by decide)]
  change S1x16x32.Idx at x
  idx_vars x
  pointwise [pack]

/-- Storing a plane over plane 0. -/
theorem wr0 (m l w : FVec F S16x32 .f32) (inb) :
    (stM.access (Rect.unit (s := S2x16x32) ![0, 0, 0] S1x16x32.size inb)).write (Elt F) (pack m l)
      (shapeCast S1x16x32 w shapeCasts_S16x32_S1x16x32) Finset.univ = pack w l := by
  funext i
  change S2x16x32.Idx at i
  by_cases h : (i 0).val = 0
  · have hi : i = (stM.access (Rect.unit (s := S2x16x32) ![0, 0, 0] S1x16x32.size inb)).emb (ix3 0 (i 1) (i 2) : S1x16x32.Idx) := by
      refine Eq.trans ?_ (idx_stat 0 (by decide) inb _).symm
      funext a; apply Fin.ext
      match a with
      | ⟨0, _⟩ => exact h
      | ⟨1, _⟩ => rfl
      | ⟨2, _⟩ => rfl
    conv_lhs => rw [hi]
    rw [View.write_emb_of_mem _ _ (Finset.mem_univ _)]
    show shapeCast S1x16x32 w _ _ = _
    unfold pack; rw [if_pos h]; pointwise
  · rw [View.write_of_not_mem]
    · unfold pack; rw [if_neg h, if_neg h]
    · intro hm
      obtain ⟨x, -, rfl⟩ := Finset.mem_map.mp hm
      exact h (congrArg (fun j : S2x16x32.Idx => (j 0).val) (idx_stat 0 (by decide) inb x))

/-- Storing a plane over plane 1. -/
theorem wr1 (m l w : FVec F S16x32 .f32) (inb) :
    (stM.access (Rect.unit (s := S2x16x32) ![1, 0, 0] S1x16x32.size inb)).write (Elt F) (pack m l)
      (shapeCast S1x16x32 w shapeCasts_S16x32_S1x16x32) Finset.univ = pack m w := by
  funext i
  change S2x16x32.Idx at i
  by_cases h : (i 0).val = 0
  · rw [View.write_of_not_mem]
    · unfold pack; rw [if_pos h, if_pos h]
    · intro hm
      obtain ⟨x, -, rfl⟩ := Finset.mem_map.mp hm
      have := (congrArg (fun j : S2x16x32.Idx => (j 0).val) (idx_stat 1 (by decide) inb x)).symm.trans h
      exact absurd this (show ¬ (1 : ℕ) = 0 from Nat.one_ne_zero)
  · have hi : i = (stM.access (Rect.unit (s := S2x16x32) ![1, 0, 0] S1x16x32.size inb)).emb (ix3 0 (i 1) (i 2) : S1x16x32.Idx) := by
      refine Eq.trans ?_ (idx_stat 1 (by decide) inb _).symm
      funext a; apply Fin.ext
      match a with
      | ⟨0, _⟩ => have := (i 0).isLt; show (i 0).val = 1; change (i 0).val < 2 at this; omega
      | ⟨1, _⟩ => rfl
      | ⟨2, _⟩ => rfl
    conv_lhs => rw [hi]
    rw [View.write_emb_of_mem _ _ (Finset.mem_univ _)]
    show shapeCast S1x16x32 w _ _ = _
    unfold pack; rw [if_neg h]; pointwise

/-! ### The exchange buffers, at any of the references `b` -/

abbrev saccM : Memref sig .tc .vmem S4x16x32x128 .bf16 := Memref.whole cc0_scratch2
abbrev sstM : Memref sig .tc .vmem S4x2x16x32 .f32 := Memref.whole cc0_scratch3
abbrev raccM : Memref sig .tc .vmem S4x16x32x128 .bf16 := Memref.whole cc0_scratch4
abbrev rstM : Memref sig .tc .vmem S4x2x16x32 .f32 := Memref.whole cc0_scratch5

/-- A load of slot `n` reads the accumulator kept there. -/
theorem rdA (g : Fin 4 → FVec F S16x32x128 .bf16) (n : Nat) (hn : n < 4) (inb) :
    (saccM.access (Rect.unit (s := S4x16x32x128) ![n, 0, 0, 0] S1x16x32x128.size inb)).read (Elt F) (pk4 g)
      = shapeCast S1x16x32x128 (g ⟨n, hn⟩) shapeCasts_S16x32x128_S1x16x32x128 := by
  funext x
  show pk4 g ((Rect.unit (s := S4x16x32x128) ![n, 0, 0, 0] S1x16x32x128.size inb).idx x) = _
  rw [idx_acc n hn]
  change S1x16x32x128.Idx at x
  idx_vars x
  pointwise [pk4]

theorem rdAr (g : Fin 4 → FVec F S16x32x128 .bf16) (n : Nat) (hn : n < 4) (inb) :
    (raccM.access (Rect.unit (s := S4x16x32x128) ![n, 0, 0, 0] S1x16x32x128.size inb)).read (Elt F) (pk4 g)
      = shapeCast S1x16x32x128 (g ⟨n, hn⟩) shapeCasts_S16x32x128_S1x16x32x128 := rdA g n hn inb

/-- A plane of the statistics kept in a slot. -/
def plane (f : Vec F S2x16x32 .f32) (k : Fin 2) : FVec F S16x32 .f32 := fun j => f (ix3 k (j 0) (j 1))

theorem plane_pack_zero (m l : FVec F S16x32 .f32) : plane (pack m l) 0 = m := by
  funext j; idx_vars j; rfl

theorem plane_pack_one (m l : FVec F S16x32 .f32) : plane (pack m l) 1 = l := by
  funext j; idx_vars j; rfl

/-- A load of plane `k` of slot `n` reads the statistics kept there. -/
theorem rdS (g : Fin 4 → Vec F S2x16x32 .f32) (n k : Nat) (hn : n < 4) (hk : k < 2) (inb) :
    (sstM.access (Rect.unit (s := S4x2x16x32) ![n, k, 0, 0] S1x1x16x32.size inb)).read (Elt F) (pkst g)
      = shapeCast S1x1x16x32 (plane (g ⟨n, hn⟩) ⟨k, hk⟩) shapeCasts_S16x32_S1x1x16x32 := by
  funext x
  show pkst g ((Rect.unit (s := S4x2x16x32) ![n, k, 0, 0] S1x1x16x32.size inb).idx x) = _
  rw [idx_sst1 n k hn hk]
  change S1x1x16x32.Idx at x
  idx_vars x
  pointwise [pkst, plane]

theorem rdSr (g : Fin 4 → Vec F S2x16x32 .f32) (n k : Nat) (hn : n < 4) (hk : k < 2) (inb) :
    (rstM.access (Rect.unit (s := S4x2x16x32) ![n, k, 0, 0] S1x1x16x32.size inb)).read (Elt F) (pkst g)
      = shapeCast S1x1x16x32 (plane (g ⟨n, hn⟩) ⟨k, hk⟩) shapeCasts_S16x32_S1x1x16x32 := rdS g n k hn hk inb

/-- The elements a slot's rectangle names. -/
theorem setA (n : Nat) (hn : n < 4) (inb) :
    (saccM.access (Rect.unit (s := S4x16x32x128) ![n, 0, 0, 0] S1x16x32x128.size inb)).set = slA ⟨n, hn⟩ := by
  apply Finset.ext
  intro i
  change S4x16x32x128.Idx at i
  rw [mem_slA]
  constructor
  · intro h
    obtain ⟨x, -, rfl⟩ := Finset.mem_map.mp h
    exact congrArg (fun j : S4x16x32x128.Idx => (j 0).val) (idx_acc n hn inb x)
  · intro h
    refine Finset.mem_map.mpr ⟨(ix4 0 (i 1) (i 2) (i 3) : S1x16x32x128.Idx), Finset.mem_univ _, ?_⟩
    refine (idx_acc n hn inb _).trans ?_
    funext a; apply Fin.ext
    match a with
    | ⟨0, _⟩ => exact h.symm
    | ⟨1, _⟩ => rfl
    | ⟨2, _⟩ => rfl
    | ⟨3, _⟩ => rfl

theorem setAr (n : Nat) (hn : n < 4) (inb) :
    (raccM.access (Rect.unit (s := S4x16x32x128) ![n, 0, 0, 0] S1x16x32x128.size inb)).set = slA ⟨n, hn⟩ := setA n hn inb

theorem setS (n : Nat) (hn : n < 4) (inb) :
    (sstM.access (Rect.unit (s := S4x2x16x32) ![n, 0, 0, 0] S1x2x16x32.size inb)).set = slS ⟨n, hn⟩ := by
  apply Finset.ext
  intro i
  change S4x2x16x32.Idx at i
  rw [mem_slS]
  constructor
  · intro h
    obtain ⟨x, -, rfl⟩ := Finset.mem_map.mp h
    exact congrArg (fun j : S4x2x16x32.Idx => (j 0).val) (idx_sst n hn inb x)
  · intro h
    refine Finset.mem_map.mpr ⟨(ix4 0 (i 1) (i 2) (i 3) : S1x2x16x32.Idx), Finset.mem_univ _, ?_⟩
    refine (idx_sst n hn inb _).trans ?_
    funext a; apply Fin.ext
    match a with
    | ⟨0, _⟩ => exact h.symm
    | ⟨1, _⟩ => rfl
    | ⟨2, _⟩ => rfl
    | ⟨3, _⟩ => rfl

theorem setSr (n : Nat) (hn : n < 4) (inb) :
    (rstM.access (Rect.unit (s := S4x2x16x32) ![n, 0, 0, 0] S1x2x16x32.size inb)).set = slS ⟨n, hn⟩ := setS n hn inb

theorem setS1 (n k : Nat) (hn : n < 4) (hk : k < 2) (inb) :
    (sstM.access (Rect.unit (s := S4x2x16x32) ![n, k, 0, 0] S1x1x16x32.size inb)).set ⊆ slS ⟨n, hn⟩ := by
  intro i h
  change S4x2x16x32.Idx at i
  rw [mem_slS]
  obtain ⟨x, -, rfl⟩ := Finset.mem_map.mp h
  exact congrArg (fun j : S4x2x16x32.Idx => (j 0).val) (idx_sst1 n k hn hk inb x)

theorem setS1r (n k : Nat) (hn : n < 4) (hk : k < 2) (inb) :
    (rstM.access (Rect.unit (s := S4x2x16x32) ![n, k, 0, 0] S1x1x16x32.size inb)).set ⊆ slS ⟨n, hn⟩ := setS1 n k hn hk inb

/-- A store of slot `n`, seen on the slot. -/
theorem wrA (g : Fin 4 → FVec F S16x32x128 .bf16) (n : Nat) (hn : n < 4) (inb) (f : Vec F S4x16x32x128 .bf16)
    (w : FVec F S16x32x128 .bf16) (hw : w = g ⟨n, hn⟩) :
    ∀ i ∈ slA ⟨n, hn⟩, (saccM.access (Rect.unit (s := S4x16x32x128) ![n, 0, 0, 0] S1x16x32x128.size inb)).write (Elt F) f
      (shapeCast S1x16x32x128 w shapeCasts_S16x32x128_S1x16x32x128) Finset.univ i = pk4 g i := by
  intro i h
  rw [← setA n hn inb] at h
  obtain ⟨x, -, rfl⟩ := Finset.mem_map.mp h
  rw [View.write_emb_of_mem _ _ (Finset.mem_univ _)]
  have := congrFun (rdA g n hn inb) x
  rw [hw]
  exact this.symm

/-- A store of a slot's two planes at once, seen on the slot. -/
theorem wrS (g : Fin 4 → Vec F S2x16x32 .f32) (n : Nat) (hn : n < 4) (inb) (f : Vec F S4x2x16x32 .f32)
    (w : Vec F S2x16x32 .f32) (hw : w = g ⟨n, hn⟩) :
    ∀ i ∈ slS ⟨n, hn⟩, (sstM.access (Rect.unit (s := S4x2x16x32) ![n, 0, 0, 0] S1x2x16x32.size inb)).write (Elt F) f
      (shapeCast S1x2x16x32 w shapeCasts_S2x16x32_S1x2x16x32) Finset.univ i = pkst g i := by
  intro i h
  rw [← setS n hn inb] at h
  obtain ⟨x, -, rfl⟩ := Finset.mem_map.mp h
  rw [View.write_emb_of_mem _ _ (Finset.mem_univ _)]
  show shapeCast S1x2x16x32 w _ x = pkst g ((Rect.unit (s := S4x2x16x32) ![n, 0, 0, 0] S1x2x16x32.size inb).idx x)
  rw [idx_sst n hn, hw]
  change S1x2x16x32.Idx at x
  idx_vars x
  pointwise [pkst]

/-- A store of a slot's planes one after the other, seen on the slot. -/
theorem wrS1 (g : Fin 4 → Vec F S2x16x32 .f32) (n : Nat) (hn : n < 4) (inb inb') (f : Vec F S4x2x16x32 .f32)
    (m l : FVec F S16x32 .f32) (hw : pack m l = g ⟨n, hn⟩) :
    ∀ i ∈ slS ⟨n, hn⟩, (sstM.access (Rect.unit (s := S4x2x16x32) ![n, 1, 0, 0] S1x1x16x32.size inb')).write (Elt F)
      ((sstM.access (Rect.unit (s := S4x2x16x32) ![n, 0, 0, 0] S1x1x16x32.size inb)).write (Elt F) f
        (shapeCast S1x1x16x32 m shapeCasts_S16x32_S1x1x16x32) Finset.univ)
      (shapeCast S1x1x16x32 l shapeCasts_S16x32_S1x1x16x32) Finset.univ i = pkst g i := by
  intro i h
  change S4x2x16x32.Idx at i
  rw [mem_slS] at h
  have h4 : (⟨n, hn⟩ : Fin 4) = i 0 := Fin.ext h.symm
  have hr : pkst g i = if (i 1).val = 0 then m (ix2 (i 2) (i 3)) else l (ix2 (i 2) (i 3)) := by
    unfold pkst; rw [← h4, ← hw]; rfl
  rw [hr]
  have key : ∀ (k : Nat) (hk : k < 2) (inb), (i 1).val = k →
      i = (sstM.access (Rect.unit (s := S4x2x16x32) ![n, k, 0, 0] S1x1x16x32.size inb)).emb (ix4 0 0 (i 2) (i 3) : S1x1x16x32.Idx) := by
    intro k hk inb h1
    refine Eq.trans ?_ (idx_sst1 n k hn hk inb _).symm
    funext a; apply Fin.ext
    match a with
    | ⟨0, _⟩ => exact h
    | ⟨1, _⟩ => exact h1
    | ⟨2, _⟩ => rfl
    | ⟨3, _⟩ => rfl
  by_cases h1 : (i 1).val = 0
  · rw [if_pos h1, View.write_of_not_mem]
    · conv_lhs => rw [key 0 (by decide) inb h1]
      rw [View.write_emb_of_mem _ _ (Finset.mem_univ _)]
      show shapeCast S1x1x16x32 m _ _ = _
      pointwise
    · intro hm
      obtain ⟨x, -, rfl⟩ := Finset.mem_map.mp hm
      have := (congrArg (fun j : S4x2x16x32.Idx => (j 1).val) (idx_sst1 n 1 hn (by decide) inb' x)).symm.trans h1
      exact absurd this (show ¬ (1 : ℕ) = 0 from Nat.one_ne_zero)
  · have h2 : (i 1).val = 1 := by have := (i 1).isLt; change (i 1).val < 2 at this; omega
    rw [if_neg h1]
    conv_lhs => rw [key 1 (by decide) inb' h2]
    rw [View.write_emb_of_mem _ _ (Finset.mem_univ _)]
    show shapeCast S1x1x16x32 l _ _ = _
    pointwise

/-! ### Copies of a slot -/

/-- Slot `n` of a buffer of accumulators, as the copies name it. -/
abbrev sqA (M : Memref sig .tc .vmem S4x16x32x128 .bf16) (n : Nat)
    (inb : ∀ a, (![n, 0, 0, 0] : Fin 4 → Nat) a + S1x16x32x128.size a ≤ S4x16x32x128.size a) : Memref sig .tc .vmem S16x32x128 .bf16 :=
  (M.slice (Rect.unit (s := S4x16x32x128) ![n, 0, 0, 0] S1x16x32x128.size inb) (fun _ => rfl)).squeeze S16x32x128 squeezes_S1x16x32x128_S16x32x128
abbrev sqS (M : Memref sig .tc .vmem S4x2x16x32 .f32) (n : Nat)
    (inb : ∀ a, (![n, 0, 0, 0] : Fin 4 → Nat) a + S1x2x16x32.size a ≤ S4x2x16x32.size a) : Memref sig .tc .vmem S2x16x32 .f32 :=
  (M.slice (Rect.unit (s := S4x2x16x32) ![n, 0, 0, 0] S1x2x16x32.size inb) (fun _ => rfl)).squeeze S2x16x32 squeezes_S1x2x16x32_S2x16x32

theorem sqA_set (n : Nat) (hn : n < 4) (inb) : (sqA saccM n inb).view.set = slA ⟨n, hn⟩ :=
  (View.set_reshape _ _).trans (setA n hn inb)
theorem sqAr_set (n : Nat) (hn : n < 4) (inb) : (sqA raccM n inb).view.set = slA ⟨n, hn⟩ :=
  (View.set_reshape _ _).trans (setA n hn inb)
theorem sqS_set (n : Nat) (hn : n < 4) (inb) : (sqS sstM n inb).view.set = slS ⟨n, hn⟩ :=
  (View.set_reshape _ _).trans (setS n hn inb)
theorem sqSr_set (n : Nat) (hn : n < 4) (inb) : (sqS rstM n inb).view.set = slS ⟨n, hn⟩ :=
  (View.set_reshape _ _).trans (setS n hn inb)

/-- A copy of slot `n` of the accumulators into slot `n` of another buffer writes what the slot holds. -/
theorem cpA (f fd : Vec F S4x16x32x128 .bf16) (n : Nat) (hn : n < 4) (inb) :
    ∀ i ∈ slA ⟨n, hn⟩, (sqA raccM n inb).view.write (Elt F) fd ((sqA saccM n inb).view.read (Elt F) f) Finset.univ i = f i := by
  intro i h
  rw [← sqAr_set n hn inb] at h
  obtain ⟨x, -, rfl⟩ := Finset.mem_map.mp h
  rw [View.write_emb_of_mem _ _ (Finset.mem_univ _)]
  rfl

theorem cpS (f fd : Vec F S4x2x16x32 .f32) (n : Nat) (hn : n < 4) (inb) :
    ∀ i ∈ slS ⟨n, hn⟩, (sqS rstM n inb).view.write (Elt F) fd ((sqS sstM n inb).view.read (Elt F) f) Finset.univ i = f i := by
  intro i h
  rw [← sqSr_set n hn inb] at h
  obtain ⟨x, -, rfl⟩ := Finset.mem_map.mp h
  rw [View.write_emb_of_mem _ _ (Finset.mem_univ _)]
  rfl

end Cert.Proof.KV
-- ==== Proof.Proto.lean ====
/-
  The protocol of the exchange between the devices: the semaphores' cells, which device pays which duty with what, what a
  device owes at its start and in which order it pays, and the levels that order the waits.
-/
module

public import proofs.«01_k».proof.Proof.State
public import Idealize.ShloMosaic.Lib.Pipeline.Regions
public import Idealize.ShloMosaic.Lib.Pipeline.Kit
public import Idealize.ShloMosaic.Lib.Pipeline.TalkSites
public import Idealize.ShloMosaic.Lib.Pipeline.RegionTalk
public import Idealize.ShloMosaic.Lib.Rounds
public import Idealize.ShloMosaic.Lib.Rounds.Family
public import Idealize.ShloMosaic.Lib.StableHlo
public import Idealize.ShloMosaic.Lib.Tactic

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

/-- The resource algebra of the proof's own ghost state: the pipeline's staging rounds and the exchange's rounds. -/
abbrev UU : Type := UR sig nD τ × URounds (GSem nD τ sig) (Fin 3)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 3)) (MT nD τ sig ℕ (Elt F) ℕ UU ℕ) := embR

/-! ### Neighbours -/

/-- The neighbour of a device along mesh axis `z` (0), `y` (1), `x` (2). -/
def nb (a : Fin 3) (c : Dev nD) : Dev nD :=
  (![![1, 0, 3, 2, 5, 4, 7, 6], ![2, 3, 0, 1, 6, 7, 4, 5], ![4, 5, 6, 7, 0, 1, 2, 3]] : Fin 3 → Fin 8 → Fin 8) a c

theorem nb_nb (a : Fin 3) (c : Dev nD) : nb a (nb a c) = c := by revert a c; decide

/-- A device and its neighbour along an axis change places. -/
def flip (a : Fin 3) : Dev nD ≃ Dev nD := ⟨nb a, nb a, nb_nb a, nb_nb a⟩

/-- The axis along which slot `s` is exchanged. -/
def ax : Fin 4 → Fin 3 := ![0, 0, 1, 2]

/-! ### Cells -/

/-- The kernel's own semaphores: the one at its end, and four of each kind for the copies: send and receive semaphores of
    the accumulators (`as`, `ar`) and of the statistics (`ss`, `sr`). -/
inductive Ks where
  | ex | as (s : Fin 4) | ar (s : Fin 4) | ss (s : Fin 4) | sr (s : Fin 4)
  deriving DecidableEq

/-- The kernel's own semaphores in a list. -/
def ksList : List Ks :=
  [.as 0, .ar 0, .ss 0, .sr 0, .as 1, .ar 1, .ss 1, .sr 1, .as 2, .ar 2, .ss 2, .sr 2, .as 3, .ar 3, .ss 3, .sr 3, .ex]

theorem ksList_nodup : ksList.Nodup := by decide

instance : Fintype Ks := ⟨⟨↑ksList, ksList_nodup⟩, by
  rintro (_ | s | s | s | s) <;> first | decide | (fin_cases s <;> decide)⟩

/-- All semaphores of the exchange: the barrier semaphore and the kernel's own. -/
inductive Kd where
  | bar | own (k : Ks)
  deriving DecidableEq

abbrev asS (s : Fin 4) : DmaSem sig := ⟨8 + s.val, by have := s.isLt; show _ < 24; omega⟩
abbrev arS (s : Fin 4) : DmaSem sig := ⟨12 + s.val, by have := s.isLt; show _ < 24; omega⟩
abbrev ssS (s : Fin 4) : DmaSem sig := ⟨16 + s.val, by have := s.isLt; show _ < 24; omega⟩
abbrev srS (s : Fin 4) : DmaSem sig := ⟨20 + s.val, by have := s.isLt; show _ < 24; omega⟩
abbrev barS : Sem sig := ⟨0, by decide⟩
abbrev exS : Sem sig := ⟨1, by decide⟩

/-- The semaphore of a kind. -/
@[reducible] def osem : Ks → SemLoc sig
  | .ex => .reg exS
  | .as s => .dma (asS s)
  | .ar s => .dma (arS s)
  | .ss s => .dma (ssS s)
  | .sr s => .dma (srS s)

@[inherit_doc osem, reducible] def loc : Kd → SemLoc sig
  | .bar => .reg barS
  | .own k => osem k

theorem loc_inj : Function.Injective loc := by
  intro a b h
  rcases a with _ | (_ | s | s | s | s) <;> rcases b with _ | (_ | t | t | t | t) <;>
    simp only [loc, osem, SemLoc.reg.injEq, SemLoc.dma.injEq, Fin.mk.injEq, reduceCtorEq] at h ⊢ <;>
    first
    | exact absurd h (by decide)
    | (have := s.isLt; have := t.isLt
       first
       | (exfalso; omega)
       | (have h2 : s = t := Fin.ext (by omega); rw [h2]))

/-- The kind of a semaphore, if it is one of the exchange's. -/
def kind : SemLoc sig → Option Kd := Function.partialInv loc

theorem kind_loc (k : Kd) : kind (loc k) = some k := Function.partialInv_left loc_inj k

/-- Device `c`'s semaphore of kind `k`. -/
abbrev cell (c : Dev nD) (k : Kd) : GSem nD τ sig := ((c : Thread nD τ), loc k)

/-! ### Contents of the slots -/

/-- What the four slots of device `c` hold when they are sent, as states. -/
abbrev Slots (F : FTy → Type) := Dev nD → Fin 4 → St F

/-- The accumulators' buffer and the statistics' buffer at the states `SA`. -/
def SACC (g : Fin 4 → St F) : Vec F S4x16x32x128 .bf16 := pk4 fun s => truncf .bf16 (g s).acc bitsLt_bf16_f32
def SST (g : Fin 4 → St F) : Vec F S4x2x16x32 .f32 := pkst fun s => pack (g s).m (g s).l

abbrev lAcc (c : Dev nD) : Loc nD τ sig := (c : Thread nD τ).loc cc0_scratch0
abbrev lSt (c : Dev nD) : Loc nD τ sig := (c : Thread nD τ).loc cc0_scratch1
abbrev lSa (c : Dev nD) : Loc nD τ sig := (c : Thread nD τ).loc cc0_scratch2
abbrev lSs (c : Dev nD) : Loc nD τ sig := (c : Thread nD τ).loc cc0_scratch3
abbrev lRa (c : Dev nD) : Loc nD τ sig := (c : Thread nD τ).loc cc0_scratch4
abbrev lRs (c : Dev nD) : Loc nD τ sig := (c : Thread nD τ).loc cc0_scratch5

/-- Slot `s` of a device's four exchange buffers at contents `f`. -/
def pSa (c : Dev nD) (s : Fin 4) (f : Vec F S4x16x32x128 .bf16) : sProp 𝕄 := lSa c ↦[slA s]{fullShare} f
def pSs (c : Dev nD) (s : Fin 4) (f : Vec F S4x2x16x32 .f32) : sProp 𝕄 := lSs c ↦[slS s]{fullShare} f
def pRa (c : Dev nD) (s : Fin 4) (f : Vec F S4x16x32x128 .bf16) : sProp 𝕄 := lRa c ↦[slA s]{fullShare} f
def pRs (c : Dev nD) (s : Fin 4) (f : Vec F S4x2x16x32 .f32) : sProp 𝕄 := lRs c ↦[slS s]{fullShare} f

/-- A receive slot of device `p` at unknown contents, with the facts that its receive semaphores are in their first round. -/
def slotGift (p : Dev nD) (s : Fin 4) : sProp 𝕄 :=
  iprop((∃ f, pRa (F := F) p s f) ∗ (∃ f, pRs (F := F) p s f)
    ∗ reached ER (cell p (.own (.ar s))) 0 ∗ reached ER (cell p (.own (.sr s))) 0)

/-- What the neighbour `p` along axis `a` hands over with its barrier signal: its receive slots of that axis, and the fact
    that its semaphore at the end is in its first round. -/
def barGift (a : Fin 3) (p : Dev nD) : sProp 𝕄 :=
  match a with
  | 0 => iprop(slotGift (F := F) p 0 ∗ slotGift (F := F) p 1 ∗ reached ER (cell p (.own .ex)) 0)
  | 1 => iprop(slotGift (F := F) p 2 ∗ reached ER (cell p (.own .ex)) 0)
  | 2 => iprop(slotGift (F := F) p 3 ∗ reached ER (cell p (.own .ex)) 0)

/-! ### The schedule -/

theorem inbA0 : ∀ a, (![0, 0, 0, 0] : Fin 4 → Nat) a + S1x16x32x128.size a ≤ S4x16x32x128.size a := by decide
theorem inbS0 : ∀ a, (![0, 0, 0, 0] : Fin 4 → Nat) a + S1x2x16x32.size a ≤ S4x2x16x32.size a := by decide

/-- The units a copy of an accumulator, or of the statistics, counts. -/
abbrev NA : ℕ := (sqA raccM 0 inbA0).view.dmaCredit
abbrev NS : ℕ := (sqS rstM 0 inbS0).view.dmaCredit
theorem NA_pos : 0 < NA := View.dmaCredit_pos _ (by decide)
theorem NS_pos : 0 < NS := View.dmaCredit_pos _ (by decide)

/-- The units of one duty of a kind. -/
def amt : Kd → ℕ
  | .bar => 1
  | .own .ex => 1
  | .own (.as _) => NA
  | .own (.ar _) => NA
  | .own (.ss _) => NS
  | .own (.sr _) => NS

theorem amt_pos (k : Kd) : 0 < amt k := by
  rcases k with _ | (_ | s | s | s | s) <;> first | exact Nat.one_pos | exact NA_pos | exact NS_pos

/-- The duties of a kind's one round: the barrier and the semaphore at the end have one per neighbour. -/
def dut : Kd → Finset (Fin 3)
  | .bar => Finset.univ
  | .own .ex => Finset.univ
  | .own _ => {0}

/-- What duty `a` of device `c`'s semaphore of a kind hands over. -/
def pay (SA : Slots F) (c : Dev nD) : Kd → Fin 3 → sProp 𝕄
  | .bar, a => barGift (F := F) a (nb a c)
  | .own .ex, _ => iprop(emp)
  | .own (.as s), _ => pSa c s (SACC (SA c))
  | .own (.ar s), _ => pRa c s (SACC (SA (nb (ax s) c)))
  | .own (.ss s), _ => pSs c s (SST (SA c))
  | .own (.sr s), _ => pRs c s (SST (SA (nb (ax s) c)))

instance slotGift_storable (p : Dev nD) (s : Fin 4) : BI.Storable (upEmb : UEmb _ 𝕄) (slotGift (F := F) p s) := by
  unfold slotGift pRa pRs; infer_instance

instance pay_storable (SA : Slots F) (c : Dev nD) (k : Kd) (a : Fin 3) : BI.Storable (upEmb : UEmb _ 𝕄) (pay SA c k a) := by
  rcases k with _ | (_ | s | s | s | s)
  · fin_cases a <;> (dsimp only [pay, barGift]; infer_instance)
  all_goals (dsimp only [pay]; first | infer_instance | (unfold pSa; infer_instance) | (unfold pRa; infer_instance) | (unfold pSs; infer_instance) | (unfold pRs; infer_instance))

/-- The schedule: every semaphore of the exchange has one round. -/
def Rd (SA : Slots F) : Schedule (GSem nD τ sig) (Fin 3) 𝕄 where
  duties g r := if r = 0 ∧ g.1.2 = .tc then ((kind g.2).elim ∅ dut) else ∅
  unitless _ := False
  amount g _ _ := (kind g.2).elim 1 amt
  payload g _ a := (kind g.2).elim iprop(emp) fun k => pay SA g.1.1 k a
  amount_pos g _ _ _ := by
    cases h : kind g.2 with
    | none => exact Nat.one_pos
    | some k => exact amt_pos k

instance Rd_storable (SA : Slots F) (g : GSem nD τ sig) (r : ℕ) (d : Fin 3) :
    BI.Storable (upEmb : UEmb _ 𝕄) ((Rd (F := F) SA).payload g r d) := by
  show BI.Storable upEmb ((kind g.2).elim iprop(emp) fun k => pay SA g.1.1 k d)
  cases h : kind g.2 with
  | none => dsimp only [Option.elim]; infer_instance
  | some k => dsimp only [Option.elim]; infer_instance

section Sched

variable (SA : Slots F) (c : Dev nD) (k : Kd)

theorem duties_cell : (Rd (F := F) SA).duties (cell c k) 0 = dut k := by
  dsimp only [Rd]; rw [if_pos ⟨rfl, rfl⟩, kind_loc]; rfl
theorem duties_later (g : GSem nD τ sig) : ∀ r, 1 ≤ r → (Rd (F := F) SA).duties g r = ∅ := fun r hr => by
  dsimp only [Rd]; exact if_neg fun h => by omega
theorem amount_cell (a : Fin 3) : (Rd (F := F) SA).amount (cell c k) 0 a = amt k := by
  dsimp only [Rd]; rw [kind_loc]; rfl
theorem payload_cell (a : Fin 3) : (Rd (F := F) SA).payload (cell c k) 0 a = pay SA c k a := by
  dsimp only [Rd]; rw [kind_loc]; rfl
theorem expect_cell : (Rd (F := F) SA).expect (cell c k) 0 = (dut k).card * amt k := by
  unfold Schedule.expect Schedule.amountOf
  rw [duties_cell, Finset.sum_congr rfl fun a _ => amount_cell SA c k a, Finset.sum_const, smul_eq_mul]
theorem rest_cell : bigSep ((Rd (F := F) SA).duties (cell c k) 0 \ ∅) (fun a => (Rd (F := F) SA).payload (cell c k) 0 a)
    = bigSep (dut k) (pay SA c k) := by
  rw [Finset.sdiff_empty, duties_cell]
  exact bigSep_congr fun a _ => payload_cell SA c k a

end Sched

/-! ### Dues -/

/-- A device's payments to its neighbours, the last one first. -/
def due (c : Dev nD) : List (Pay nD τ sig) :=
  [(cell (nb 2 c) (.own .ex), 5, 1), (cell (nb 1 c) (.own .ex), 5, 1), (cell (nb 0 c) (.own .ex), 5, 1),
   (cell (nb 2 c) (.own (.sr 3)), 4, NS), (cell (nb 2 c) (.own (.ar 3)), 4, NA),
   (cell (nb 1 c) (.own (.sr 2)), 3, NS), (cell (nb 1 c) (.own (.ar 2)), 3, NA),
   (cell (nb 0 c) (.own (.sr 1)), 2, NS), (cell (nb 0 c) (.own (.ar 1)), 2, NA),
   (cell (nb 0 c) (.own (.sr 0)), 2, NS), (cell (nb 0 c) (.own (.ar 0)), 2, NA),
   (cell (nb 2 c) .bar, 1, 1), (cell (nb 1 c) .bar, 1, 1), (cell (nb 0 c) .bar, 1, 1)]

/-- What a device owes when its last `n` payments are still to be made. -/
def owe (c : Dev nD) (n : ℕ) : CellTallies nD τ sig ℕ := addL 0 ((due c).take n)

/-- The levels of the payments, the last one first. -/
def dueLev : List ℕ := [5, 5, 5, 4, 4, 3, 3, 2, 2, 2, 2, 1, 1, 1]

theorem due_lev (c : Dev nD) : ((due c).map fun x => x.2.1) = dueLev := rfl
theorem due_tc (c : Dev nD) : ∀ x ∈ due c, x.1.1.2 = Proc.tc := by
  intro x hx
  unfold due at hx
  simp only [List.mem_cons, List.not_mem_nil, or_false] at hx
  rcases hx with h | h | h | h | h | h | h | h | h | h | h | h | h | h <;> (subst h; rfl)

/-- A wait at a level below those of all payments still to be made. -/
theorem mayWait (c : Dev nD) (sm : SemLoc sig) (i n : ℕ) (hi : i < 6) (h : ∀ x ∈ dueLev.take n, i < x ∧ x < 6) :
    (levAts (L 6) lv : sProp 𝕄) ⊢ MayWait (c : Thread nD τ) sm i (owe c n) :=
  TalkSites.mayWait_addL (N := 6) (e := 6) hi le_rfl (O := fun _ => 0) (SiteBlocks.above_zero 6 6) c sm ((due c).take n) fun x hx => by
    have h1 : x.2.1 ∈ dueLev.take n := by
      rw [← due_lev c, ← List.map_take]; exact List.mem_map_of_mem hx
    exact ⟨due_tc c x (List.mem_of_mem_take hx), h _ h1⟩

end Cert.Proof.KV
-- ==== Proof.Steps.lean ====
/-
  The exchange's steps, one lemma each: a signal, a wait, a copy's start, and the loads and stores of the kernel's own buffers.
-/
module

public import proofs.«01_k».proof.Proof.Proto

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

abbrev 𝒱₀ : Variants := Variants.none

instance : Fintype Kd := ⟨insert .bar (Finset.univ.map ⟨Kd.own, fun _ _ h => Kd.own.inj h⟩), by
  rintro (_ | k)
  · exact Finset.mem_insert_self _ _
  · exact Finset.mem_insert_of_mem (Finset.mem_map.mpr ⟨k, Finset.mem_univ _, rfl⟩)⟩

/-! ### Who is meant by the addresses the program computes -/

theorem dev1_eq (c : Dev nD) (h) : (⟨k0_dev1 c, h⟩ : Dev nD) = nb 0 c := Fin.ext (by revert c; decide +kernel)
theorem dev2_eq (c : Dev nD) (h) : (⟨k0_dev2 c, h⟩ : Dev nD) = nb 1 c := Fin.ext (by revert c; decide +kernel)
theorem dev3_eq (c : Dev nD) (h) : (⟨k0_dev3 c, h⟩ : Dev nD) = nb 2 c := Fin.ext (by revert c; decide +kernel)
theorem dev4_eq (c : Dev nD) (h) : (⟨k0_dev4 c, h⟩ : Dev nD) = nb 0 c := Fin.ext (by revert c; decide +kernel)
theorem dev5_eq (c : Dev nD) (h) : (⟨k0_dev5 c, h⟩ : Dev nD) = nb 0 c := Fin.ext (by revert c; decide +kernel)
theorem dev6_eq (c : Dev nD) (h) : (⟨k0_dev6 c, h⟩ : Dev nD) = nb 0 c := Fin.ext (by revert c; decide +kernel)
theorem dev7_eq (c : Dev nD) (h) : (⟨k0_dev7 c, h⟩ : Dev nD) = nb 0 c := Fin.ext (by revert c; decide +kernel)
theorem dev8_eq (c : Dev nD) (h) : (⟨k0_dev8 c, h⟩ : Dev nD) = nb 1 c := Fin.ext (by revert c; decide +kernel)
theorem dev9_eq (c : Dev nD) (h) : (⟨k0_dev9 c, h⟩ : Dev nD) = nb 1 c := Fin.ext (by revert c; decide +kernel)
theorem dev10_eq (c : Dev nD) (h) : (⟨k0_dev10 c, h⟩ : Dev nD) = nb 2 c := Fin.ext (by revert c; decide +kernel)
theorem dev11_eq (c : Dev nD) (h) : (⟨k0_dev11 c, h⟩ : Dev nD) = nb 2 c := Fin.ext (by revert c; decide +kernel)
theorem dev12_eq (c : Dev nD) (h) : (⟨k0_dev12 c, h⟩ : Dev nD) = nb 0 c := Fin.ext (by revert c; decide +kernel)
theorem dev13_eq (c : Dev nD) (h) : (⟨k0_dev13 c, h⟩ : Dev nD) = nb 1 c := Fin.ext (by revert c; decide +kernel)
theorem dev14_eq (c : Dev nD) (h) : (⟨k0_dev14 c, h⟩ : Dev nD) = nb 2 c := Fin.ext (by revert c; decide +kernel)

/-! ### What every step may use -/

/-- The invariants of all semaphores of the exchange on all devices. -/
def records (κ : GSem nD τ sig → ℕ) (SA : Slots F) : sProp 𝕄 :=
  bigSep (Finset.univ : Finset (Dev nD × Kd)) fun x => cellInv ER (Rd SA) (κ (cell x.1 x.2)) (cell x.1 x.2)

/-- What every step may use: the invariants, the levels, and that the semaphores the device signals are in their first round. -/
def ctx (κ : GSem nD τ sig → ℕ) (SA : Slots F) (c : Dev nD) : sProp 𝕄 :=
  iprop(records κ SA ∗ levAts (L 6) lv
    ∗ (bigSep (Finset.univ : Finset (Dev nD)) fun d => reached ER (cell d .bar) 0)
    ∗ (bigSep (Finset.univ : Finset Ks) fun k => reached ER (cell c (.own k)) 0))

instance records_persistent (κ) (SA : Slots F) : BI.Persistent (records κ SA : sProp 𝕄) := by unfold records; infer_instance
instance ctx_persistent (κ) (SA : Slots F) (c : Dev nD) : BI.Persistent (ctx κ SA c : sProp 𝕄) := by unfold ctx; infer_instance

section Ctx

/-- An entailment as the proof mode reads it. -/
theorem ent {P Q : sProp 𝕄} (h : Idealize.SL.BI.Entails P Q) : P ⊢ Q := h

variable (κ : GSem nD τ sig → ℕ) (SA : Slots F) (c : Dev nD)

theorem ctx_inv (d : Dev nD) (k : Kd) : (ctx κ SA c : sProp 𝕄) ⊢ cellInv ER (Rd SA) (κ (cell d k)) (cell d k) := by
  unfold ctx records
  iintro ⟨H, -⟩
  iapply (ent (bigSep_elim (Φ := fun x : Dev nD × Kd => cellInv ER (Rd SA) (κ (cell x.1 x.2)) (cell x.1 x.2)) (Finset.mem_univ (d, k))))
  iexact H
theorem ctx_lev : (ctx κ SA c : sProp 𝕄) ⊢ levAts (L 6) lv := by
  unfold ctx
  iintro ⟨-, H, -⟩
  iexact H
theorem ctx_bar (d : Dev nD) : (ctx κ SA c : sProp 𝕄) ⊢ reached ER (cell d .bar) 0 := by
  unfold ctx
  iintro ⟨-, -, H, -⟩
  iapply (ent (bigSep_elim (Φ := fun d : Dev nD => reached ER (cell d .bar) 0) (Finset.mem_univ d)))
  iexact H
theorem ctx_own (k : Ks) : (ctx κ SA c : sProp 𝕄) ⊢ reached ER (cell c (.own k)) 0 := by
  unfold ctx
  iintro ⟨-, -, -, H⟩
  iapply (ent (bigSep_elim (Φ := fun k : Ks => reached ER (cell c (.own k)) 0) (Finset.mem_univ k)))
  iexact H

end Ctx

/-- A device that owes its last `n` payments. -/
def ow (c : Dev nD) (n : ℕ) : sProp 𝕄 := iprop(∃ W, owes (c : Thread nD τ) (owe c n) W)

/-! ### Signals and waits -/

section Steps

variable (κ : GSem nD τ sig → ℕ) (SA : Slots F) (c : Dev nD)

/-- A signal of a neighbour's semaphore: it pays the next of the device's dues. -/
theorem sigStep (k : Kd) (sm : Sem sig) (hk : loc k = .reg sm) (hamt : amt k = 1) (a : Fin 3) (ha : a ∈ dut k) (n i : ℕ)
    (d' : Dev nD) (hd : d' = nb a c) (hO : owe c (n + 1) = owe c n + tallyAt (cell (nb a c) k) i 1) (Kt : PUnit → sProp 𝕄) :
    iprop(ctx κ SA c ∗ ow c (n + 1) ∗ dutyTok ER (cell (nb a c) k) 0 a ∗ pay SA (nb a c) k a ∗ reached ER (cell (nb a c) k) 0)
      ⊢ iprop((ow c n -∗ Kt ⟨⟩)
        -∗ wp frame (wpE (defs₀ (F := F)) 𝒱₀ (c : Thread nD τ) none) Set.univ (semSignalWord d' sm 1#32) Kt) := by
  subst hd
  have hc : cell (nb a c) k = ((nb a c : Thread nD τ), SemLoc.reg sm) := by rw [← hk]
  have hdu : a ∈ (Rd (F := F) SA).duties (cell (nb a c) k) 0 := by rw [duties_cell]; exact ha
  have hdk : (Rd (F := F) SA).amount (cell (nb a c) k) 0 a = 1 := by rw [amount_cell]; exact hamt
  have hinv := ctx_inv κ SA c (nb a c) k
  unfold ow
  rw [hO, ← payload_cell SA (nb a c) k a]
  generalize cell (nb a c) k = g at hc hdu hdk hinv ⊢
  subst hc
  unfold semSignalWord
  iintro ⟨#Hctx, ⟨%W, HO⟩, Ht, Hp, #Hr⟩ Hk
  ihave #Hinv := hinv $$ Hctx
  iapply (Rounds.wp_signal 𝒱₀ ER (Rd SA) (c : Thread nD τ) none (dst := (nb a c : Thread nD τ)) (sem := sm) (r := 0) (d := a)
    (κ := κ ((nb a c : Thread nD τ), SemLoc.reg sm)) hdu hdk i (owe c n) rfl) $$ [HO Ht Hp]
  · isplitr; · iexact Hinv
    isplitl [HO]; · iexact HO
    isplitl [Ht]; · iexact Ht
    isplitl [Hp]; · iexact Hp
    iexact Hr
  iintro HO
  rw [wp_ret]
  imodintro
  iapply Hk
  iexists W
  iexact HO

/-- A wait for all of a semaphore's round. -/
theorem waitStep (k : Kd) (n i N : ℕ) (hi : i < 6) (h : ∀ x ∈ dueLev.take n, i < x ∧ x < 6) (hN : N = (dut k).card * amt k)
    (w : TpuEff nD τ sig (Elt F) Λ₀ .tc PUnit)
    (hw : ∀ K : PUnit → sProp 𝕄, wpE (defs₀ (F := F)) 𝒱₀ (c : Thread nD τ) none Set.univ w K
      = waitSpec (c : Thread nD τ) Set.univ (loc k) N K) (Kt : PUnit → sProp 𝕄) :
    iprop(ctx κ SA c ∗ ow c n ∗ atPos ER (cell c k) 0 ∅ 0 ∗ cred (tallyAt (cell c k) i N))
      ⊢ iprop((ow c n -∗ atPos ER (cell c k) 1 ∅ 0 -∗ bigSep (dut k) (pay SA c k) -∗ Kt ⟨⟩)
        -∗ wp frame (wpE (defs₀ (F := F)) 𝒱₀ (c : Thread nD τ) none) Set.univ (Prog.lift w) Kt) := by
  unfold ow Prog.lift
  iintro ⟨#Hctx, ⟨%W, HO⟩, Ha, Hc⟩ Hk
  ihave #Hinv := (ctx_inv κ SA c c k) $$ Hctx
  ihave #Hlev := (ctx_lev κ SA c) $$ Hctx
  iapply (Rounds.wp_wait_rest_token 𝒱₀ ER (Rd SA) (c : Thread nD τ) none (κ := κ (cell c k)) hw (Set.mem_univ _) i
    (O := owe c n) (W := W) (R := 0) (m := 0) (T := ∅) ((Nat.zero_add _).trans (hN.trans (expect_cell SA c k).symm))) $$ [HO Ha Hc]
  · isplitr; · iexact Hinv
    isplitl [Hc]; · iexact Hc
    isplitl [HO]; · iexact HO
    isplitr; · iapply (mayWait c (loc k) i n hi h); iexact Hlev
    iexact Ha
  iintro ⟨HO, Ha, -, Hp⟩
  ihave Hp := (Entails.of_eq (rest_cell SA c k)) $$ Hp
  rw [wp_ret]
  imodintro
  iapply Hk $$ [HO] [Ha] Hp
  · iexists _; iexact HO
  · iexact Ha

/-- The start of the copy of slot `n` of the accumulators to the neighbour that slot goes to. -/
theorem sendA (n : ℕ) (hn : n < 4) (m i : ℕ) (d' : Dev nD) (hd : d' = nb (ax ⟨n, hn⟩) c)
    (hO : owe c (m + 1) = owe c m + tallyAt (cell (nb (ax ⟨n, hn⟩) c) (.own (.ar ⟨n, hn⟩))) i NA) (inb inb')
    (sS rS : DmaSem sig) (hs : sS = asS ⟨n, hn⟩) (hr : rS = arS ⟨n, hn⟩) (hsc h1 h2 h3) (Kt : PUnit → sProp 𝕄) :
    iprop(ctx κ SA c ∗ ow c (m + 1) ∗ pSa c ⟨n, hn⟩ (SACC (SA c)) ∗ (∃ f, pRa (nb (ax ⟨n, hn⟩) c) ⟨n, hn⟩ f)
        ∗ dutyTok ER (cell c (.own (.as ⟨n, hn⟩))) 0 0 ∗ dutyTok ER (cell (nb (ax ⟨n, hn⟩) c) (.own (.ar ⟨n, hn⟩))) 0 0
        ∗ reached ER (cell (nb (ax ⟨n, hn⟩) c) (.own (.ar ⟨n, hn⟩))) 0)
      ⊢ iprop((ow c m -∗ cred (tallyAt (cell c (.own (.as ⟨n, hn⟩))) 0 NA) -∗ Kt ⟨⟩)
        -∗ wp frame (wpE (defs₀ (F := F)) 𝒱₀ (c : Thread nD τ) none) Set.univ
        (Prog.lift (.enqueueDma (sqA saccM n inb) (.remote (Dev.tc d') (sqA raccM n inb') (.dma sS) hsc) (.dma rS) h1 h2 h3)) Kt) := by
  subst hd; subst hs; subst hr
  have hp1 : (((sqA saccM n inb).view.loc (c : Thread nD τ) ↦[(sqA saccM n inb).view.set]{fullShare} SACC (SA c)) : sProp 𝕄)
      ⊢ (Rd SA).payload (cell c (.own (.as ⟨n, hn⟩))) 0 0 := by
    rw [payload_cell, sqA_set n hn inb]; exact BI.Entails.refl _
  have hp2 : ∀ f, (((sqA raccM n inb').view.loc (nb (ax ⟨n, hn⟩) c : Thread nD τ) ↦[(sqA raccM n inb').view.set]{fullShare}
        ((sqA raccM n inb').view.write (Elt F) f ((sqA saccM n inb).view.read (Elt F) (SACC (SA c))) Finset.univ)) : sProp 𝕄)
      ⊢ (Rd SA).payload (cell (nb (ax ⟨n, hn⟩) c) (.own (.ar ⟨n, hn⟩))) 0 0 := fun f => by
    rw [payload_cell]
    show _ ⊢ pRa _ _ (SACC (SA (nb (ax ⟨n, hn⟩) (nb (ax ⟨n, hn⟩) c))))
    unfold pRa
    rw [nb_nb, sqAr_set n hn inb']
    exact Entails.of_eq (pointsTo_congr (cpA _ _ n hn inb'))
  unfold ow pSa pRa Prog.lift
  iintro ⟨#Hctx, ⟨%W, HO⟩, Hs, ⟨%f, Hd⟩, Ht, Ht', #Hr⟩ Hk
  ihave #Hinv := (ctx_inv κ SA c c (.own (.as ⟨n, hn⟩))) $$ Hctx
  ihave #Hinv' := (ctx_inv κ SA c (nb (ax ⟨n, hn⟩) c) (.own (.ar ⟨n, hn⟩))) $$ Hctx
  ihave #Hown := (ctx_own κ SA c (.as ⟨n, hn⟩)) $$ Hctx
  iapply (Rounds.wp_send_pointsTo 𝒱₀ ER (Rd SA) (c : Thread nD τ) none (c' := (nb (ax ⟨n, hn⟩) c : Thread nD τ))
      (src := sqA saccM n inb) (dst := sqA raccM n inb')
      (sS := .dma (asS ⟨n, hn⟩)) (sem := .dma (arS ⟨n, hn⟩)) (q := fullShare) (fs := SACC (SA c))
      (κ₁ := κ (cell c (.own (.as ⟨n, hn⟩)))) (κ₂ := κ (cell (nb (ax ⟨n, hn⟩) c) (.own (.ar ⟨n, hn⟩))))
      (r₁ := 0) (r₂ := 0) (d₁ := 0) (d₂ := 0) (fd := f)
      ((duties_cell SA c (.own (.as ⟨n, hn⟩))).symm ▸ Finset.mem_singleton_self _)
      ((duties_cell SA (nb (ax ⟨n, hn⟩) c) (.own (.ar ⟨n, hn⟩))).symm ▸ Finset.mem_singleton_self _)
      i 0 NA rfl (amount_cell SA c (.own (.as ⟨n, hn⟩)) 0) (amount_cell SA (nb (ax ⟨n, hn⟩) c) (.own (.ar ⟨n, hn⟩)) 0)
      (owe c m) hO (W := W)
hp1 (hp2 f)) $$ [HO Hs Hd Ht Ht']
  · isplitr; · iexact Hinv
    isplitr; · iexact Hinv'
    isplitl [Hs]; · rw [sqA_set n hn inb]; iexact Hs
    isplitl [Hd]; · rw [sqAr_set n hn inb']; iexact Hd
    isplitl [HO]; · iexact HO
    isplitl [Ht]; · iexact Ht
    isplitr; · iexact Hown
    isplitl [Ht']; · iexact Ht'
    iexact Hr
  iintro ⟨Hc, HO⟩
  rw [wp_ret]
  imodintro
  iapply Hk $$ [HO] Hc
  iexists W
  iexact HO

/-- The start of the copy of slot `n` of the statistics to the neighbour that slot goes to. -/
theorem sendS (n : ℕ) (hn : n < 4) (m i : ℕ) (d' : Dev nD) (hd : d' = nb (ax ⟨n, hn⟩) c)
    (hO : owe c (m + 1) = owe c m + tallyAt (cell (nb (ax ⟨n, hn⟩) c) (.own (.sr ⟨n, hn⟩))) i NS) (inb inb')
    (sS rS : DmaSem sig) (hs : sS = ssS ⟨n, hn⟩) (hr : rS = srS ⟨n, hn⟩) (hsc h1 h2 h3) (Kt : PUnit → sProp 𝕄) :
    iprop(ctx κ SA c ∗ ow c (m + 1) ∗ pSs c ⟨n, hn⟩ (SST (SA c)) ∗ (∃ f, pRs (nb (ax ⟨n, hn⟩) c) ⟨n, hn⟩ f)
        ∗ dutyTok ER (cell c (.own (.ss ⟨n, hn⟩))) 0 0 ∗ dutyTok ER (cell (nb (ax ⟨n, hn⟩) c) (.own (.sr ⟨n, hn⟩))) 0 0
        ∗ reached ER (cell (nb (ax ⟨n, hn⟩) c) (.own (.sr ⟨n, hn⟩))) 0)
      ⊢ iprop((ow c m -∗ cred (tallyAt (cell c (.own (.ss ⟨n, hn⟩))) 0 NS) -∗ Kt ⟨⟩)
        -∗ wp frame (wpE (defs₀ (F := F)) 𝒱₀ (c : Thread nD τ) none) Set.univ
        (Prog.lift (.enqueueDma (sqS sstM n inb) (.remote (Dev.tc d') (sqS rstM n inb') (.dma sS) hsc) (.dma rS) h1 h2 h3)) Kt) := by
  subst hd; subst hs; subst hr
  have hp1 : (((sqS sstM n inb).view.loc (c : Thread nD τ) ↦[(sqS sstM n inb).view.set]{fullShare} SST (SA c)) : sProp 𝕄)
      ⊢ (Rd SA).payload (cell c (.own (.ss ⟨n, hn⟩))) 0 0 := by
    rw [payload_cell, sqS_set n hn inb]; exact BI.Entails.refl _
  have hp2 : ∀ f, (((sqS rstM n inb').view.loc (nb (ax ⟨n, hn⟩) c : Thread nD τ) ↦[(sqS rstM n inb').view.set]{fullShare}
        ((sqS rstM n inb').view.write (Elt F) f ((sqS sstM n inb).view.read (Elt F) (SST (SA c))) Finset.univ)) : sProp 𝕄)
      ⊢ (Rd SA).payload (cell (nb (ax ⟨n, hn⟩) c) (.own (.sr ⟨n, hn⟩))) 0 0 := fun f => by
    rw [payload_cell]
    show _ ⊢ pRs _ _ (SST (SA (nb (ax ⟨n, hn⟩) (nb (ax ⟨n, hn⟩) c))))
    unfold pRs
    rw [nb_nb, sqSr_set n hn inb']
    exact Entails.of_eq (pointsTo_congr (cpS _ _ n hn inb'))
  unfold ow pSs pRs Prog.lift
  iintro ⟨#Hctx, ⟨%W, HO⟩, Hs, ⟨%f, Hd⟩, Ht, Ht', #Hr⟩ Hk
  ihave #Hinv := (ctx_inv κ SA c c (.own (.ss ⟨n, hn⟩))) $$ Hctx
  ihave #Hinv' := (ctx_inv κ SA c (nb (ax ⟨n, hn⟩) c) (.own (.sr ⟨n, hn⟩))) $$ Hctx
  ihave #Hown := (ctx_own κ SA c (.ss ⟨n, hn⟩)) $$ Hctx
  iapply (Rounds.wp_send_pointsTo 𝒱₀ ER (Rd SA) (c : Thread nD τ) none (c' := (nb (ax ⟨n, hn⟩) c : Thread nD τ))
      (src := sqS sstM n inb) (dst := sqS rstM n inb')
      (sS := .dma (ssS ⟨n, hn⟩)) (sem := .dma (srS ⟨n, hn⟩)) (q := fullShare) (fs := SST (SA c))
      (κ₁ := κ (cell c (.own (.ss ⟨n, hn⟩)))) (κ₂ := κ (cell (nb (ax ⟨n, hn⟩) c) (.own (.sr ⟨n, hn⟩))))
      (r₁ := 0) (r₂ := 0) (d₁ := 0) (d₂ := 0) (fd := f)
      ((duties_cell SA c (.own (.ss ⟨n, hn⟩))).symm ▸ Finset.mem_singleton_self _)
      ((duties_cell SA (nb (ax ⟨n, hn⟩) c) (.own (.sr ⟨n, hn⟩))).symm ▸ Finset.mem_singleton_self _)
      i 0 NS rfl (amount_cell SA c (.own (.ss ⟨n, hn⟩)) 0) (amount_cell SA (nb (ax ⟨n, hn⟩) c) (.own (.sr ⟨n, hn⟩)) 0)
      (owe c m) hO (W := W)
hp1 (hp2 f)) $$ [HO Hs Hd Ht Ht']
  · isplitr; · iexact Hinv
    isplitr; · iexact Hinv'
    isplitl [Hs]; · rw [sqS_set n hn inb]; iexact Hs
    isplitl [Hd]; · rw [sqSr_set n hn inb']; iexact Hd
    isplitl [HO]; · iexact HO
    isplitl [Ht]; · iexact Ht
    isplitr; · iexact Hown
    isplitl [Ht']; · iexact Ht'
    iexact Hr
  iintro ⟨Hc, HO⟩
  rw [wp_ret]
  imodintro
  iapply Hk $$ [HO] Hc
  iexists W
  iexact HO

end Steps

end Cert.Proof.KV
-- ==== Proof.Mem.lean ====
/-
  The loads and stores of the kernel's own buffers and of its blocks, one lemma each.
-/
module

public import proofs.«01_k».proof.Proof.Steps

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-- The running accumulator's buffer and the running statistics' buffer of a device. -/
def pAcc (c : Dev nD) (f : Vec F S16x32x128 .f32) : sProp 𝕄 := lAcc c ↦[Finset.univ]{fullShare} f
def pSt (c : Dev nD) (f : Vec F S2x16x32 .f32) : sProp 𝕄 := lSt c ↦[Finset.univ]{fullShare} f

section Mem

variable (c : Dev nD)

/-! ### The general forms -/

/-- A load of elements that are owned. -/
theorem ldStep {cs : CoreSpace} {s : Shape} {e : EltTy} {m : Memref sig .tc cs s e} {r : Rect s} {hl : m.view.LoadsAt r}
    {S : Finset (Idx ((m.access r).loc (c : Thread nD τ)))} {f : Buf (Elt F) ((m.access r).loc (c : Thread nD τ))}
    (hS : (m.access r).set ⊆ S) {v : r.shape.Idx → Elt F e} (hv : (m.access r).read (Elt F) f = v)
    (Kt : (r.shape.Idx → Elt F e) → sProp 𝕄) :
    iprop(((m.access r).loc (c : Thread nD τ) ↦[S]{fullShare} f))
      ⊢ iprop((((m.access r).loc (c : Thread nD τ) ↦[S]{fullShare} f) -∗ Kt v)
        -∗ wp frame (wpE (defs₀ (F := F)) 𝒱₀ (c : Thread nD τ) none) Set.univ (Prog.lift (.load m r hl)) Kt) := by
  subst hv
  unfold Prog.lift
  iintro H Hk
  iapply (wp_load_rect (defs := defs₀ (F := F)) 𝒱₀ (c : Thread nD τ) none Set.univ hS) $$ H
  iintro H
  rw [wp_ret]
  imodintro
  iapply Hk $$ H

/-- A store of elements that are owned. -/
theorem stStep {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f g : Buf (Elt F) ((m.access r).loc (c : Thread nD τ))}
    (hS : (m.access r).set ⊆ S) (hg : ∀ i ∈ S, (m.access r).write (Elt F) f w Finset.univ i = g i)
    (Kt : PUnit → sProp 𝕄) :
    iprop(((m.access r).loc (c : Thread nD τ) ↦[S]{fullShare} f))
      ⊢ iprop((((m.access r).loc (c : Thread nD τ) ↦[S]{fullShare} g) -∗ Kt ⟨⟩)
        -∗ wp frame (wpE (defs₀ (F := F)) 𝒱₀ (c : Thread nD τ) none) Set.univ (Prog.lift (.store m r w Finset.univ hx hm)) Kt) := by
  rw [← pointsTo_congr (Val := Elt F) hg]
  unfold Prog.lift
  iintro H Hk
  iapply (wp_store (defs := defs₀ (F := F)) 𝒱₀ (c : Thread nD τ) none Set.univ hS) $$ H
  iintro H
  rw [wp_ret]
  imodintro
  iapply Hk $$ H

/-! ### The running state -/

theorem zero3 : (![0, 0, 0] : Fin 3 → Nat) = fun _ => 0 := by decide
theorem zero4 : (![0, 0, 0, 0] : Fin 4 → Nat) = fun _ => 0 := by decide
theorem zero2 : (![0, 0] : Fin 2 → Nat) = fun _ => 0 := by decide

theorem accLd (f : Vec F S16x32x128 .f32) (inb hl) (Kt : Vec F S16x32x128 .f32 → sProp 𝕄) :
    iprop(pAcc c f)
      ⊢ iprop((pAcc c f -∗ Kt f)
        -∗ wp frame (wpE (defs₀ (F := F)) 𝒱₀ (c : Thread nD τ) none) Set.univ (Prog.lift (.load (Memref.whole cc0_scratch0) (Rect.unit (s := S16x32x128) ![0, 0, 0] S16x32x128.size inb).toLoadRect hl)) Kt) :=
  ldStep c (m := Memref.whole cc0_scratch0) (r := Rect.unit (s := S16x32x128) ![0, 0, 0] S16x32x128.size inb) (S := Finset.univ) (f := f) (Finset.subset_univ _)
    (Memref.read_access_unit_zero (Elt F) cc0_scratch0 zero3 inb f) Kt

theorem accSt (f w : Vec F S16x32x128 .f32) (inb hx hm) (Kt : PUnit → sProp 𝕄) :
    iprop(pAcc c f)
      ⊢ iprop((pAcc c w -∗ Kt ⟨⟩)
        -∗ wp frame (wpE (defs₀ (F := F)) 𝒱₀ (c : Thread nD τ) none) Set.univ (Prog.lift (.store (Memref.whole cc0_scratch0) (Rect.unit (s := S16x32x128) ![0, 0, 0] S16x32x128.size inb) w Finset.univ hx hm)) Kt) :=
  stStep c (m := Memref.whole cc0_scratch0) (r := Rect.unit (s := S16x32x128) ![0, 0, 0] S16x32x128.size inb) (S := Finset.univ) (f := f) (g := w) (Finset.subset_univ _)
    (fun i _ => congrFun (Memref.write_access_unit_zero_univ (Elt F) cc0_scratch0 zero3 inb f w) i) Kt

theorem stLdAll (f : Vec F S2x16x32 .f32) (inb hl) (Kt : Vec F S2x16x32 .f32 → sProp 𝕄) :
    iprop(pSt c f)
      ⊢ iprop((pSt c f -∗ Kt f)
        -∗ wp frame (wpE (defs₀ (F := F)) 𝒱₀ (c : Thread nD τ) none) Set.univ (Prog.lift (.load stM (Rect.unit (s := S2x16x32) ![0, 0, 0] S2x16x32.size inb).toLoadRect hl)) Kt) :=
  ldStep c (m := stM) (r := Rect.unit (s := S2x16x32) ![0, 0, 0] S2x16x32.size inb) (S := Finset.univ) (f := f) (Finset.subset_univ _)
    (Memref.read_access_unit_zero (Elt F) cc0_scratch1 zero3 inb f) Kt

theorem stLd0 (m l : FVec F S16x32 .f32) (inb hl) (Kt : Vec F S1x16x32 .f32 → sProp 𝕄) :
    iprop(pSt c (pack m l))
      ⊢ iprop((pSt c (pack m l) -∗ Kt (shapeCast S1x16x32 m shapeCasts_S16x32_S1x16x32))
        -∗ wp frame (wpE (defs₀ (F := F)) 𝒱₀ (c : Thread nD τ) none) Set.univ (Prog.lift (.load stM (Rect.unit (s := S2x16x32) ![0, 0, 0] S1x16x32.size inb).toLoadRect hl)) Kt) :=
  ldStep c (m := stM) (r := Rect.unit (s := S2x16x32) ![0, 0, 0] S1x16x32.size inb) (S := Finset.univ) (f := pack m l) (Finset.subset_univ _) (rd0 m l inb) Kt

theorem stSt0 (m l w : FVec F S16x32 .f32) (w' : Vec F S1x16x32 .f32) (hw : w' = shapeCast S1x16x32 w shapeCasts_S16x32_S1x16x32)
    (inb hx hm) (Kt : PUnit → sProp 𝕄) :
    iprop(pSt c (pack m l))
      ⊢ iprop((pSt c (pack w l) -∗ Kt ⟨⟩)
        -∗ wp frame (wpE (defs₀ (F := F)) 𝒱₀ (c : Thread nD τ) none) Set.univ (Prog.lift (.store stM (Rect.unit (s := S2x16x32) ![0, 0, 0] S1x16x32.size inb) w' Finset.univ hx hm)) Kt) := by
  subst hw
  exact stStep c (m := stM) (r := Rect.unit (s := S2x16x32) ![0, 0, 0] S1x16x32.size inb) (S := Finset.univ) (f := pack m l) (g := pack w l) (Finset.subset_univ _)
    (fun i _ => congrFun (wr0 m l w inb) i) Kt

theorem stLd1 (m l : FVec F S16x32 .f32) (inb hl) (Kt : Vec F S1x16x32 .f32 → sProp 𝕄) :
    iprop(pSt c (pack m l))
      ⊢ iprop((pSt c (pack m l) -∗ Kt (shapeCast S1x16x32 l shapeCasts_S16x32_S1x16x32))
        -∗ wp frame (wpE (defs₀ (F := F)) 𝒱₀ (c : Thread nD τ) none) Set.univ (Prog.lift (.load stM (Rect.unit (s := S2x16x32) ![1, 0, 0] S1x16x32.size inb).toLoadRect hl)) Kt) :=
  ldStep c (m := stM) (r := Rect.unit (s := S2x16x32) ![1, 0, 0] S1x16x32.size inb) (S := Finset.univ) (f := pack m l) (Finset.subset_univ _) (rd1 m l inb) Kt

theorem stSt1 (m l w : FVec F S16x32 .f32) (w' : Vec F S1x16x32 .f32) (hw : w' = shapeCast S1x16x32 w shapeCasts_S16x32_S1x16x32)
    (inb hx hm) (Kt : PUnit → sProp 𝕄) :
    iprop(pSt c (pack m l))
      ⊢ iprop((pSt c (pack m w) -∗ Kt ⟨⟩)
        -∗ wp frame (wpE (defs₀ (F := F)) 𝒱₀ (c : Thread nD τ) none) Set.univ (Prog.lift (.store stM (Rect.unit (s := S2x16x32) ![1, 0, 0] S1x16x32.size inb) w' Finset.univ hx hm)) Kt) := by
  subst hw
  exact stStep c (m := stM) (r := Rect.unit (s := S2x16x32) ![1, 0, 0] S1x16x32.size inb) (S := Finset.univ) (f := pack m l) (g := pack m w) (Finset.subset_univ _)
    (fun i _ => congrFun (wr1 m l w inb) i) Kt

/-! ### The slots -/

theorem saLdAny (f : Vec F S4x16x32x128 .bf16) (n : Nat) (hn : n < 4) (inb hl) (Kt : Vec F S1x16x32x128 .bf16 → sProp 𝕄) :
    iprop(pSa c ⟨n, hn⟩ f)
      ⊢ iprop((∀ v, pSa c ⟨n, hn⟩ f -∗ Kt v)
        -∗ wp frame (wpE (defs₀ (F := F)) 𝒱₀ (c : Thread nD τ) none) Set.univ (Prog.lift (.load saccM (Rect.unit (s := S4x16x32x128) ![n, 0, 0, 0] S1x16x32x128.size inb).toLoadRect hl)) Kt) := by
  unfold pSa
  iintro H Hk
  iapply (ldStep c (m := saccM) (r := Rect.unit (s := S4x16x32x128) ![n, 0, 0, 0] S1x16x32x128.size inb) (S := slA ⟨n, hn⟩) (f := f) (setA n hn inb).subset rfl Kt) $$ H
  iintro H
  iapply Hk $$ H

theorem saLd (g : Fin 4 → FVec F S16x32x128 .bf16) (n : Nat) (hn : n < 4) (inb hl) (Kt : Vec F S1x16x32x128 .bf16 → sProp 𝕄) :
    iprop(pSa c ⟨n, hn⟩ (pk4 g))
      ⊢ iprop((pSa c ⟨n, hn⟩ (pk4 g) -∗ Kt (shapeCast S1x16x32x128 (g ⟨n, hn⟩) shapeCasts_S16x32x128_S1x16x32x128))
        -∗ wp frame (wpE (defs₀ (F := F)) 𝒱₀ (c : Thread nD τ) none) Set.univ (Prog.lift (.load saccM (Rect.unit (s := S4x16x32x128) ![n, 0, 0, 0] S1x16x32x128.size inb).toLoadRect hl)) Kt) :=
  ldStep c (m := saccM) (r := Rect.unit (s := S4x16x32x128) ![n, 0, 0, 0] S1x16x32x128.size inb) (S := slA ⟨n, hn⟩) (f := pk4 g) (setA n hn inb).subset (rdA g n hn inb) Kt

theorem raLdAny (f : Vec F S4x16x32x128 .bf16) (n : Nat) (hn : n < 4) (inb hl) (Kt : Vec F S1x16x32x128 .bf16 → sProp 𝕄) :
    iprop(pRa c ⟨n, hn⟩ f)
      ⊢ iprop((∀ v, pRa c ⟨n, hn⟩ f -∗ Kt v)
        -∗ wp frame (wpE (defs₀ (F := F)) 𝒱₀ (c : Thread nD τ) none) Set.univ (Prog.lift (.load raccM (Rect.unit (s := S4x16x32x128) ![n, 0, 0, 0] S1x16x32x128.size inb).toLoadRect hl)) Kt) := by
  unfold pRa
  iintro H Hk
  iapply (ldStep c (m := raccM) (r := Rect.unit (s := S4x16x32x128) ![n, 0, 0, 0] S1x16x32x128.size inb) (S := slA ⟨n, hn⟩) (f := f) (setAr n hn inb).subset rfl Kt) $$ H
  iintro H
  iapply Hk $$ H

theorem raLd (g : Fin 4 → FVec F S16x32x128 .bf16) (n : Nat) (hn : n < 4) (inb hl) (Kt : Vec F S1x16x32x128 .bf16 → sProp 𝕄) :
    iprop(pRa c ⟨n, hn⟩ (pk4 g))
      ⊢ iprop((pRa c ⟨n, hn⟩ (pk4 g) -∗ Kt (shapeCast S1x16x32x128 (g ⟨n, hn⟩) shapeCasts_S16x32x128_S1x16x32x128))
        -∗ wp frame (wpE (defs₀ (F := F)) 𝒱₀ (c : Thread nD τ) none) Set.univ (Prog.lift (.load raccM (Rect.unit (s := S4x16x32x128) ![n, 0, 0, 0] S1x16x32x128.size inb).toLoadRect hl)) Kt) :=
  ldStep c (m := raccM) (r := Rect.unit (s := S4x16x32x128) ![n, 0, 0, 0] S1x16x32x128.size inb) (S := slA ⟨n, hn⟩) (f := pk4 g) (setAr n hn inb).subset (rdAr g n hn inb) Kt

theorem ssLd1Any (f : Vec F S4x2x16x32 .f32) (n k : Nat) (hn : n < 4) (hk : k < 2) (inb hl) (Kt : Vec F S1x1x16x32 .f32 → sProp 𝕄) :
    iprop(pSs c ⟨n, hn⟩ f)
      ⊢ iprop((∀ v, pSs c ⟨n, hn⟩ f -∗ Kt v)
        -∗ wp frame (wpE (defs₀ (F := F)) 𝒱₀ (c : Thread nD τ) none) Set.univ (Prog.lift (.load sstM (Rect.unit (s := S4x2x16x32) ![n, k, 0, 0] S1x1x16x32.size inb).toLoadRect hl)) Kt) := by
  unfold pSs
  iintro H Hk
  iapply (ldStep c (m := sstM) (r := Rect.unit (s := S4x2x16x32) ![n, k, 0, 0] S1x1x16x32.size inb) (S := slS ⟨n, hn⟩) (f := f) (setS1 n k hn hk inb) rfl Kt) $$ H
  iintro H
  iapply Hk $$ H

theorem ssLd1 (g : Fin 4 → Vec F S2x16x32 .f32) (n k : Nat) (hn : n < 4) (hk : k < 2) (inb hl) (Kt : Vec F S1x1x16x32 .f32 → sProp 𝕄) :
    iprop(pSs c ⟨n, hn⟩ (pkst g))
      ⊢ iprop((pSs c ⟨n, hn⟩ (pkst g)
        -∗ Kt (shapeCast S1x1x16x32 (plane (g ⟨n, hn⟩) ⟨k, hk⟩) shapeCasts_S16x32_S1x1x16x32))
        -∗ wp frame (wpE (defs₀ (F := F)) 𝒱₀ (c : Thread nD τ) none) Set.univ (Prog.lift (.load sstM (Rect.unit (s := S4x2x16x32) ![n, k, 0, 0] S1x1x16x32.size inb).toLoadRect hl)) Kt) :=
  ldStep c (m := sstM) (r := Rect.unit (s := S4x2x16x32) ![n, k, 0, 0] S1x1x16x32.size inb) (S := slS ⟨n, hn⟩) (f := pkst g) (setS1 n k hn hk inb) (rdS g n k hn hk inb) Kt

theorem rsLd1Any (f : Vec F S4x2x16x32 .f32) (n k : Nat) (hn : n < 4) (hk : k < 2) (inb hl) (Kt : Vec F S1x1x16x32 .f32 → sProp 𝕄) :
    iprop(pRs c ⟨n, hn⟩ f)
      ⊢ iprop((∀ v, pRs c ⟨n, hn⟩ f -∗ Kt v)
        -∗ wp frame (wpE (defs₀ (F := F)) 𝒱₀ (c : Thread nD τ) none) Set.univ (Prog.lift (.load rstM (Rect.unit (s := S4x2x16x32) ![n, k, 0, 0] S1x1x16x32.size inb).toLoadRect hl)) Kt) := by
  unfold pRs
  iintro H Hk
  iapply (ldStep c (m := rstM) (r := Rect.unit (s := S4x2x16x32) ![n, k, 0, 0] S1x1x16x32.size inb) (S := slS ⟨n, hn⟩) (f := f) (setS1r n k hn hk inb) rfl Kt) $$ H
  iintro H
  iapply Hk $$ H

theorem rsLd1 (g : Fin 4 → Vec F S2x16x32 .f32) (n k : Nat) (hn : n < 4) (hk : k < 2) (inb hl) (Kt : Vec F S1x1x16x32 .f32 → sProp 𝕄) :
    iprop(pRs c ⟨n, hn⟩ (pkst g))
      ⊢ iprop((pRs c ⟨n, hn⟩ (pkst g)
        -∗ Kt (shapeCast S1x1x16x32 (plane (g ⟨n, hn⟩) ⟨k, hk⟩) shapeCasts_S16x32_S1x1x16x32))
        -∗ wp frame (wpE (defs₀ (F := F)) 𝒱₀ (c : Thread nD τ) none) Set.univ (Prog.lift (.load rstM (Rect.unit (s := S4x2x16x32) ![n, k, 0, 0] S1x1x16x32.size inb).toLoadRect hl)) Kt) :=
  ldStep c (m := rstM) (r := Rect.unit (s := S4x2x16x32) ![n, k, 0, 0] S1x1x16x32.size inb) (S := slS ⟨n, hn⟩) (f := pkst g) (setS1r n k hn hk inb) (rdSr g n k hn hk inb) Kt

theorem ssLdAny (f : Vec F S4x2x16x32 .f32) (n : Nat) (hn : n < 4) (inb hl) (Kt : Vec F S1x2x16x32 .f32 → sProp 𝕄) :
    iprop(pSs c ⟨n, hn⟩ f)
      ⊢ iprop((∀ v, pSs c ⟨n, hn⟩ f -∗ Kt v)
        -∗ wp frame (wpE (defs₀ (F := F)) 𝒱₀ (c : Thread nD τ) none) Set.univ (Prog.lift (.load sstM (Rect.unit (s := S4x2x16x32) ![n, 0, 0, 0] S1x2x16x32.size inb).toLoadRect hl)) Kt) := by
  unfold pSs
  iintro H Hk
  iapply (ldStep c (m := sstM) (r := Rect.unit (s := S4x2x16x32) ![n, 0, 0, 0] S1x2x16x32.size inb) (S := slS ⟨n, hn⟩) (f := f) (setS n hn inb).subset rfl Kt) $$ H
  iintro H
  iapply Hk $$ H

theorem saSt (g : Fin 4 → FVec F S16x32x128 .bf16) (f : Vec F S4x16x32x128 .bf16) (n : Nat) (hn : n < 4) (w' : Vec F S1x16x32x128 .bf16)
    (hw : w' = shapeCast S1x16x32x128 (g ⟨n, hn⟩) shapeCasts_S16x32x128_S1x16x32x128) (inb hx hm) (Kt : PUnit → sProp 𝕄) :
    iprop(pSa c ⟨n, hn⟩ f)
      ⊢ iprop((pSa c ⟨n, hn⟩ (pk4 g) -∗ Kt ⟨⟩)
        -∗ wp frame (wpE (defs₀ (F := F)) 𝒱₀ (c : Thread nD τ) none) Set.univ (Prog.lift (.store saccM (Rect.unit (s := S4x16x32x128) ![n, 0, 0, 0] S1x16x32x128.size inb) w' Finset.univ hx hm)) Kt) := by
  subst hw
  exact stStep c (m := saccM) (r := Rect.unit (s := S4x16x32x128) ![n, 0, 0, 0] S1x16x32x128.size inb) (S := slA ⟨n, hn⟩) (f := f) (g := pk4 g) (setA n hn inb).subset (wrA g n hn inb f _ rfl) Kt

theorem ssSt (g : Fin 4 → Vec F S2x16x32 .f32) (f : Vec F S4x2x16x32 .f32) (n : Nat) (hn : n < 4) (w' : Vec F S1x2x16x32 .f32)
    (hw : w' = shapeCast S1x2x16x32 (g ⟨n, hn⟩) shapeCasts_S2x16x32_S1x2x16x32) (inb hx hm) (Kt : PUnit → sProp 𝕄) :
    iprop(pSs c ⟨n, hn⟩ f)
      ⊢ iprop((pSs c ⟨n, hn⟩ (pkst g) -∗ Kt ⟨⟩)
        -∗ wp frame (wpE (defs₀ (F := F)) 𝒱₀ (c : Thread nD τ) none) Set.univ (Prog.lift (.store sstM (Rect.unit (s := S4x2x16x32) ![n, 0, 0, 0] S1x2x16x32.size inb) w' Finset.univ hx hm)) Kt) := by
  subst hw
  exact stStep c (m := sstM) (r := Rect.unit (s := S4x2x16x32) ![n, 0, 0, 0] S1x2x16x32.size inb) (S := slS ⟨n, hn⟩) (f := f) (g := pkst g) (setS n hn inb).subset (wrS g n hn inb f _ rfl) Kt

/-- A slot of the statistics after a store of its first plane. -/
def half (f : Vec F S4x2x16x32 .f32) (n : Nat) (inb : ∀ a, (![n, 0, 0, 0] : Fin 4 → Nat) a + S1x1x16x32.size a ≤ S4x2x16x32.size a)
    (m : FVec F S16x32 .f32) : Vec F S4x2x16x32 .f32 :=
  (sstM.access (Rect.unit (s := S4x2x16x32) ![n, 0, 0, 0] S1x1x16x32.size inb)).write (Elt F) f
    (shapeCast S1x1x16x32 m shapeCasts_S16x32_S1x1x16x32) Finset.univ

theorem ssStM (f : Vec F S4x2x16x32 .f32) (n : Nat) (hn : n < 4) (m : FVec F S16x32 .f32) (w' : Vec F S1x1x16x32 .f32)
    (hw : w' = shapeCast S1x1x16x32 m shapeCasts_S16x32_S1x1x16x32) (inb hx hm) (Kt : PUnit → sProp 𝕄) :
    iprop(pSs c ⟨n, hn⟩ f)
      ⊢ iprop((pSs c ⟨n, hn⟩ (half f n inb m) -∗ Kt ⟨⟩)
        -∗ wp frame (wpE (defs₀ (F := F)) 𝒱₀ (c : Thread nD τ) none) Set.univ (Prog.lift (.store sstM (Rect.unit (s := S4x2x16x32) ![n, 0, 0, 0] S1x1x16x32.size inb) w' Finset.univ hx hm)) Kt) := by
  subst hw
  exact stStep c (m := sstM) (r := Rect.unit (s := S4x2x16x32) ![n, 0, 0, 0] S1x1x16x32.size inb) (S := slS ⟨n, hn⟩) (f := f) (g := half f n inb m) (setS1 n 0 hn (by decide) inb) (fun _ _ => rfl) Kt

theorem ssStL (g : Fin 4 → Vec F S2x16x32 .f32) (f : Vec F S4x2x16x32 .f32) (n : Nat) (hn : n < 4) (m l : FVec F S16x32 .f32)
    (w' : Vec F S1x1x16x32 .f32) (hw : w' = shapeCast S1x1x16x32 l shapeCasts_S16x32_S1x1x16x32) (hg : pack m l = g ⟨n, hn⟩)
    (inb inb' hx hm) (Kt : PUnit → sProp 𝕄) :
    iprop(pSs c ⟨n, hn⟩ (half f n inb m))
      ⊢ iprop((pSs c ⟨n, hn⟩ (pkst g) -∗ Kt ⟨⟩)
        -∗ wp frame (wpE (defs₀ (F := F)) 𝒱₀ (c : Thread nD τ) none) Set.univ (Prog.lift (.store sstM (Rect.unit (s := S4x2x16x32) ![n, 1, 0, 0] S1x1x16x32.size inb') w' Finset.univ hx hm)) Kt) := by
  subst hw
  exact stStep c (m := sstM) (r := Rect.unit (s := S4x2x16x32) ![n, 1, 0, 0] S1x1x16x32.size inb') (S := slS ⟨n, hn⟩) (f := half f n inb m) (g := pkst g) (setS1 n 1 hn (by decide) inb')
    (wrS1 g n hn inb inb' f m l hg) Kt

/-! ### Blocks -/

theorem idx_full {s : Shape} {off : Fin s.rank → Nat} (h : off = fun _ => 0) (inb : ∀ a, off a + s.size a ≤ s.size a) (x : s.Idx) :
    (Rect.unit (s := s) off s.size inb).idx x = x := by
  subst h
  funext a
  apply Fin.ext
  show 0 + 1 * (x a).val = (x a).val
  omega

theorem view_idx_full {s : Shape} {e : EltTy} (M : Memref sig .tc .vmem s e) {off : Fin s.rank → Nat} (h : off = fun _ => 0)
    (inb : ∀ a, off a + s.size a ≤ s.size a) (x : s.Idx) : (M.access (Rect.unit (s := s) off s.size inb)).emb x = M.view.emb x :=
  congrArg M.view.emb (idx_full h inb x)

/-- A load of a whole block. -/
theorem ldW {s : Shape} {e : EltTy} (M : Memref sig .tc .vmem s e) {off : Fin s.rank → Nat} (h : off = fun _ => 0) (X : s.Idx → Elt F e)
    (inb : ∀ a, off a + s.size a ≤ s.size a) (hl) (Kt : (s.Idx → Elt F e) → sProp 𝕄) :
    iprop(owns (c : Thread nD τ) M fullShare X)
      ⊢ iprop((owns (c : Thread nD τ) M fullShare X -∗ Kt X)
        -∗ wp frame (wpE (defs₀ (F := F)) 𝒱₀ (c : Thread nD τ) none) Set.univ (Prog.lift (.load M (Rect.unit (s := s) off s.size inb).toLoadRect hl)) Kt) := by
  unfold owns
  iintro ⟨%f, %hf, H⟩ Hk
  have hS : (M.access (Rect.unit (s := s) off s.size inb)).set ⊆ M.view.set := by
    intro i hi
    obtain ⟨x, -, rfl⟩ := Finset.mem_map.mp hi
    rw [view_idx_full M h inb x]
    exact M.view.emb_mem_set x
  have hv : (M.access (Rect.unit (s := s) off s.size inb)).read (Elt F) f = X := by
    rw [← hf]
    funext x
    exact congrArg (M.view.read (Elt F) f) (idx_full h inb x)
  iapply (ldStep c (m := M) (r := Rect.unit (s := s) off s.size inb) (S := M.view.set) (f := f) hS hv Kt) $$ H
  iintro H
  iapply Hk
  iexists f
  isplitr
  · ipureintro; exact hf
  iexact H

/-- A store of a whole block. -/
theorem stW {s : Shape} {e : EltTy} (M : Memref sig .tc .vmem s e) {off : Fin s.rank → Nat} (h : off = fun _ => 0) (X w : s.Idx → Elt F e)
    (inb : ∀ a, off a + s.size a ≤ s.size a) (hx hm) (Kt : PUnit → sProp 𝕄) :
    iprop(owns (c : Thread nD τ) M fullShare X)
      ⊢ iprop((owns (c : Thread nD τ) M fullShare w -∗ Kt ⟨⟩)
        -∗ wp frame (wpE (defs₀ (F := F)) 𝒱₀ (c : Thread nD τ) none) Set.univ (Prog.lift (.store M (Rect.unit (s := s) off s.size inb) w Finset.univ hx hm)) Kt) := by
  unfold owns
  iintro ⟨%f, %hf, H⟩ Hk
  have hS : (M.access (Rect.unit (s := s) off s.size inb)).set ⊆ M.view.set := by
    intro i hi
    obtain ⟨x, -, rfl⟩ := Finset.mem_map.mp hi
    rw [view_idx_full M h inb x]
    exact M.view.emb_mem_set x
  iapply (stStep c (m := M) (r := Rect.unit (s := s) off s.size inb) (S := M.view.set) (f := f) (w := w)
    (g := (M.access (Rect.unit (s := s) off s.size inb)).write (Elt F) f w Finset.univ) hS (fun _ _ => rfl) Kt) $$ H
  iintro H
  iapply Hk
  iexists _
  isplitr
  rotate_left
  · iexact H
  ipureintro
  have h1 := View.read_write_univ (v := M.access (Rect.unit (s := s) off s.size inb)) (Val := Elt F) f w
  funext x
  have h2 := congrFun h1 x
  rw [← h2]
  exact (congrArg (M.view.read (Elt F) _) (idx_full h inb x)).symm

end Mem

end Cert.Proof.KV
-- ==== Proof.Waits.lean ====
/-
  The waits of the exchange, one lemma each: what a wait needs and what it hands over.
-/
module

public import proofs.«01_k».proof.Proof.Mem

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-- The level of the receive semaphores of a slot. -/
def slv : Fin 4 → ℕ := ![2, 2, 3, 4]

section Waits

variable (κ : GSem nD τ sig → ℕ) (SA : Slots F) (c : Dev nD)

/-- The wait for a sent accumulator hands the sent slot back. -/
theorem waitAs (n : ℕ) (hn : n < 4) (m : ℕ) (h : ∀ x ∈ dueLev.take m, 0 < x ∧ x < 6) (sS : DmaSem sig)
    (hs : sS = asS ⟨n, hn⟩) (inb inb' h1 h2) (Kt : PUnit → sProp 𝕄) :
    iprop(ctx κ SA c ∗ ow c m ∗ atPos ER (cell c (.own (.as ⟨n, hn⟩))) 0 ∅ 0 ∗ cred (tallyAt (cell c (.own (.as ⟨n, hn⟩))) 0 NA))
      ⊢ iprop((ow c m -∗ atPos ER (cell c (.own (.as ⟨n, hn⟩))) 1 ∅ 0 -∗ pSa c ⟨n, hn⟩ (SACC (SA c)) -∗ Kt ⟨⟩)
        -∗ wp frame (wpE (defs₀ (F := F)) 𝒱₀ (c : Thread nD τ) none) Set.univ
          (Prog.lift (.waitDma2 sS (sqA raccM n inb) (sqA saccM n inb') h1 h2)) Kt) := by
  subst hs
  have hp : bigSep (dut (.own (.as ⟨n, hn⟩))) (pay SA c (.own (.as ⟨n, hn⟩))) = pSa c ⟨n, hn⟩ (SACC (SA c)) :=
    BI.bigSep_singleton (i := (0 : Fin 3)) (Φ := pay SA c (.own (.as ⟨n, hn⟩)))
  iintro H Hk
  iapply (waitStep κ SA c (.own (.as ⟨n, hn⟩)) m 0 NA (by decide) h (Nat.one_mul _).symm
    (.waitDma2 (asS ⟨n, hn⟩) (sqA raccM n inb) (sqA saccM n inb') h1 h2) (fun _ => rfl)) $$ H
  iintro HO Ha Hp
  iapply Hk $$ HO Ha
  ihave Hp := (Entails.of_eq hp) $$ Hp
  iexact Hp

/-- The wait for a received accumulator hands over the slot it fills. -/
theorem waitAr (n : ℕ) (hn : n < 4) (m : ℕ) (i : ℕ) (hi : i < 6) (h : ∀ x ∈ dueLev.take m, i < x ∧ x < 6) (sS : DmaSem sig)
    (hs : sS = arS ⟨n, hn⟩) (inb inb' h1 h2) (Kt : PUnit → sProp 𝕄) :
    iprop(ctx κ SA c ∗ ow c m ∗ atPos ER (cell c (.own (.ar ⟨n, hn⟩))) 0 ∅ 0 ∗ cred (tallyAt (cell c (.own (.ar ⟨n, hn⟩))) i NA))
      ⊢ iprop((ow c m -∗ atPos ER (cell c (.own (.ar ⟨n, hn⟩))) 1 ∅ 0 -∗ pRa c ⟨n, hn⟩ (SACC (SA (nb (ax ⟨n, hn⟩) c))) -∗ Kt ⟨⟩)
        -∗ wp frame (wpE (defs₀ (F := F)) 𝒱₀ (c : Thread nD τ) none) Set.univ
          (Prog.lift (.waitDma2 sS (sqA saccM n inb) (sqA raccM n inb') h1 h2)) Kt) := by
  subst hs
  have hp : bigSep (dut (.own (.ar ⟨n, hn⟩))) (pay SA c (.own (.ar ⟨n, hn⟩))) = pRa c ⟨n, hn⟩ (SACC (SA (nb (ax ⟨n, hn⟩) c))) :=
    BI.bigSep_singleton (i := (0 : Fin 3)) (Φ := pay SA c (.own (.ar ⟨n, hn⟩)))
  iintro H Hk
  iapply (waitStep κ SA c (.own (.ar ⟨n, hn⟩)) m i NA hi h (Nat.one_mul _).symm
    (.waitDma2 (arS ⟨n, hn⟩) (sqA saccM n inb) (sqA raccM n inb') h1 h2) (fun _ => rfl)) $$ H
  iintro HO Ha Hp
  iapply Hk $$ HO Ha
  ihave Hp := (Entails.of_eq hp) $$ Hp
  iexact Hp

/-- The wait for sent statistics hands the sent slot back. -/
theorem waitSs (n : ℕ) (hn : n < 4) (m : ℕ) (h : ∀ x ∈ dueLev.take m, 0 < x ∧ x < 6) (sS : DmaSem sig)
    (hs : sS = ssS ⟨n, hn⟩) (inb inb' h1 h2) (Kt : PUnit → sProp 𝕄) :
    iprop(ctx κ SA c ∗ ow c m ∗ atPos ER (cell c (.own (.ss ⟨n, hn⟩))) 0 ∅ 0 ∗ cred (tallyAt (cell c (.own (.ss ⟨n, hn⟩))) 0 NS))
      ⊢ iprop((ow c m -∗ atPos ER (cell c (.own (.ss ⟨n, hn⟩))) 1 ∅ 0 -∗ pSs c ⟨n, hn⟩ (SST (SA c)) -∗ Kt ⟨⟩)
        -∗ wp frame (wpE (defs₀ (F := F)) 𝒱₀ (c : Thread nD τ) none) Set.univ
          (Prog.lift (.waitDma2 sS (sqS rstM n inb) (sqS sstM n inb') h1 h2)) Kt) := by
  subst hs
  have hp : bigSep (dut (.own (.ss ⟨n, hn⟩))) (pay SA c (.own (.ss ⟨n, hn⟩))) = pSs c ⟨n, hn⟩ (SST (SA c)) :=
    BI.bigSep_singleton (i := (0 : Fin 3)) (Φ := pay SA c (.own (.ss ⟨n, hn⟩)))
  iintro H Hk
  iapply (waitStep κ SA c (.own (.ss ⟨n, hn⟩)) m 0 NS (by decide) h (Nat.one_mul _).symm
    (.waitDma2 (ssS ⟨n, hn⟩) (sqS rstM n inb) (sqS sstM n inb') h1 h2) (fun _ => rfl)) $$ H
  iintro HO Ha Hp
  iapply Hk $$ HO Ha
  ihave Hp := (Entails.of_eq hp) $$ Hp
  iexact Hp

/-- The wait for received statistics hands over the slot they fill. -/
theorem waitSr (n : ℕ) (hn : n < 4) (m : ℕ) (i : ℕ) (hi : i < 6) (h : ∀ x ∈ dueLev.take m, i < x ∧ x < 6) (sS : DmaSem sig)
    (hs : sS = srS ⟨n, hn⟩) (inb inb' h1 h2) (Kt : PUnit → sProp 𝕄) :
    iprop(ctx κ SA c ∗ ow c m ∗ atPos ER (cell c (.own (.sr ⟨n, hn⟩))) 0 ∅ 0 ∗ cred (tallyAt (cell c (.own (.sr ⟨n, hn⟩))) i NS))
      ⊢ iprop((ow c m -∗ atPos ER (cell c (.own (.sr ⟨n, hn⟩))) 1 ∅ 0 -∗ pRs c ⟨n, hn⟩ (SST (SA (nb (ax ⟨n, hn⟩) c))) -∗ Kt ⟨⟩)
        -∗ wp frame (wpE (defs₀ (F := F)) 𝒱₀ (c : Thread nD τ) none) Set.univ
          (Prog.lift (.waitDma2 sS (sqS sstM n inb) (sqS rstM n inb') h1 h2)) Kt) := by
  subst hs
  have hp : bigSep (dut (.own (.sr ⟨n, hn⟩))) (pay SA c (.own (.sr ⟨n, hn⟩))) = pRs c ⟨n, hn⟩ (SST (SA (nb (ax ⟨n, hn⟩) c))) :=
    BI.bigSep_singleton (i := (0 : Fin 3)) (Φ := pay SA c (.own (.sr ⟨n, hn⟩)))
  iintro H Hk
  iapply (waitStep κ SA c (.own (.sr ⟨n, hn⟩)) m i NS hi h (Nat.one_mul _).symm
    (.waitDma2 (srS ⟨n, hn⟩) (sqS sstM n inb) (sqS rstM n inb') h1 h2) (fun _ => rfl)) $$ H
  iintro HO Ha Hp
  iapply Hk $$ HO Ha
  ihave Hp := (Entails.of_eq hp) $$ Hp
  iexact Hp

/-- The wait for all three neighbours' signals. -/
theorem waitBar (m : ℕ) (h : ∀ x ∈ dueLev.take m, 1 < x ∧ x < 6) (Kt : PUnit → sProp 𝕄) :
    iprop(ctx κ SA c ∗ ow c m ∗ atPos ER (cell c .bar) 0 ∅ 0 ∗ cred (tallyAt (cell c .bar) 1 3))
      ⊢ iprop((ow c m -∗ atPos ER (cell c .bar) 1 ∅ 0
          -∗ (pay SA c .bar 0 ∗ pay SA c .bar 1 ∗ pay SA c .bar 2) -∗ Kt ⟨⟩)
        -∗ wp frame (wpE (defs₀ (F := F)) 𝒱₀ (c : Thread nD τ) none) Set.univ
          (semWaitWord barS 3#32) Kt) := by
  have e : (semWaitWord barS 3#32 : Prog (TpuEff nD τ sig (Elt F) Λ₀ .tc) PUnit) = Prog.lift (.semWait barS ((3 : ℕ) : ℤ)) := rfl
  have hp : bigSep (dut .bar) (pay SA c .bar) = iprop(pay SA c .bar 0 ∗ pay SA c .bar 1 ∗ pay SA c .bar 2) :=
    bigSep_univ_eq_bigSepL [0, 1, 2] (by decide) (by decide) (pay SA c .bar)
  rw [e]
  iintro H Hk
  iapply (waitStep κ SA c .bar m 1 3 (by decide) h rfl (.semWait barS ((3 : ℕ) : ℤ)) (fun _ => rfl)) $$ H
  iintro HO Ha Hp
  iapply Hk $$ HO Ha
  ihave Hp := (Entails.of_eq hp) $$ Hp
  iexact Hp

/-- The wait for all three neighbours' signals. -/
theorem waitEx (m : ℕ) (h : ∀ x ∈ dueLev.take m, 5 < x ∧ x < 6) (Kt : PUnit → sProp 𝕄) :
    iprop(ctx κ SA c ∗ ow c m ∗ atPos ER (cell c (.own .ex)) 0 ∅ 0 ∗ cred (tallyAt (cell c (.own .ex)) 5 3))
      ⊢ iprop((ow c m -∗ atPos ER (cell c (.own .ex)) 1 ∅ 0
          -∗ (pay SA c (.own .ex) 0 ∗ pay SA c (.own .ex) 1 ∗ pay SA c (.own .ex) 2) -∗ Kt ⟨⟩)
        -∗ wp frame (wpE (defs₀ (F := F)) 𝒱₀ (c : Thread nD τ) none) Set.univ
          (semWaitWord exS 3#32) Kt) := by
  have e : (semWaitWord exS 3#32 : Prog (TpuEff nD τ sig (Elt F) Λ₀ .tc) PUnit) = Prog.lift (.semWait exS ((3 : ℕ) : ℤ)) := rfl
  have hp : bigSep (dut (.own .ex)) (pay SA c (.own .ex)) = iprop(pay SA c (.own .ex) 0 ∗ pay SA c (.own .ex) 1 ∗ pay SA c (.own .ex) 2) :=
    bigSep_univ_eq_bigSepL [0, 1, 2] (by decide) (by decide) (pay SA c (.own .ex))
  rw [e]
  iintro H Hk
  iapply (waitStep κ SA c (.own .ex) m 5 3 (by decide) h rfl (.semWait exS ((3 : ℕ) : ℤ)) (fun _ => rfl)) $$ H
  iintro HO Ha Hp
  iapply Hk $$ HO Ha
  ihave Hp := (Entails.of_eq hp) $$ Hp
  iexact Hp

end Waits

end Cert.Proof.KV
-- ==== Proof.Flow.lean ====
/-
  The states of the online softmax: one grid point's step, the merge of two states, what a state becomes when it travels, and
  the output made of the last one. The kernel's payloads are these functions.
-/
module

public import proofs.«01_k».proof.Proof.State
public import Idealize.ShloMosaic.Lib.Pipeline.Value

@[expose] public section

set_option synthInstance.maxSize 4096

noncomputable section

namespace Cert.Proof.KV

open Idealize.ShloMosaic Idealize.ShloMosaic.TcCoe
open Cert.KernelIdeal Cert.KernelIdeal.Gen

variable {F : FTy → Type} [FloatOps F]

/-- The state before the first token: a very small maximum, and no weight. -/
def initSt : St F :=
  ⟨broadcast S16x32 (Scalar.ofBits .f32 0xF149F2CA#32), broadcast S16x32 (Scalar.ofBits .f32 0x00000000#32),
    broadcast S16x32x128 (Scalar.ofBits .f32 0x00000000#32)⟩

/-- A value per head and row as the kernel's loads hand it over. -/
abbrev up3 (v : FVec F S16x32 .f32) : Vec F S1x16x32 .f32 := shapeCast S1x16x32 v shapeCasts_S16x32_S1x16x32
@[inherit_doc up3] abbrev up4 (v : FVec F S16x32 .f32) : Vec F S1x1x16x32 .f32 := shapeCast S1x1x16x32 v shapeCasts_S16x32_S1x1x16x32
/-- An accumulator as a slot holds it. -/
abbrev upA (v : FVec F S16x32x128 .f32) : Vec F S1x16x32x128 .bf16 :=
  shapeCast S1x16x32x128 (truncf .bf16 v bitsLt_bf16_f32) shapeCasts_S16x32x128_S1x16x32x128

/-- One grid point's step, from the queries, its 256 tokens' keys and values, and how often each row counts each token. -/
def stepSt (q : Vec F S16x32x128 .f32) (k v : Vec F S8x32x16x128 .f32) (w : Vec F S32x256 .f32) (s : St F) : St F :=
  ⟨k0_pay59 (k0_pay55 q k) (k0_pay56 w) (up3 s.m),
   k0_pay62 (k0_pay54 w) (k0_pay55 q k) (k0_pay56 w) (up3 s.m) (up3 s.l),
   k0_pay63 (k0_pay53 v) (k0_pay54 w) (k0_pay55 q k) (k0_pay56 w) (up3 s.m) s.acc⟩

/-- A value per head and row spread over the features. -/
def spread (v : FVec F S16x32 .f32) : FVec F S16x32x128 .f32 :=
  broadcastTo S16x32x128 (shapeCast S16x32x1 v shapeCasts_S16x32_S16x32x1) broadcasts_S16x32x1_S16x32x128

/-- Two states over disjoint sets of tokens merged. -/
def mergeSt (a b : St F) : St F :=
  let m := maximumf a.m b.m
  let ea := exp (subf a.m m)
  let eb := exp (subf b.m m)
  ⟨m, addf (mulf a.l ea) (mulf b.l eb), addf (mulf a.acc (spread ea)) (mulf b.acc (spread eb))⟩

/-- A state after it has travelled: the accumulator has been rounded. -/
def rt (s : St F) : St F := ⟨s.m, s.l, extf .f32 (truncf .bf16 s.acc bitsLt_bf16_f32) bitsLt_bf16_f32⟩

/-- The output made of a state. -/
def fin (s : St F) : FVec F S32x1x16x128 .f32 :=
  shapeCast S32x1x16x128
    (transpose S32x16x128 [1, 0, 2] (divf s.acc (spread s.l)) transposes_S16x32x128_p1_0_2_S32x16x128)
    shapeCasts_S32x16x128_S32x1x16x128

/-! ### The payloads of the merge -/

section Pays

variable (A B R : St F)

theorem pay12_eq : k0_pay12 (upA A.acc) = (rt A).acc := by unfold k0_pay12 rt; dsimp only; rw [shapeCast_shapeCast]
theorem pay13_eq (v : FVec F S16x32 .f32) : k0_pay13 (up4 v) = v := by unfold k0_pay13; exact shapeCast_shapeCast v _ _
theorem pay14_eq (v : FVec F S16x32 .f32) : k0_pay14 (up4 v) = v := by unfold k0_pay14; exact shapeCast_shapeCast v _ _
theorem pay15_eq (v : FVec F S16x32 .f32) : k0_pay15 (up3 v) = v := by unfold k0_pay15; exact shapeCast_shapeCast v _ _
theorem pay16_eq (v : FVec F S16x32 .f32) : k0_pay16 (up3 v) = v := by unfold k0_pay16; exact shapeCast_shapeCast v _ _
theorem pay21_eq (v : FVec F S16x32 .f32) : k0_pay21 (up4 v) = v := by unfold k0_pay21; exact shapeCast_shapeCast v _ _
theorem pay28_eq (v : FVec F S16x32 .f32) : k0_pay28 (up4 v) = v := by unfold k0_pay28; exact shapeCast_shapeCast v _ _
theorem pay37_eq (v : FVec F S16x32 .f32) : k0_pay37 (up4 v) = v := by unfold k0_pay37; exact shapeCast_shapeCast v _ _
theorem pay47_eq (v : FVec F S16x32 .f32) : k0_pay47 (up4 v) = v := by unfold k0_pay47; exact shapeCast_shapeCast v _ _
theorem pay48_eq (v : FVec F S16x32 .f32) : k0_pay48 (up4 v) = v := by unfold k0_pay48; exact shapeCast_shapeCast v _ _
theorem pay27_eq : k0_pay27 (upA A.acc) = (rt A).acc := by unfold k0_pay27 rt; dsimp only; rw [shapeCast_shapeCast]
theorem pay46_eq : k0_pay46 (upA A.acc) = (rt A).acc := by unfold k0_pay46 rt; dsimp only; rw [shapeCast_shapeCast]

theorem pay17_eq : k0_pay17 (up4 A.m) (up3 B.m) = (mergeSt A B).m := by unfold k0_pay17 mergeSt; rw [pay13_eq, pay15_eq]
theorem pay18_eq : k0_pay18 (up4 A.m) (up3 B.m) = exp (subf A.m (mergeSt A B).m) := by
  unfold k0_pay18; rw [pay17_eq A B, pay13_eq]
theorem pay19_eq : k0_pay19 (up4 A.m) (up3 B.m) = subf B.m (mergeSt A B).m := by unfold k0_pay19; rw [pay17_eq A B, pay15_eq]

theorem pay22_eq : k0_pay22 A.m (up4 B.m) = (mergeSt A B).m := by unfold k0_pay22 mergeSt; rw [pay21_eq]
theorem pay23_eq : k0_pay23 A.m (up4 B.m) = exp (subf A.m (mergeSt A B).m) := by unfold k0_pay23; rw [pay22_eq A B]
theorem pay24_eq : k0_pay24 A.m (up4 B.m) = exp (subf B.m (mergeSt A B).m) := by
  unfold k0_pay24; rw [pay22_eq A B, pay21_eq]
/-- The accumulator after the two halves of a device and the neighbour's first half are merged. -/
theorem pay25_eq : k0_pay25 A.acc B.acc (mergeSt A B).m (exp (subf A.m (mergeSt A B).m)) (subf B.m (mergeSt A B).m)
    (upA R.acc) (up4 R.m) = (mergeSt (mergeSt A B) (rt R)).acc := by
  unfold k0_pay25 k0_pay20
  rw [show R.m = (rt R).m from rfl, pay23_eq (mergeSt A B) (rt R), pay24_eq (mergeSt A B) (rt R)]
  dsimp only
  rw [shapeCast_shapeCast]
  rfl
theorem pay26_eq : k0_pay26 A.l B.l (mergeSt A B).m (exp (subf A.m (mergeSt A B).m)) (subf B.m (mergeSt A B).m)
    (up4 R.m) (up4 R.l) = (mergeSt (mergeSt A B) (rt R)).l := by
  unfold k0_pay26 k0_pay20
  rw [show R.m = (rt R).m from rfl, pay23_eq (mergeSt A B) (rt R), pay24_eq (mergeSt A B) (rt R)]
  dsimp only
  rw [shapeCast_shapeCast]
  rfl

theorem pay29_eq : k0_pay29 A.m R.m = (mergeSt A (rt R)).m := rfl
theorem pay32_eq : k0_pay32 A.m A.acc (rt R).acc R.m = (mergeSt A (rt R)).acc := rfl
theorem pay33_eq : k0_pay33 A.m A.l R.m (up4 R.l) = (mergeSt A (rt R)).l := by
  unfold k0_pay33; dsimp only; rw [shapeCast_shapeCast]; rfl
theorem pay34_eq : k0_pay34 A.m A.acc (rt R).acc R.m = upA (mergeSt A (rt R)).acc := rfl
theorem pay35_eq : k0_pay35 A.m R.m = up4 (mergeSt A (rt R)).m := rfl
theorem pay36_eq : k0_pay36 A.m A.l R.m (up4 R.l) = up4 (mergeSt A (rt R)).l := by
  unfold k0_pay36; rw [pay33_eq]

theorem pay38_eq : k0_pay38 A.m (up4 R.m) = (mergeSt A (rt R)).m := by unfold k0_pay38; rw [pay37_eq]; rfl
theorem pay39_eq : k0_pay39 A.m (up4 R.m) = exp (subf A.m (mergeSt A (rt R)).m) := by unfold k0_pay39; rw [pay38_eq]
theorem pay40_eq : k0_pay40 A.m (up4 R.m) = exp (subf R.m (mergeSt A (rt R)).m) := by
  unfold k0_pay40; rw [pay38_eq, pay37_eq]
theorem pay41_eq : k0_pay41 A.m A.acc (upA R.acc) (up4 R.m) = (mergeSt A (rt R)).acc := by
  unfold k0_pay41; rw [pay39_eq, pay40_eq]; dsimp only; rw [shapeCast_shapeCast]; rfl
theorem pay42_eq : k0_pay42 A.m A.l (up4 R.m) (up4 R.l) = (mergeSt A (rt R)).l := by
  unfold k0_pay42; rw [pay39_eq, pay40_eq]; dsimp only; rw [shapeCast_shapeCast]; rfl
theorem pay43_eq : k0_pay43 A.m A.acc (upA R.acc) (up4 R.m) = upA (mergeSt A (rt R)).acc := by
  unfold k0_pay43; rw [pay41_eq]
theorem pay49_eq : k0_pay49 A.m (up4 R.m) = (mergeSt A (rt R)).m := by unfold k0_pay49; rw [pay47_eq]; rfl
theorem pay50_eq : k0_pay50 A.m (up4 R.m) = subf A.m (mergeSt A (rt R)).m := by unfold k0_pay50; rw [pay49_eq]
theorem pay51_eq : k0_pay51 A.acc A.l (rt R).acc R.m R.l (mergeSt A (rt R)).m (subf A.m (mergeSt A (rt R)).m)
    = fin (mergeSt A (rt R)) := rfl

end Pays

end Cert.Proof.KV
-- ==== Proof.Parts.lean ====
/-
  The kernel's parts, one lemma each: what a part needs and what it leaves.
-/
module

public import proofs.«01_k».proof.Proof.Waits
public import proofs.«01_k».proof.Proof.Flow

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-- The staged blocks of a grid point: queries, keys, values, counts, and the output. -/
structure Blk where
  q : Memref sig .tc .vmem S16x32x128 .f32
  hq : q.IsWhole
  K : Memref sig .tc .vmem S8x32x16x128 .f32
  hK : K.IsWhole
  V : Memref sig .tc .vmem S8x32x16x128 .f32
  hV : V.IsWhole
  W : Memref sig .tc .vmem S32x256 .f32
  hW : W.IsWhole
  o : Memref sig .tc .vmem S32x1x16x128 .f32
  ho : o.IsWhole

/-- The four slots. -/
abbrev s0 : Fin 4 := ⟨0, by decide⟩
@[inherit_doc s0] abbrev s1 : Fin 4 := ⟨1, by decide⟩
@[inherit_doc s0] abbrev s2 : Fin 4 := ⟨2, by decide⟩
@[inherit_doc s0] abbrev s3 : Fin 4 := ⟨3, by decide⟩

theorem owe_ar0 (c : Dev nD) : owe c (10 + 1) = owe c 10 + tallyAt (cell (nb (ax s0) c) (.own (.ar s0))) 2 NA := by
  rw [show nb (ax s0) c = nb 0 c from rfl, show s0 = 0 from rfl]; rfl
theorem owe_sr0 (c : Dev nD) : owe c (9 + 1) = owe c 9 + tallyAt (cell (nb (ax s0) c) (.own (.sr s0))) 2 NS := by
  rw [show nb (ax s0) c = nb 0 c from rfl, show s0 = 0 from rfl]; rfl
theorem owe_ar1 (c : Dev nD) : owe c (8 + 1) = owe c 8 + tallyAt (cell (nb (ax s1) c) (.own (.ar s1))) 2 NA := by
  rw [show nb (ax s1) c = nb 0 c from rfl, show s1 = 1 from rfl]; rfl
theorem owe_sr1 (c : Dev nD) : owe c (7 + 1) = owe c 7 + tallyAt (cell (nb (ax s1) c) (.own (.sr s1))) 2 NS := by
  rw [show nb (ax s1) c = nb 0 c from rfl, show s1 = 1 from rfl]; rfl
theorem owe_ar2 (c : Dev nD) : owe c (6 + 1) = owe c 6 + tallyAt (cell (nb (ax s2) c) (.own (.ar s2))) 3 NA := by
  rw [show nb (ax s2) c = nb 1 c from rfl, show s2 = 2 from rfl]; rfl
theorem owe_sr2 (c : Dev nD) : owe c (5 + 1) = owe c 5 + tallyAt (cell (nb (ax s2) c) (.own (.sr s2))) 3 NS := by
  rw [show nb (ax s2) c = nb 1 c from rfl, show s2 = 2 from rfl]; rfl
theorem owe_ar3 (c : Dev nD) : owe c (4 + 1) = owe c 4 + tallyAt (cell (nb (ax s3) c) (.own (.ar s3))) 4 NA := by
  rw [show nb (ax s3) c = nb 2 c from rfl, show s3 = 3 from rfl]; rfl
theorem owe_sr3 (c : Dev nD) : owe c (3 + 1) = owe c 3 + tallyAt (cell (nb (ax s3) c) (.own (.sr s3))) 4 NS := by
  rw [show nb (ax s3) c = nb 2 c from rfl, show s3 = 3 from rfl]; rfl

theorem lt0 : 0 < 4 := by decide
theorem lt1 : 1 < 4 := by decide
theorem lt2 : 2 < 4 := by decide
theorem lt3 : 3 < 4 := by decide
theorem lk0 : 0 < 2 := by decide
theorem lk1 : 1 < 2 := by decide

/-! ### Slots at states -/

section AtStates

variable (c : Dev nD) (g : Fin 4 → St F)

theorem saLdS (n : ℕ) (hn : n < 4) (inb hl) (Kt : Vec F S1x16x32x128 .bf16 → sProp 𝕄) :
    iprop(pSa c ⟨n, hn⟩ (SACC g))
      ⊢ iprop((pSa c ⟨n, hn⟩ (SACC g) -∗ Kt (upA (g ⟨n, hn⟩).acc))
        -∗ wp frame (wpE (defs₀ (F := F)) 𝒱₀ (c : Thread nD τ) none) Set.univ (Prog.lift (.load saccM (Rect.unit (s := S4x16x32x128) ![n, 0, 0, 0] S1x16x32x128.size inb).toLoadRect hl)) Kt) :=
  saLd c (fun s => truncf .bf16 (g s).acc bitsLt_bf16_f32) n hn inb hl Kt

theorem raLdS (n : ℕ) (hn : n < 4) (inb hl) (Kt : Vec F S1x16x32x128 .bf16 → sProp 𝕄) :
    iprop(pRa c ⟨n, hn⟩ (SACC g))
      ⊢ iprop((pRa c ⟨n, hn⟩ (SACC g) -∗ Kt (upA (g ⟨n, hn⟩).acc))
        -∗ wp frame (wpE (defs₀ (F := F)) 𝒱₀ (c : Thread nD τ) none) Set.univ (Prog.lift (.load raccM (Rect.unit (s := S4x16x32x128) ![n, 0, 0, 0] S1x16x32x128.size inb).toLoadRect hl)) Kt) :=
  raLd c (fun s => truncf .bf16 (g s).acc bitsLt_bf16_f32) n hn inb hl Kt

theorem ssLdM (n : ℕ) (hn : n < 4) (inb hl) (Kt : Vec F S1x1x16x32 .f32 → sProp 𝕄) :
    iprop(pSs c ⟨n, hn⟩ (SST g))
      ⊢ iprop((pSs c ⟨n, hn⟩ (SST g) -∗ Kt (up4 (g ⟨n, hn⟩).m))
        -∗ wp frame (wpE (defs₀ (F := F)) 𝒱₀ (c : Thread nD τ) none) Set.univ (Prog.lift (.load sstM (Rect.unit (s := S4x2x16x32) ![n, 0, 0, 0] S1x1x16x32.size inb).toLoadRect hl)) Kt) := by
  have h := ssLd1 c (fun s => pack (g s).m (g s).l) n 0 hn (by decide) inb hl Kt
  rw [show (⟨0, by decide⟩ : Fin 2) = 0 from rfl, plane_pack_zero] at h
  exact h

theorem ssLdL (n : ℕ) (hn : n < 4) (inb hl) (Kt : Vec F S1x1x16x32 .f32 → sProp 𝕄) :
    iprop(pSs c ⟨n, hn⟩ (SST g))
      ⊢ iprop((pSs c ⟨n, hn⟩ (SST g) -∗ Kt (up4 (g ⟨n, hn⟩).l))
        -∗ wp frame (wpE (defs₀ (F := F)) 𝒱₀ (c : Thread nD τ) none) Set.univ (Prog.lift (.load sstM (Rect.unit (s := S4x2x16x32) ![n, 1, 0, 0] S1x1x16x32.size inb).toLoadRect hl)) Kt) := by
  have h := ssLd1 c (fun s => pack (g s).m (g s).l) n 1 hn (by decide) inb hl Kt
  rw [show (⟨1, by decide⟩ : Fin 2) = 1 from rfl, plane_pack_one] at h
  exact h

theorem rsLdM (n : ℕ) (hn : n < 4) (inb hl) (Kt : Vec F S1x1x16x32 .f32 → sProp 𝕄) :
    iprop(pRs c ⟨n, hn⟩ (SST g))
      ⊢ iprop((pRs c ⟨n, hn⟩ (SST g) -∗ Kt (up4 (g ⟨n, hn⟩).m))
        -∗ wp frame (wpE (defs₀ (F := F)) 𝒱₀ (c : Thread nD τ) none) Set.univ (Prog.lift (.load rstM (Rect.unit (s := S4x2x16x32) ![n, 0, 0, 0] S1x1x16x32.size inb).toLoadRect hl)) Kt) := by
  have h := rsLd1 c (fun s => pack (g s).m (g s).l) n 0 hn (by decide) inb hl Kt
  rw [show (⟨0, by decide⟩ : Fin 2) = 0 from rfl, plane_pack_zero] at h
  exact h

theorem rsLdL (n : ℕ) (hn : n < 4) (inb hl) (Kt : Vec F S1x1x16x32 .f32 → sProp 𝕄) :
    iprop(pRs c ⟨n, hn⟩ (SST g))
      ⊢ iprop((pRs c ⟨n, hn⟩ (SST g) -∗ Kt (up4 (g ⟨n, hn⟩).l))
        -∗ wp frame (wpE (defs₀ (F := F)) 𝒱₀ (c : Thread nD τ) none) Set.univ (Prog.lift (.load rstM (Rect.unit (s := S4x2x16x32) ![n, 1, 0, 0] S1x1x16x32.size inb).toLoadRect hl)) Kt) := by
  have h := rsLd1 c (fun s => pack (g s).m (g s).l) n 1 hn (by decide) inb hl Kt
  rw [show (⟨1, by decide⟩ : Fin 2) = 1 from rfl, plane_pack_one] at h
  exact h

theorem saStS (f : Vec F S4x16x32x128 .bf16) (n : ℕ) (hn : n < 4) (w' : Vec F S1x16x32x128 .bf16)
    (hw : w' = upA (g ⟨n, hn⟩).acc) (inb hx hm) (Kt : PUnit → sProp 𝕄) :
    iprop(pSa c ⟨n, hn⟩ f)
      ⊢ iprop((pSa c ⟨n, hn⟩ (SACC g) -∗ Kt ⟨⟩)
        -∗ wp frame (wpE (defs₀ (F := F)) 𝒱₀ (c : Thread nD τ) none) Set.univ (Prog.lift (.store saccM (Rect.unit (s := S4x16x32x128) ![n, 0, 0, 0] S1x16x32x128.size inb) w' Finset.univ hx hm)) Kt) :=
  saSt c (fun s => truncf .bf16 (g s).acc bitsLt_bf16_f32) f n hn w' hw inb hx hm Kt

theorem ssStS (f : Vec F S4x2x16x32 .f32) (n : ℕ) (hn : n < 4) (w' : Vec F S1x2x16x32 .f32)
    (hw : w' = shapeCast S1x2x16x32 (pack (g ⟨n, hn⟩).m (g ⟨n, hn⟩).l) shapeCasts_S2x16x32_S1x2x16x32) (inb hx hm) (Kt : PUnit → sProp 𝕄) :
    iprop(pSs c ⟨n, hn⟩ f)
      ⊢ iprop((pSs c ⟨n, hn⟩ (SST g) -∗ Kt ⟨⟩)
        -∗ wp frame (wpE (defs₀ (F := F)) 𝒱₀ (c : Thread nD τ) none) Set.univ (Prog.lift (.store sstM (Rect.unit (s := S4x2x16x32) ![n, 0, 0, 0] S1x2x16x32.size inb) w' Finset.univ hx hm)) Kt) :=
  ssSt c (fun s => pack (g s).m (g s).l) f n hn w' hw inb hx hm Kt

theorem ssStLS (f : Vec F S4x2x16x32 .f32) (n : ℕ) (hn : n < 4) (m : FVec F S16x32 .f32) (w' : Vec F S1x1x16x32 .f32)
    (hw : w' = up4 (g ⟨n, hn⟩).l) (hg : m = (g ⟨n, hn⟩).m) (inb inb' hx hm) (Kt : PUnit → sProp 𝕄) :
    iprop(pSs c ⟨n, hn⟩ (half f n inb m))
      ⊢ iprop((pSs c ⟨n, hn⟩ (SST g) -∗ Kt ⟨⟩)
        -∗ wp frame (wpE (defs₀ (F := F)) 𝒱₀ (c : Thread nD τ) none) Set.univ (Prog.lift (.store sstM (Rect.unit (s := S4x2x16x32) ![n, 1, 0, 0] S1x1x16x32.size inb') w' Finset.univ hx hm)) Kt) :=
  ssStL c (fun s => pack (g s).m (g s).l) f n hn m (g ⟨n, hn⟩).l w' hw (by subst hg; rfl) inb inb' hx hm Kt

end AtStates

section Parts

variable (κ : GSem nD τ sig → ℕ) (SA : Slots F) (c : Dev nD)

theorem pay_bar (a : Fin 3) : pay SA (nb a c) .bar a = barGift (F := F) a c := by
  show barGift a (nb a (nb a c)) = _
  rw [nb_nb]
theorem pay_ex (d : Dev nD) (a : Fin 3) : pay SA d (.own .ex) a = (iprop(emp) : sProp 𝕄) := rfl

/-- The barrier and the reset of a device's state at its first grid point. -/
theorem part1 (i : grid0.Coords) (B : Blk) (v2 v5 v8 v9 v10 v11 : BitVec 32) (h1 : k0_cond1 i = 1#1) (fa : Vec F S16x32x128 .f32) (m l : FVec F S16x32 .f32) (Kt : FVec F S16x32 .f32 → sProp 𝕄) :
    iprop(ctx κ SA c ∗ ow c 14 ∗ dutyTok ER (cell (nb 0 c) .bar) 0 0 ∗ barGift (F := F) 0 c ∗ dutyTok ER (cell (nb 1 c) .bar) 0 1 ∗ barGift (F := F) 1 c ∗ dutyTok ER (cell (nb 2 c) .bar) 0 2 ∗ barGift (F := F) 2 c ∗ atPos ER (cell c .bar) 0 ∅ 0 ∗ cred (tallyAt (cell c .bar) 1 3) ∗ pAcc c fa ∗ pSt c (pack m l))
      ⊢ iprop((ow c 11 -∗ atPos ER (cell c .bar) 1 ∅ 0 -∗ barGift (F := F) 0 (nb 0 c) -∗ barGift (F := F) 1 (nb 1 c) -∗ barGift (F := F) 2 (nb 2 c) -∗ pAcc c (initSt (F := F)).acc -∗ pSt c (pack (initSt (F := F)).m l) -∗ Kt (initSt (F := F)).l)
        -∗ wp frame (wpE (defs₀ (F := F)) 𝒱₀ (c : Thread nD τ) none) Set.univ
          (k0_part1 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v5 v8 v9 v10 v11 h1) Kt) := by
  rw [k0_part1_eq_skeleton]; unfold k0_part1_skel
  simp only [wp_bind]
  iintro ⟨#Hctx, HO, Hdb0, Hgift0, Hdb1, Hgift1, Hdb2, Hgift2, Hat_bar, Hcr_bar, Hacc, Hst⟩ Hk
  iapply (sigStep κ SA c .bar barS rfl rfl 0 (by decide) 13 1 _ (dev1_eq c _) rfl _) $$ [HO Hdb0 Hgift0]
  · isplitr; · iexact Hctx
    isplitl [HO]; · iexact HO
    isplitl [Hdb0]; · iexact Hdb0
    isplitl [Hgift0]; · rw [pay_bar]; iexact Hgift0
    iapply (ctx_bar κ SA c (nb 0 c)); iexact Hctx
  iintro HO
  iapply (sigStep κ SA c .bar barS rfl rfl 1 (by decide) 12 1 _ (dev2_eq c _) rfl _) $$ [HO Hdb1 Hgift1]
  · isplitr; · iexact Hctx
    isplitl [HO]; · iexact HO
    isplitl [Hdb1]; · iexact Hdb1
    isplitl [Hgift1]; · rw [pay_bar]; iexact Hgift1
    iapply (ctx_bar κ SA c (nb 1 c)); iexact Hctx
  iintro HO
  iapply (sigStep κ SA c .bar barS rfl rfl 2 (by decide) 11 1 _ (dev3_eq c _) rfl _) $$ [HO Hdb2 Hgift2]
  · isplitr; · iexact Hctx
    isplitl [HO]; · iexact HO
    isplitl [Hdb2]; · iexact Hdb2
    isplitl [Hgift2]; · rw [pay_bar]; iexact Hgift2
    iapply (ctx_bar κ SA c (nb 2 c)); iexact Hctx
  iintro HO
  iapply (waitBar κ SA c 11 (by decide) _) $$ [HO Hat_bar Hcr_bar]
  · isplitr; · iexact Hctx
    isplitl [HO]; · iexact HO
    isplitl [Hat_bar]; · iexact Hat_bar
    iexact Hcr_bar
  iintro HO Hat_bar ⟨Hg0, Hg1, Hg2⟩
  ihave Hg0 := (Entails.of_eq (show pay SA c .bar 0 = barGift (F := F) 0 (nb 0 c) from rfl)) $$ Hg0
  ihave Hg1 := (Entails.of_eq (show pay SA c .bar 1 = barGift (F := F) 1 (nb 1 c) from rfl)) $$ Hg1
  ihave Hg2 := (Entails.of_eq (show pay SA c .bar 2 = barGift (F := F) 2 (nb 2 c) from rfl)) $$ Hg2
  iapply (accLd c _ _ _ _) $$ Hacc
  iintro Hacc
  rw [show k0_pay5 (F := F) = (initSt (F := F)).acc from shapeCast_self _ _]
  iapply (accSt c _ _ _ _ _ _) $$ Hacc
  iintro Hacc
  iapply (stLd0 c _ _ _ _ _) $$ Hst
  iintro Hst
  iapply (stSt0 c _ _ (initSt (F := F)).m _ (by unfold k0_pay6 initSt; rfl) _ _ _ _) $$ Hst
  iintro Hst
  rw [show k0_pay7 (F := F) = (initSt (F := F)).l from rfl]
  iapply (le_wp_ret _ _)
  iapply Hk $$ HO Hat_bar Hg0 Hg1 Hg2 Hacc Hst

/-- A grid point's step on the device's state, but for its last store. -/
theorem part18 (i : grid0.Coords) (B : Blk) (v22 : FVec F S256x16x128 .f32) (v24 : FVec F S32x256 .f32) (v27 : FVec F S16x32x256 .f32) (v29 : IVec S32x256 1) (s : St F) (Kt : (Σ' (_ : FVec F S16x32 .f32), Vec F S1x16x32 .f32) → sProp 𝕄) :
    iprop(ctx κ SA c ∗ pSt c (pack s.m s.l) ∗ pAcc c s.acc)
      ⊢ iprop((pSt c (pack (k0_pay59 v27 v29 (up3 s.m)) s.l) -∗ pAcc c (k0_pay63 v22 v24 v27 v29 (up3 s.m) s.acc) -∗ Kt ⟨k0_pay62 v24 v27 v29 (up3 s.m) (up3 s.l), up3 s.l⟩)
        -∗ wp frame (wpE (defs₀ (F := F)) 𝒱₀ (c : Thread nD τ) none) Set.univ
          (k0_part18 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v22 v24 v27 v29) Kt) := by
  rw [k0_part18_eq_skeleton]; unfold k0_part18_skel
  simp only [wp_bind]
  iintro ⟨#Hctx, Hst, Hacc⟩ Hk
  iapply (stLd0 c _ _ _ _ _) $$ Hst
  iintro Hst
  iapply (stLd1 c _ _ _ _ _) $$ Hst
  iintro Hst
  iapply (accLd c _ _ _ _) $$ Hacc
  iintro Hacc
  iapply (accLd c _ _ _ _) $$ Hacc
  iintro Hacc
  iapply (accSt c _ _ _ _ _ _) $$ Hacc
  iintro Hacc
  iapply (stLd0 c _ _ _ _ _) $$ Hst
  iintro Hst
  iapply (stSt0 c _ _ (k0_pay59 v27 v29 (up3 s.m)) _ rfl _ _ _ _) $$ Hst
  iintro Hst
  iapply (stLd1 c _ _ _ _ _) $$ Hst
  iintro Hst
  iapply (le_wp_ret _ _)
  iapply Hk $$ Hst Hacc

/-- The state goes into slot 0, and the copy of its accumulator starts. -/
theorem part2 (i : grid0.Coords) (B : Blk) (v2 v5 v9 : BitVec 32) (h2 : k0_cond2 i = 1#1) (fa : Vec F S4x16x32x128 .bf16) (fs : Vec F S4x2x16x32 .f32) (Kt : BitVec 32 → sProp 𝕄) :
    iprop(ctx κ SA c ∗ reached ER (cell (nb (ax s0) c) (.own (.ar s0))) 0 ∗ pAcc c (SA c s0).acc ∗ pSa c s0 fa ∗ pSt c (pack (SA c s0).m (SA c s0).l) ∗ pSs c s0 fs ∗ ow c 11 ∗ (∃ f, pRa (F := F) (nb (ax s0) c) s0 f) ∗ dutyTok ER (cell c (.own (.as s0))) 0 0 ∗ dutyTok ER (cell (nb (ax s0) c) (.own (.ar s0))) 0 0)
      ⊢ iprop((pAcc c (SA c s0).acc -∗ pSt c (pack (SA c s0).m (SA c s0).l) -∗ pSs c s0 (SST (SA c)) -∗ ow c 10 -∗ cred (tallyAt (cell c (.own (.as s0))) 0 NA) -∗ Kt (Scalar.muli v2 4#32))
        -∗ wp frame (wpE (defs₀ (F := F)) 𝒱₀ (c : Thread nD τ) none) Set.univ
          (k0_part2 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v5 v9 h2) Kt) := by
  rw [k0_part2_eq_skeleton]; unfold k0_part2_skel
  simp only [wp_bind]
  iintro ⟨#Hctx, #Hre_ar0, Hacc, HpSa0, Hst, HpSs0, HO, HgpRa0, Hd_as0, Hd_ar0⟩ Hk
  iapply (accLd c _ _ _ _) $$ Hacc
  iintro Hacc
  iapply (saLdAny c _ 0 lt0 _ _ _) $$ HpSa0
  iintro %_ HpSa0
  iapply (saStS c (SA c) _ 0 lt0 _ (by rfl) _ _ _ _) $$ HpSa0
  iintro HpSa0
  iapply (stLdAll c _ _ _ _) $$ Hst
  iintro Hst
  iapply (ssLdAny c _ 0 lt0 _ _ _) $$ HpSs0
  iintro %_ HpSs0
  iapply (ssStS c (SA c) _ 0 lt0 _ (by rfl) _ _ _ _) $$ HpSs0
  iintro HpSs0
  iapply (sendA κ SA c 0 lt0 10 2 _ (dev4_eq c _) (owe_ar0 c) _ _ _ _ rfl rfl _ _ _ _ _) $$ [HO HpSa0 HgpRa0 Hd_as0 Hd_ar0]
  · isplitr; · iexact Hctx
    isplitl [HO]; · iexact HO
    isplitl [HpSa0]; · iexact HpSa0
    isplitl [HgpRa0]; · iexact HgpRa0
    isplitl [Hd_as0]; · iexact Hd_as0
    isplitl [Hd_ar0]; · iexact Hd_ar0
    iexact Hre_ar0
  iintro HO Hcr_as0
  iapply (le_wp_ret _ _)
  iapply Hk $$ Hacc Hst HpSs0 HO Hcr_as0

/-- The state goes into slot 1, and the copy of its accumulator starts. -/
theorem part3 (i : grid0.Coords) (B : Blk) (v2 v5 v9 : BitVec 32) (h3 : k0_cond3 i = 1#1) (fa : Vec F S4x16x32x128 .bf16) (fs : Vec F S4x2x16x32 .f32) (Kt : BitVec 32 → sProp 𝕄) :
    iprop(ctx κ SA c ∗ reached ER (cell (nb (ax s1) c) (.own (.ar s1))) 0 ∗ pAcc c (SA c s1).acc ∗ pSa c s1 fa ∗ pSt c (pack (SA c s1).m (SA c s1).l) ∗ pSs c s1 fs ∗ ow c 9 ∗ (∃ f, pRa (F := F) (nb (ax s1) c) s1 f) ∗ dutyTok ER (cell c (.own (.as s1))) 0 0 ∗ dutyTok ER (cell (nb (ax s1) c) (.own (.ar s1))) 0 0)
      ⊢ iprop((pAcc c (SA c s1).acc -∗ pSt c (pack (SA c s1).m (SA c s1).l) -∗ pSs c s1 (SST (SA c)) -∗ ow c 8 -∗ cred (tallyAt (cell c (.own (.as s1))) 0 NA) -∗ Kt (Scalar.muli v2 4#32))
        -∗ wp frame (wpE (defs₀ (F := F)) 𝒱₀ (c : Thread nD τ) none) Set.univ
          (k0_part3 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v5 v9 h3) Kt) := by
  rw [k0_part3_eq_skeleton]; unfold k0_part3_skel
  simp only [wp_bind]
  iintro ⟨#Hctx, #Hre_ar1, Hacc, HpSa1, Hst, HpSs1, HO, HgpRa1, Hd_as1, Hd_ar1⟩ Hk
  iapply (accLd c _ _ _ _) $$ Hacc
  iintro Hacc
  iapply (saLdAny c _ 1 lt1 _ _ _) $$ HpSa1
  iintro %_ HpSa1
  iapply (saStS c (SA c) _ 1 lt1 _ (by rfl) _ _ _ _) $$ HpSa1
  iintro HpSa1
  iapply (stLdAll c _ _ _ _) $$ Hst
  iintro Hst
  iapply (ssLdAny c _ 1 lt1 _ _ _) $$ HpSs1
  iintro %_ HpSs1
  iapply (ssStS c (SA c) _ 1 lt1 _ (by rfl) _ _ _ _) $$ HpSs1
  iintro HpSs1
  iapply (sendA κ SA c 1 lt1 8 2 _ (dev6_eq c _) (owe_ar1 c) _ _ _ _ rfl rfl _ _ _ _ _) $$ [HO HpSa1 HgpRa1 Hd_as1 Hd_ar1]
  · isplitr; · iexact Hctx
    isplitl [HO]; · iexact HO
    isplitl [HpSa1]; · iexact HpSa1
    isplitl [HgpRa1]; · iexact HgpRa1
    isplitl [Hd_as1]; · iexact Hd_as1
    isplitl [Hd_ar1]; · iexact Hd_ar1
    iexact Hre_ar1
  iintro HO Hcr_as1
  iapply (le_wp_ret _ _)
  iapply Hk $$ Hacc Hst HpSs1 HO Hcr_as1

/-- The copy of the statistics of slot 1 starts, and the sent accumulator of slot 0 comes back. -/
theorem part4 (i : grid0.Coords) (B : Blk) (v2 v5 v9 v97 : BitVec 32) (h3 : k0_cond3 i = 1#1) (Kt : PUnit → sProp 𝕄) :
    iprop(ctx κ SA c ∗ reached ER (cell (nb (ax s1) c) (.own (.sr s1))) 0 ∗ ow c 8 ∗ pSs c s1 (SST (SA c)) ∗ (∃ f, pRs (F := F) (nb (ax s1) c) s1 f) ∗ dutyTok ER (cell c (.own (.ss s1))) 0 0 ∗ dutyTok ER (cell (nb (ax s1) c) (.own (.sr s1))) 0 0 ∗ atPos ER (cell c (.own (.as s0))) 0 ∅ 0 ∗ cred (tallyAt (cell c (.own (.as s0))) 0 NA))
      ⊢ iprop((ow c 7 -∗ cred (tallyAt (cell c (.own (.ss s1))) 0 NS) -∗ atPos ER (cell c (.own (.as s0))) 1 ∅ 0 -∗ pSa c s0 (SACC (SA c)) -∗ Kt ⟨⟩)
        -∗ wp frame (wpE (defs₀ (F := F)) 𝒱₀ (c : Thread nD τ) none) Set.univ
          (k0_part4 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v5 v9 h3 v97) Kt) := by
  rw [k0_part4_eq_skeleton]; unfold k0_part4_skel
  simp only [wp_bind]
  iintro ⟨#Hctx, #Hre_sr1, HO, HpSs1, HgpRs1, Hd_ss1, Hd_sr1, Hat_as0, Hcr_as0⟩ Hk
  iapply (sendS κ SA c 1 lt1 7 2 _ (dev7_eq c _) (owe_sr1 c) _ _ _ _ rfl rfl _ _ _ _ _) $$ [HO HpSs1 HgpRs1 Hd_ss1 Hd_sr1]
  · isplitr; · iexact Hctx
    isplitl [HO]; · iexact HO
    isplitl [HpSs1]; · iexact HpSs1
    isplitl [HgpRs1]; · iexact HgpRs1
    isplitl [Hd_ss1]; · iexact Hd_ss1
    isplitl [Hd_sr1]; · iexact Hd_sr1
    iexact Hre_sr1
  iintro HO Hcr_ss1
  iapply (waitAs κ SA c 0 lt0 7 (by decide) _ rfl _ _ _ _ _) $$ [HO Hat_as0 Hcr_as0]
  · iframe; iexact Hctx
  iintro HO Hat_as0 HpSa0
  iapply (le_wp_ret _ _)
  iapply Hk $$ HO Hcr_ss1 Hat_as0 HpSa0

/-- Waits for slot 0. -/
theorem part5 (i : grid0.Coords) (B : Blk) (v2 v5 v9 : BitVec 32) (Kt : PUnit → sProp 𝕄) :
    iprop(ctx κ SA c ∗ ow c 7 ∗ atPos ER (cell c (.own (.ar s0))) 0 ∅ 0 ∗ cred (tallyAt (cell c (.own (.ar s0))) 2 NA) ∗ atPos ER (cell c (.own (.ss s0))) 0 ∅ 0 ∗ cred (tallyAt (cell c (.own (.ss s0))) 0 NS) ∗ atPos ER (cell c (.own (.sr s0))) 0 ∅ 0 ∗ cred (tallyAt (cell c (.own (.sr s0))) 2 NS))
      ⊢ iprop((ow c 7 -∗ atPos ER (cell c (.own (.ar s0))) 1 ∅ 0 -∗ pRa c s0 (SACC (SA (nb (ax s0) c))) -∗ atPos ER (cell c (.own (.ss s0))) 1 ∅ 0 -∗ pSs c s0 (SST (SA c)) -∗ atPos ER (cell c (.own (.sr s0))) 1 ∅ 0 -∗ pRs c s0 (SST (SA (nb (ax s0) c))) -∗ Kt ⟨⟩)
        -∗ wp frame (wpE (defs₀ (F := F)) 𝒱₀ (c : Thread nD τ) none) Set.univ
          (k0_part5 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v5 v9) Kt) := by
  rw [k0_part5_eq_skeleton]; unfold k0_part5_skel
  simp only [wp_bind]
  iintro ⟨#Hctx, HO, Hat_ar0, Hcr_ar0, Hat_ss0, Hcr_ss0, Hat_sr0, Hcr_sr0⟩ Hk
  iapply (waitAr κ SA c 0 lt0 7 2 (by decide) (by decide) _ rfl _ _ _ _ _) $$ [HO Hat_ar0 Hcr_ar0]
  · iframe; iexact Hctx
  iintro HO Hat_ar0 HpRa0
  iapply (waitSs κ SA c 0 lt0 7 (by decide) _ rfl _ _ _ _ _) $$ [HO Hat_ss0 Hcr_ss0]
  · iframe; iexact Hctx
  iintro HO Hat_ss0 HpSs0
  iapply (waitSr κ SA c 0 lt0 7 2 (by decide) (by decide) _ rfl _ _ _ _ _) $$ [HO Hat_sr0 Hcr_sr0]
  · iframe; iexact Hctx
  iintro HO Hat_sr0 HpRs0
  iapply (le_wp_ret _ _)
  iapply Hk $$ HO Hat_ar0 HpRa0 Hat_ss0 HpSs0 Hat_sr0 HpRs0

/-- Waits for slot 1. -/
theorem part6 (i : grid0.Coords) (B : Blk) (v2 v5 v9 : BitVec 32) (Kt : PUnit → sProp 𝕄) :
    iprop(ctx κ SA c ∗ ow c 7 ∗ atPos ER (cell c (.own (.as s1))) 0 ∅ 0 ∗ cred (tallyAt (cell c (.own (.as s1))) 0 NA) ∗ atPos ER (cell c (.own (.ar s1))) 0 ∅ 0 ∗ cred (tallyAt (cell c (.own (.ar s1))) 2 NA) ∗ atPos ER (cell c (.own (.ss s1))) 0 ∅ 0 ∗ cred (tallyAt (cell c (.own (.ss s1))) 0 NS))
      ⊢ iprop((ow c 7 -∗ atPos ER (cell c (.own (.as s1))) 1 ∅ 0 -∗ pSa c s1 (SACC (SA c)) -∗ atPos ER (cell c (.own (.ar s1))) 1 ∅ 0 -∗ pRa c s1 (SACC (SA (nb (ax s1) c))) -∗ atPos ER (cell c (.own (.ss s1))) 1 ∅ 0 -∗ pSs c s1 (SST (SA c)) -∗ Kt ⟨⟩)
        -∗ wp frame (wpE (defs₀ (F := F)) 𝒱₀ (c : Thread nD τ) none) Set.univ
          (k0_part6 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v5 v9) Kt) := by
  rw [k0_part6_eq_skeleton]; unfold k0_part6_skel
  simp only [wp_bind]
  iintro ⟨#Hctx, HO, Hat_as1, Hcr_as1, Hat_ar1, Hcr_ar1, Hat_ss1, Hcr_ss1⟩ Hk
  iapply (waitAs κ SA c 1 lt1 7 (by decide) _ rfl _ _ _ _ _) $$ [HO Hat_as1 Hcr_as1]
  · iframe; iexact Hctx
  iintro HO Hat_as1 HpSa1
  iapply (waitAr κ SA c 1 lt1 7 2 (by decide) (by decide) _ rfl _ _ _ _ _) $$ [HO Hat_ar1 Hcr_ar1]
  · iframe; iexact Hctx
  iintro HO Hat_ar1 HpRa1
  iapply (waitSs κ SA c 1 lt1 7 (by decide) _ rfl _ _ _ _ _) $$ [HO Hat_ss1 Hcr_ss1]
  · iframe; iexact Hctx
  iintro HO Hat_ss1 HpSs1
  iapply (le_wp_ret _ _)
  iapply Hk $$ HO Hat_as1 HpSa1 Hat_ar1 HpRa1 Hat_ss1 HpSs1

/-- The last wait for slot 1, and the device's two halves begin to be merged. -/
theorem part7 (i : grid0.Coords) (B : Blk) (v2 v5 v9 : BitVec 32) (Kt : (Σ' (_ : FVec F S16x32x128 .f32) (_ : FVec F S16x32 .f32) (_ : Vec F S16x32x128 .f32) (_ : FVec F S16x32 .f32) (_ : FVec F S16x32 .f32) (_ : FVec F S16x32 .f32), FVec F S16x32 .f32) → sProp 𝕄) :
    iprop(ctx κ SA c ∗ ow c 7 ∗ atPos ER (cell c (.own (.sr s1))) 0 ∅ 0 ∗ cred (tallyAt (cell c (.own (.sr s1))) 2 NS) ∗ pSa c s0 (SACC (SA c)) ∗ pSs c s0 (SST (SA c)) ∗ pAcc c (SA c s1).acc ∗ pSt c (pack (SA c s1).m (SA c s1).l))
      ⊢ iprop((ow c 7 -∗ atPos ER (cell c (.own (.sr s1))) 1 ∅ 0 -∗ pRs c s1 (SST (SA (nb (ax s1) c))) -∗ pSa c s0 (SACC (SA c)) -∗ pSs c s0 (SST (SA c)) -∗ pAcc c (SA c s1).acc -∗ pSt c (pack (SA c s1).m (SA c s1).l) -∗ Kt ⟨(rt (SA c s0)).acc, (rt (SA c s0)).l, (SA c s1).acc, (SA c s1).l, (mergeSt (rt (SA c s0)) (SA c s1)).m, (exp (subf (rt (SA c s0)).m (mergeSt (rt (SA c s0)) (SA c s1)).m)), (subf (SA c s1).m (mergeSt (rt (SA c s0)) (SA c s1)).m)⟩)
        -∗ wp frame (wpE (defs₀ (F := F)) 𝒱₀ (c : Thread nD τ) none) Set.univ
          (k0_part7 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v5 v9) Kt) := by
  rw [k0_part7_eq_skeleton]; unfold k0_part7_skel
  simp only [wp_bind]
  have e7 : (⟨k0_pay12 (upA (SA c s0).acc), k0_pay14 (up4 (SA c s0).l), (SA c s1).acc, k0_pay16 (up3 (SA c s1).l), k0_pay17 (up4 (SA c s0).m) (up3 (SA c s1).m),
      k0_pay18 (up4 (SA c s0).m) (up3 (SA c s1).m), k0_pay19 (up4 (SA c s0).m) (up3 (SA c s1).m)⟩ : (Σ' (_ : FVec F S16x32x128 .f32) (_ : FVec F S16x32 .f32) (_ : Vec F S16x32x128 .f32) (_ : FVec F S16x32 .f32) (_ : FVec F S16x32 .f32) (_ : FVec F S16x32 .f32), FVec F S16x32 .f32)) = ⟨(rt (SA c s0)).acc, (rt (SA c s0)).l, (SA c s1).acc, (SA c s1).l, (mergeSt (rt (SA c s0)) (SA c s1)).m, (exp (subf (rt (SA c s0)).m (mergeSt (rt (SA c s0)) (SA c s1)).m)), (subf (SA c s1).m (mergeSt (rt (SA c s0)) (SA c s1)).m)⟩ := by
    rw [pay12_eq, pay14_eq, pay16_eq, show k0_pay17 (up4 (SA c s0).m) (up3 (SA c s1).m) = (mergeSt (rt (SA c s0)) (SA c s1)).m from pay17_eq (rt (SA c s0)) (SA c s1),
      show k0_pay18 (up4 (SA c s0).m) (up3 (SA c s1).m) = _ from pay18_eq (rt (SA c s0)) (SA c s1),
      show k0_pay19 (up4 (SA c s0).m) (up3 (SA c s1).m) = _ from pay19_eq (rt (SA c s0)) (SA c s1)]; rfl
  iintro ⟨#Hctx, HO, Hat_sr1, Hcr_sr1, HpSa0, HpSs0, Hacc, Hst⟩ Hk
  iapply (waitSr κ SA c 1 lt1 7 2 (by decide) (by decide) _ rfl _ _ _ _ _) $$ [HO Hat_sr1 Hcr_sr1]
  · iframe; iexact Hctx
  iintro HO Hat_sr1 HpRs1
  iapply (saLdS c (SA c) 0 lt0 _ _ _) $$ HpSa0
  iintro HpSa0
  iapply (ssLdM c (SA c) 0 lt0 _ _ _) $$ HpSs0
  iintro HpSs0
  iapply (ssLdL c (SA c) 0 lt0 _ _ _) $$ HpSs0
  iintro HpSs0
  iapply (accLd c _ _ _ _) $$ Hacc
  iintro Hacc
  iapply (stLd0 c _ _ _ _ _) $$ Hst
  iintro Hst
  iapply (stLd1 c _ _ _ _ _) $$ Hst
  iintro Hst
  rw [← e7]
  iapply (le_wp_ret _ _)
  iapply Hk $$ HO Hat_sr1 HpRs1 HpSa0 HpSs0 Hacc Hst

/-- The neighbour's first half is merged in, and its second half read. -/
theorem part8 (i : grid0.Coords) (B : Blk) (Kt : (Σ' (_ : FVec F S16x32 .f32) (_ : FVec F S16x32x128 .f32) (_ : FVec F S16x32 .f32) (_ : FVec F S16x32x128 .f32), FVec F S16x32 .f32) → sProp 𝕄) :
    iprop(ctx κ SA c ∗ pRa c s0 (SACC (SA (nb (ax s0) c))) ∗ pRs c s0 (SST (SA (nb (ax s0) c))) ∗ pRa c s1 (SACC (SA (nb (ax s1) c))) ∗ pRs c s1 (SST (SA (nb (ax s1) c))))
      ⊢ iprop((pRa c s0 (SACC (SA (nb (ax s0) c))) -∗ pRs c s0 (SST (SA (nb (ax s0) c))) -∗ pRa c s1 (SACC (SA (nb (ax s1) c))) -∗ pRs c s1 (SST (SA (nb (ax s1) c))) -∗ Kt ⟨(mergeSt (mergeSt (rt (SA c s0)) (SA c s1)) (rt (SA (nb (ax s0) c) s0))).m, (mergeSt (mergeSt (rt (SA c s0)) (SA c s1)) (rt (SA (nb (ax s0) c) s0))).acc, (mergeSt (mergeSt (rt (SA c s0)) (SA c s1)) (rt (SA (nb (ax s0) c) s0))).l, (rt (SA (nb (ax s1) c) s1)).acc, (SA (nb (ax s1) c) s1).m⟩)
        -∗ wp frame (wpE (defs₀ (F := F)) 𝒱₀ (c : Thread nD τ) none) Set.univ
          (k0_part8 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 (rt (SA c s0)).acc (rt (SA c s0)).l (SA c s1).acc (SA c s1).l (mergeSt (rt (SA c s0)) (SA c s1)).m (exp (subf (rt (SA c s0)).m (mergeSt (rt (SA c s0)) (SA c s1)).m)) (subf (SA c s1).m (mergeSt (rt (SA c s0)) (SA c s1)).m)) Kt) := by
  rw [k0_part8_eq_skeleton]; unfold k0_part8_skel
  simp only [wp_bind]
  have e8 : (⟨k0_pay22 (mergeSt (rt (SA c s0)) (SA c s1)).m (up4 (SA (nb (ax s0) c) s0).m), k0_pay25 (rt (SA c s0)).acc (SA c s1).acc (mergeSt (rt (SA c s0)) (SA c s1)).m (exp (subf (rt (SA c s0)).m (mergeSt (rt (SA c s0)) (SA c s1)).m)) (subf (SA c s1).m (mergeSt (rt (SA c s0)) (SA c s1)).m) (upA (SA (nb (ax s0) c) s0).acc) (up4 (SA (nb (ax s0) c) s0).m),
      k0_pay26 (rt (SA c s0)).l (SA c s1).l (mergeSt (rt (SA c s0)) (SA c s1)).m (exp (subf (rt (SA c s0)).m (mergeSt (rt (SA c s0)) (SA c s1)).m)) (subf (SA c s1).m (mergeSt (rt (SA c s0)) (SA c s1)).m) (up4 (SA (nb (ax s0) c) s0).m) (up4 (SA (nb (ax s0) c) s0).l), k0_pay27 (upA (SA (nb (ax s1) c) s1).acc), k0_pay28 (up4 (SA (nb (ax s1) c) s1).m)⟩ : (Σ' (_ : FVec F S16x32 .f32) (_ : FVec F S16x32x128 .f32) (_ : FVec F S16x32 .f32) (_ : FVec F S16x32x128 .f32), FVec F S16x32 .f32)) = ⟨(mergeSt (mergeSt (rt (SA c s0)) (SA c s1)) (rt (SA (nb (ax s0) c) s0))).m, (mergeSt (mergeSt (rt (SA c s0)) (SA c s1)) (rt (SA (nb (ax s0) c) s0))).acc, (mergeSt (mergeSt (rt (SA c s0)) (SA c s1)) (rt (SA (nb (ax s0) c) s0))).l, (rt (SA (nb (ax s1) c) s1)).acc, (SA (nb (ax s1) c) s1).m⟩ := by
    rw [pay25_eq (rt (SA c s0)) (SA c s1) (SA (nb (ax s0) c) s0), pay26_eq (rt (SA c s0)) (SA c s1) (SA (nb (ax s0) c) s0), pay27_eq, pay28_eq,
      show k0_pay22 (mergeSt (rt (SA c s0)) (SA c s1)).m (up4 (SA (nb (ax s0) c) s0).m) = (mergeSt (mergeSt (rt (SA c s0)) (SA c s1)) (rt (SA (nb (ax s0) c) s0))).m from pay22_eq (mergeSt (rt (SA c s0)) (SA c s1)) (rt (SA (nb (ax s0) c) s0))]
  iintro ⟨#Hctx, HpRa0, HpRs0, HpRa1, HpRs1⟩ Hk
  iapply (raLdS c (SA (nb (ax s0) c)) 0 lt0 _ _ _) $$ HpRa0
  iintro HpRa0
  iapply (rsLdM c (SA (nb (ax s0) c)) 0 lt0 _ _ _) $$ HpRs0
  iintro HpRs0
  iapply (rsLdL c (SA (nb (ax s0) c)) 0 lt0 _ _ _) $$ HpRs0
  iintro HpRs0
  iapply (raLdS c (SA (nb (ax s1) c)) 1 lt1 _ _ _) $$ HpRa1
  iintro HpRa1
  iapply (rsLdM c (SA (nb (ax s1) c)) 1 lt1 _ _ _) $$ HpRs1
  iintro HpRs1
  rw [← e8]
  iapply (le_wp_ret _ _)
  iapply Hk $$ HpRa0 HpRs0 HpRa1 HpRs1

/-- The neighbour's second half is merged in, and the result goes into slot 2. -/
theorem part9 (i : grid0.Coords) (B : Blk) (v2 v8 v10 : BitVec 32) (hM1 : SA c s2 = mergeSt (mergeSt (mergeSt (rt (SA c s0)) (SA c s1)) (rt (SA (nb (ax s0) c) s0))) (rt (SA (nb (ax s1) c) s1))) (fa : Vec F S4x16x32x128 .bf16) (fs : Vec F S4x2x16x32 .f32) (Kt : (Σ' (_ : FVec F S16x32 .f32) (_ : FVec F S16x32x128 .f32), FVec F S16x32 .f32) → sProp 𝕄) :
    iprop(ctx κ SA c ∗ pRs c s1 (SST (SA (nb (ax s1) c))) ∗ pSa c s2 fa ∗ pSs c s2 fs)
      ⊢ iprop((pRs c s1 (SST (SA (nb (ax s1) c))) -∗ pSa c s2 (SACC (SA c)) -∗ pSs c s2 (SST (SA c)) -∗ Kt ⟨(SA c s2).m, (SA c s2).acc, (SA c s2).l⟩)
        -∗ wp frame (wpE (defs₀ (F := F)) 𝒱₀ (c : Thread nD τ) none) Set.univ
          (k0_part9 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v8 v10 (mergeSt (mergeSt (rt (SA c s0)) (SA c s1)) (rt (SA (nb (ax s0) c) s0))).m (mergeSt (mergeSt (rt (SA c s0)) (SA c s1)) (rt (SA (nb (ax s0) c) s0))).acc (mergeSt (mergeSt (rt (SA c s0)) (SA c s1)) (rt (SA (nb (ax s0) c) s0))).l (rt (SA (nb (ax s1) c) s1)).acc (SA (nb (ax s1) c) s1).m) Kt) := by
  rw [k0_part9_eq_skeleton]; unfold k0_part9_skel
  simp only [wp_bind]
  have ea : k0_pay34 (mergeSt (mergeSt (rt (SA c s0)) (SA c s1)) (rt (SA (nb (ax s0) c) s0))).m (mergeSt (mergeSt (rt (SA c s0)) (SA c s1)) (rt (SA (nb (ax s0) c) s0))).acc (rt (SA (nb (ax s1) c) s1)).acc (SA (nb (ax s1) c) s1).m = upA (SA c s2).acc := by rw [hM1]; exact pay34_eq (mergeSt (mergeSt (rt (SA c s0)) (SA c s1)) (rt (SA (nb (ax s0) c) s0))) (SA (nb (ax s1) c) s1)
  have em : k0_pay35 (mergeSt (mergeSt (rt (SA c s0)) (SA c s1)) (rt (SA (nb (ax s0) c) s0))).m (SA (nb (ax s1) c) s1).m = up4 (SA c s2).m := by rw [hM1]; exact pay35_eq (mergeSt (mergeSt (rt (SA c s0)) (SA c s1)) (rt (SA (nb (ax s0) c) s0))) (SA (nb (ax s1) c) s1)
  have el : k0_pay36 (mergeSt (mergeSt (rt (SA c s0)) (SA c s1)) (rt (SA (nb (ax s0) c) s0))).m (mergeSt (mergeSt (rt (SA c s0)) (SA c s1)) (rt (SA (nb (ax s0) c) s0))).l (SA (nb (ax s1) c) s1).m (up4 (SA (nb (ax s1) c) s1).l) = up4 (SA c s2).l := by rw [hM1]; exact pay36_eq (mergeSt (mergeSt (rt (SA c s0)) (SA c s1)) (rt (SA (nb (ax s0) c) s0))) (SA (nb (ax s1) c) s1)
  have e9 : (⟨k0_pay29 (mergeSt (mergeSt (rt (SA c s0)) (SA c s1)) (rt (SA (nb (ax s0) c) s0))).m (SA (nb (ax s1) c) s1).m, k0_pay32 (mergeSt (mergeSt (rt (SA c s0)) (SA c s1)) (rt (SA (nb (ax s0) c) s0))).m (mergeSt (mergeSt (rt (SA c s0)) (SA c s1)) (rt (SA (nb (ax s0) c) s0))).acc (rt (SA (nb (ax s1) c) s1)).acc (SA (nb (ax s1) c) s1).m, k0_pay33 (mergeSt (mergeSt (rt (SA c s0)) (SA c s1)) (rt (SA (nb (ax s0) c) s0))).m (mergeSt (mergeSt (rt (SA c s0)) (SA c s1)) (rt (SA (nb (ax s0) c) s0))).l (SA (nb (ax s1) c) s1).m (up4 (SA (nb (ax s1) c) s1).l)⟩ : (Σ' (_ : FVec F S16x32 .f32) (_ : FVec F S16x32x128 .f32), FVec F S16x32 .f32)) = ⟨(SA c s2).m, (SA c s2).acc, (SA c s2).l⟩ := by
    rw [hM1, pay29_eq (mergeSt (mergeSt (rt (SA c s0)) (SA c s1)) (rt (SA (nb (ax s0) c) s0))) (SA (nb (ax s1) c) s1), pay32_eq (mergeSt (mergeSt (rt (SA c s0)) (SA c s1)) (rt (SA (nb (ax s0) c) s0))) (SA (nb (ax s1) c) s1), pay33_eq (mergeSt (mergeSt (rt (SA c s0)) (SA c s1)) (rt (SA (nb (ax s0) c) s0))) (SA (nb (ax s1) c) s1)]
  iintro ⟨#Hctx, HpRs1, HpSa2, HpSs2⟩ Hk
  iapply (rsLdL c (SA (nb (ax s1) c)) 1 lt1 _ _ _) $$ HpRs1
  iintro HpRs1
  iapply (saLdAny c _ 2 lt2 _ _ _) $$ HpSa2
  iintro %_ HpSa2
  iapply (saStS c (SA c) _ 2 lt2 _ ea _ _ _ _) $$ HpSa2
  iintro HpSa2
  iapply (ssLd1Any c _ 2 0 lt2 lk0 _ _ _) $$ HpSs2
  iintro %_ HpSs2
  iapply (ssStM c _ 2 lt2 (SA c s2).m _ em inb_S4x2x16x32_S1x1x16x32_2_0_0_0 _ _ _) $$ HpSs2
  iintro HpSs2
  iapply (ssLd1Any c _ 2 1 lt2 lk1 _ _ _) $$ HpSs2
  iintro %_ HpSs2
  iapply (ssStLS c (SA c) _ 2 lt2 _ _ el rfl _ _ _ _ _) $$ HpSs2
  iintro HpSs2
  rw [← e9]
  iapply (le_wp_ret _ _)
  iapply Hk $$ HpRs1 HpSa2 HpSs2

/-- Slot 2 goes out, and its sent accumulator comes back. -/
theorem part10 (i : grid0.Coords) (B : Blk) (v2 v8 v10 : BitVec 32) (h3 : k0_cond3 i = 1#1) (Kt : PUnit → sProp 𝕄) :
    iprop(ctx κ SA c ∗ reached ER (cell (nb (ax s2) c) (.own (.ar s2))) 0 ∗ reached ER (cell (nb (ax s2) c) (.own (.sr s2))) 0 ∗ ow c 7 ∗ pSa c s2 (SACC (SA c)) ∗ (∃ f, pRa (F := F) (nb (ax s2) c) s2 f) ∗ dutyTok ER (cell c (.own (.as s2))) 0 0 ∗ dutyTok ER (cell (nb (ax s2) c) (.own (.ar s2))) 0 0 ∗ pSs c s2 (SST (SA c)) ∗ (∃ f, pRs (F := F) (nb (ax s2) c) s2 f) ∗ dutyTok ER (cell c (.own (.ss s2))) 0 0 ∗ dutyTok ER (cell (nb (ax s2) c) (.own (.sr s2))) 0 0 ∗ atPos ER (cell c (.own (.as s2))) 0 ∅ 0)
      ⊢ iprop((ow c 5 -∗ cred (tallyAt (cell c (.own (.ss s2))) 0 NS) -∗ atPos ER (cell c (.own (.as s2))) 1 ∅ 0 -∗ pSa c s2 (SACC (SA c)) -∗ Kt ⟨⟩)
        -∗ wp frame (wpE (defs₀ (F := F)) 𝒱₀ (c : Thread nD τ) none) Set.univ
          (k0_part10 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v8 v10 h3) Kt) := by
  rw [k0_part10_eq_skeleton]; unfold k0_part10_skel
  simp only [wp_bind]
  iintro ⟨#Hctx, #Hre_ar2, #Hre_sr2, HO, HpSa2, HgpRa2, Hd_as2, Hd_ar2, HpSs2, HgpRs2, Hd_ss2, Hd_sr2, Hat_as2⟩ Hk
  iapply (sendA κ SA c 2 lt2 6 3 _ (dev8_eq c _) (owe_ar2 c) _ _ _ _ rfl rfl _ _ _ _ _) $$ [HO HpSa2 HgpRa2 Hd_as2 Hd_ar2]
  · isplitr; · iexact Hctx
    isplitl [HO]; · iexact HO
    isplitl [HpSa2]; · iexact HpSa2
    isplitl [HgpRa2]; · iexact HgpRa2
    isplitl [Hd_as2]; · iexact Hd_as2
    isplitl [Hd_ar2]; · iexact Hd_ar2
    iexact Hre_ar2
  iintro HO Hcr_as2
  iapply (sendS κ SA c 2 lt2 5 3 _ (dev9_eq c _) (owe_sr2 c) _ _ _ _ rfl rfl _ _ _ _ _) $$ [HO HpSs2 HgpRs2 Hd_ss2 Hd_sr2]
  · isplitr; · iexact Hctx
    isplitl [HO]; · iexact HO
    isplitl [HpSs2]; · iexact HpSs2
    isplitl [HgpRs2]; · iexact HgpRs2
    isplitl [Hd_ss2]; · iexact Hd_ss2
    isplitl [Hd_sr2]; · iexact Hd_sr2
    iexact Hre_sr2
  iintro HO Hcr_ss2
  iapply (waitAs κ SA c 2 lt2 5 (by decide) _ rfl _ _ _ _ _) $$ [HO Hat_as2 Hcr_as2]
  · iframe; iexact Hctx
  iintro HO Hat_as2 HpSa2
  iapply (le_wp_ret _ _)
  iapply Hk $$ HO Hcr_ss2 Hat_as2 HpSa2

/-- Waits for slot 2. -/
theorem part11 (i : grid0.Coords) (B : Blk) (v2 v8 v10 : BitVec 32) (Kt : PUnit → sProp 𝕄) :
    iprop(ctx κ SA c ∗ ow c 5 ∗ atPos ER (cell c (.own (.ar s2))) 0 ∅ 0 ∗ cred (tallyAt (cell c (.own (.ar s2))) 3 NA) ∗ atPos ER (cell c (.own (.ss s2))) 0 ∅ 0 ∗ cred (tallyAt (cell c (.own (.ss s2))) 0 NS))
      ⊢ iprop((ow c 5 -∗ atPos ER (cell c (.own (.ar s2))) 1 ∅ 0 -∗ pRa c s2 (SACC (SA (nb (ax s2) c))) -∗ atPos ER (cell c (.own (.ss s2))) 1 ∅ 0 -∗ pSs c s2 (SST (SA c)) -∗ Kt ⟨⟩)
        -∗ wp frame (wpE (defs₀ (F := F)) 𝒱₀ (c : Thread nD τ) none) Set.univ
          (k0_part11 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v8 v10) Kt) := by
  rw [k0_part11_eq_skeleton]; unfold k0_part11_skel
  simp only [wp_bind]
  iintro ⟨#Hctx, HO, Hat_ar2, Hcr_ar2, Hat_ss2, Hcr_ss2⟩ Hk
  iapply (waitAr κ SA c 2 lt2 5 3 (by decide) (by decide) _ rfl _ _ _ _ _) $$ [HO Hat_ar2 Hcr_ar2]
  · iframe; iexact Hctx
  iintro HO Hat_ar2 HpRa2
  iapply (waitSs κ SA c 2 lt2 5 (by decide) _ rfl _ _ _ _ _) $$ [HO Hat_ss2 Hcr_ss2]
  · iframe; iexact Hctx
  iintro HO Hat_ss2 HpSs2
  iapply (le_wp_ret _ _)
  iapply Hk $$ HO Hat_ar2 HpRa2 Hat_ss2 HpSs2

/-- The second neighbour's state is merged in, and the accumulator goes into slot 3. -/
theorem part12 (i : grid0.Coords) (B : Blk) (hM2 : SA c s3 = mergeSt (SA c s2) (rt (SA (nb (ax s2) c) s2))) (fa : Vec F S4x16x32x128 .bf16) (fs : Vec F S4x2x16x32 .f32) (Kt : (Σ' (_ : FVec F S16x32 .f32) (_ : FVec F S16x32x128 .f32) (_ : FVec F S16x32 .f32), Vec F S1x1x16x32 .f32) → sProp 𝕄) :
    iprop(ctx κ SA c ∗ ow c 5 ∗ atPos ER (cell c (.own (.sr s2))) 0 ∅ 0 ∗ cred (tallyAt (cell c (.own (.sr s2))) 3 NS) ∗ pRa c s2 (SACC (SA (nb (ax s2) c))) ∗ pSa c s3 fa ∗ pSs c s3 fs)
      ⊢ iprop((∀ v, ow c 5 -∗ atPos ER (cell c (.own (.sr s2))) 1 ∅ 0 -∗ pRs c s2 (SST (SA (nb (ax s2) c))) -∗ pRa c s2 (SACC (SA (nb (ax s2) c))) -∗ pSa c s3 (SACC (SA c)) -∗ pSs c s3 fs -∗ Kt ⟨(SA c s3).m, (SA c s3).acc, (SA c s3).l, v⟩)
        -∗ wp frame (wpE (defs₀ (F := F)) 𝒱₀ (c : Thread nD τ) none) Set.univ
          (k0_part12 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 (SA c s2).m (SA c s2).acc (SA c s2).l) Kt) := by
  rw [k0_part12_eq_skeleton]; unfold k0_part12_skel
  simp only [wp_bind]
  have ea : k0_pay43 (SA c s2).m (SA c s2).acc (upA (SA (nb (ax s2) c) s2).acc) (up4 (SA (nb (ax s2) c) s2).m) = upA (SA c s3).acc := by rw [hM2]; exact pay43_eq (SA c s2) (SA (nb (ax s2) c) s2)
  have e12 : ∀ v, (⟨k0_pay38 (SA c s2).m (up4 (SA (nb (ax s2) c) s2).m), k0_pay41 (SA c s2).m (SA c s2).acc (upA (SA (nb (ax s2) c) s2).acc) (up4 (SA (nb (ax s2) c) s2).m), k0_pay42 (SA c s2).m (SA c s2).l (up4 (SA (nb (ax s2) c) s2).m) (up4 (SA (nb (ax s2) c) s2).l), v⟩ : (Σ' (_ : FVec F S16x32 .f32) (_ : FVec F S16x32x128 .f32) (_ : FVec F S16x32 .f32), Vec F S1x1x16x32 .f32))
      = ⟨(SA c s3).m, (SA c s3).acc, (SA c s3).l, v⟩ := fun v => by
    rw [hM2, pay38_eq (SA c s2) (SA (nb (ax s2) c) s2), pay41_eq (SA c s2) (SA (nb (ax s2) c) s2), pay42_eq (SA c s2) (SA (nb (ax s2) c) s2)]
  iintro ⟨#Hctx, HO, Hat_sr2, Hcr_sr2, HpRa2, HpSa3, HpSs3⟩ Hk
  iapply (waitSr κ SA c 2 lt2 5 3 (by decide) (by decide) _ rfl _ _ _ _ _) $$ [HO Hat_sr2 Hcr_sr2]
  · iframe; iexact Hctx
  iintro HO Hat_sr2 HpRs2
  iapply (raLdS c (SA (nb (ax s2) c)) 2 lt2 _ _ _) $$ HpRa2
  iintro HpRa2
  iapply (rsLdM c (SA (nb (ax s2) c)) 2 lt2 _ _ _) $$ HpRs2
  iintro HpRs2
  iapply (rsLdL c (SA (nb (ax s2) c)) 2 lt2 _ _ _) $$ HpRs2
  iintro HpRs2
  iapply (saLdAny c _ 3 lt3 _ _ _) $$ HpSa3
  iintro %_ HpSa3
  iapply (saStS c (SA c) _ 3 lt3 _ ea _ _ _ _) $$ HpSa3
  iintro HpSa3
  iapply (ssLd1Any c _ 3 0 lt3 lk0 _ _ _) $$ HpSs3
  iintro %v HpSs3
  rw [e12]
  iapply (le_wp_ret _ _)
  iapply Hk $$ HO Hat_sr2 HpRs2 HpRa2 HpSa3 HpSs3

/-- The statistics go into slot 3, and the copy of its accumulator starts. -/
theorem part13 (i : grid0.Coords) (B : Blk) (v5 v8 v11 : BitVec 32) (h3 : k0_cond3 i = 1#1) (v354 : Vec F S1x1x16x32 .f32) (fs : Vec F S4x2x16x32 .f32) (Kt : PUnit → sProp 𝕄) :
    iprop(ctx κ SA c ∗ reached ER (cell (nb (ax s3) c) (.own (.ar s3))) 0 ∗ pSs c s3 fs ∗ ow c 5 ∗ pSa c s3 (SACC (SA c)) ∗ (∃ f, pRa (F := F) (nb (ax s3) c) s3 f) ∗ dutyTok ER (cell c (.own (.as s3))) 0 0 ∗ dutyTok ER (cell (nb (ax s3) c) (.own (.ar s3))) 0 0)
      ⊢ iprop((pSs c s3 (SST (SA c)) -∗ ow c 4 -∗ cred (tallyAt (cell c (.own (.as s3))) 0 NA) -∗ Kt ⟨⟩)
        -∗ wp frame (wpE (defs₀ (F := F)) 𝒱₀ (c : Thread nD τ) none) Set.univ
          (k0_part13 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v5 v8 v11 h3 (SA c s3).m (SA c s3).l v354) Kt) := by
  rw [k0_part13_eq_skeleton]; unfold k0_part13_skel
  simp only [wp_bind]
  iintro ⟨#Hctx, #Hre_ar3, HpSs3, HO, HpSa3, HgpRa3, Hd_as3, Hd_ar3⟩ Hk
  iapply (ssStM c _ 3 lt3 (SA c s3).m _ rfl inb_S4x2x16x32_S1x1x16x32_3_0_0_0 _ _ _) $$ HpSs3
  iintro HpSs3
  iapply (ssLd1Any c _ 3 1 lt3 lk1 _ _ _) $$ HpSs3
  iintro %_ HpSs3
  iapply (ssStLS c (SA c) _ 3 lt3 _ _ rfl rfl _ _ _ _ _) $$ HpSs3
  iintro HpSs3
  iapply (sendA κ SA c 3 lt3 4 4 _ (dev10_eq c _) (owe_ar3 c) _ _ _ _ rfl rfl _ _ _ _ _) $$ [HO HpSa3 HgpRa3 Hd_as3 Hd_ar3]
  · isplitr; · iexact Hctx
    isplitl [HO]; · iexact HO
    isplitl [HpSa3]; · iexact HpSa3
    isplitl [HgpRa3]; · iexact HgpRa3
    isplitl [Hd_as3]; · iexact Hd_as3
    isplitl [Hd_ar3]; · iexact Hd_ar3
    iexact Hre_ar3
  iintro HO Hcr_as3
  iapply (le_wp_ret _ _)
  iapply Hk $$ HpSs3 HO Hcr_as3

/-- The statistics of slot 3 go out; waits for slot 3. -/
theorem part14 (i : grid0.Coords) (B : Blk) (v5 v8 v11 : BitVec 32) (h3 : k0_cond3 i = 1#1) (Kt : PUnit → sProp 𝕄) :
    iprop(ctx κ SA c ∗ reached ER (cell (nb (ax s3) c) (.own (.sr s3))) 0 ∗ ow c 4 ∗ pSs c s3 (SST (SA c)) ∗ (∃ f, pRs (F := F) (nb (ax s3) c) s3 f) ∗ dutyTok ER (cell c (.own (.ss s3))) 0 0 ∗ dutyTok ER (cell (nb (ax s3) c) (.own (.sr s3))) 0 0 ∗ atPos ER (cell c (.own (.as s3))) 0 ∅ 0 ∗ cred (tallyAt (cell c (.own (.as s3))) 0 NA) ∗ atPos ER (cell c (.own (.ar s3))) 0 ∅ 0 ∗ cred (tallyAt (cell c (.own (.ar s3))) 4 NA))
      ⊢ iprop((ow c 3 -∗ cred (tallyAt (cell c (.own (.ss s3))) 0 NS) -∗ atPos ER (cell c (.own (.as s3))) 1 ∅ 0 -∗ pSa c s3 (SACC (SA c)) -∗ atPos ER (cell c (.own (.ar s3))) 1 ∅ 0 -∗ pRa c s3 (SACC (SA (nb (ax s3) c))) -∗ Kt ⟨⟩)
        -∗ wp frame (wpE (defs₀ (F := F)) 𝒱₀ (c : Thread nD τ) none) Set.univ
          (k0_part14 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v5 v8 v11 h3) Kt) := by
  rw [k0_part14_eq_skeleton]; unfold k0_part14_skel
  simp only [wp_bind]
  iintro ⟨#Hctx, #Hre_sr3, HO, HpSs3, HgpRs3, Hd_ss3, Hd_sr3, Hat_as3, Hcr_as3, Hat_ar3, Hcr_ar3⟩ Hk
  iapply (sendS κ SA c 3 lt3 3 4 _ (dev11_eq c _) (owe_sr3 c) _ _ _ _ rfl rfl _ _ _ _ _) $$ [HO HpSs3 HgpRs3 Hd_ss3 Hd_sr3]
  · isplitr; · iexact Hctx
    isplitl [HO]; · iexact HO
    isplitl [HpSs3]; · iexact HpSs3
    isplitl [HgpRs3]; · iexact HgpRs3
    isplitl [Hd_ss3]; · iexact Hd_ss3
    isplitl [Hd_sr3]; · iexact Hd_sr3
    iexact Hre_sr3
  iintro HO Hcr_ss3
  iapply (waitAs κ SA c 3 lt3 3 (by decide) _ rfl _ _ _ _ _) $$ [HO Hat_as3 Hcr_as3]
  · iframe; iexact Hctx
  iintro HO Hat_as3 HpSa3
  iapply (waitAr κ SA c 3 lt3 3 4 (by decide) (by decide) _ rfl _ _ _ _ _) $$ [HO Hat_ar3 Hcr_ar3]
  · iframe; iexact Hctx
  iintro HO Hat_ar3 HpRa3
  iapply (le_wp_ret _ _)
  iapply Hk $$ HO Hcr_ss3 Hat_as3 HpSa3 Hat_ar3 HpRa3

/-- The last waits, and the third neighbour's state is read. -/
theorem part15 (i : grid0.Coords) (B : Blk) (v5 v8 v11 : BitVec 32) (Kt : (Σ' (_ : FVec F S16x32x128 .f32) (_ : FVec F S16x32 .f32) (_ : FVec F S16x32 .f32) (_ : FVec F S16x32 .f32), FVec F S16x32 .f32) → sProp 𝕄) :
    iprop(ctx κ SA c ∗ ow c 3 ∗ atPos ER (cell c (.own (.ss s3))) 0 ∅ 0 ∗ cred (tallyAt (cell c (.own (.ss s3))) 0 NS) ∗ atPos ER (cell c (.own (.sr s3))) 0 ∅ 0 ∗ cred (tallyAt (cell c (.own (.sr s3))) 4 NS) ∗ pRa c s3 (SACC (SA (nb (ax s3) c))))
      ⊢ iprop((ow c 3 -∗ atPos ER (cell c (.own (.ss s3))) 1 ∅ 0 -∗ pSs c s3 (SST (SA c)) -∗ atPos ER (cell c (.own (.sr s3))) 1 ∅ 0 -∗ pRs c s3 (SST (SA (nb (ax s3) c))) -∗ pRa c s3 (SACC (SA (nb (ax s3) c))) -∗ Kt ⟨(rt (SA (nb (ax s3) c) s3)).acc, (SA (nb (ax s3) c) s3).m, (SA (nb (ax s3) c) s3).l, (mergeSt (SA c s3) (rt (SA (nb (ax s3) c) s3))).m, (subf (SA c s3).m (mergeSt (SA c s3) (rt (SA (nb (ax s3) c) s3))).m)⟩)
        -∗ wp frame (wpE (defs₀ (F := F)) 𝒱₀ (c : Thread nD τ) none) Set.univ
          (k0_part15 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v5 v8 v11 (SA c s3).m) Kt) := by
  rw [k0_part15_eq_skeleton]; unfold k0_part15_skel
  simp only [wp_bind]
  have e15 : (⟨k0_pay46 (upA (SA (nb (ax s3) c) s3).acc), k0_pay47 (up4 (SA (nb (ax s3) c) s3).m), k0_pay48 (up4 (SA (nb (ax s3) c) s3).l), k0_pay49 (SA c s3).m (up4 (SA (nb (ax s3) c) s3).m), k0_pay50 (SA c s3).m (up4 (SA (nb (ax s3) c) s3).m)⟩ : (Σ' (_ : FVec F S16x32x128 .f32) (_ : FVec F S16x32 .f32) (_ : FVec F S16x32 .f32) (_ : FVec F S16x32 .f32), FVec F S16x32 .f32)) = ⟨(rt (SA (nb (ax s3) c) s3)).acc, (SA (nb (ax s3) c) s3).m, (SA (nb (ax s3) c) s3).l, (mergeSt (SA c s3) (rt (SA (nb (ax s3) c) s3))).m, (subf (SA c s3).m (mergeSt (SA c s3) (rt (SA (nb (ax s3) c) s3))).m)⟩ := by
    rw [pay46_eq, pay47_eq, pay48_eq, pay49_eq (SA c s3) (SA (nb (ax s3) c) s3), pay50_eq (SA c s3) (SA (nb (ax s3) c) s3)]
  iintro ⟨#Hctx, HO, Hat_ss3, Hcr_ss3, Hat_sr3, Hcr_sr3, HpRa3⟩ Hk
  iapply (waitSs κ SA c 3 lt3 3 (by decide) _ rfl _ _ _ _ _) $$ [HO Hat_ss3 Hcr_ss3]
  · iframe; iexact Hctx
  iintro HO Hat_ss3 HpSs3
  iapply (waitSr κ SA c 3 lt3 3 4 (by decide) (by decide) _ rfl _ _ _ _ _) $$ [HO Hat_sr3 Hcr_sr3]
  · iframe; iexact Hctx
  iintro HO Hat_sr3 HpRs3
  iapply (raLdS c (SA (nb (ax s3) c)) 3 lt3 _ _ _) $$ HpRa3
  iintro HpRa3
  iapply (rsLdM c (SA (nb (ax s3) c)) 3 lt3 _ _ _) $$ HpRs3
  iintro HpRs3
  iapply (rsLdL c (SA (nb (ax s3) c)) 3 lt3 _ _ _) $$ HpRs3
  iintro HpRs3
  rw [← e15]
  iapply (le_wp_ret _ _)
  iapply Hk $$ HO Hat_ss3 HpSs3 Hat_sr3 HpRs3 HpRa3

/-- The output is stored, and the three neighbours are told. -/
theorem part16 (i : grid0.Coords) (B : Blk) (v2 v5 v8 v9 v10 v11 : BitVec 32) (h3 : k0_cond3 i = 1#1) (X : S32x1x16x128.Idx → Elt F .f32) (Kt : PUnit → sProp 𝕄) :
    iprop(ctx κ SA c ∗ reached ER (cell (nb 0 c) (.own .ex)) 0 ∗ reached ER (cell (nb 1 c) (.own .ex)) 0 ∗ reached ER (cell (nb 2 c) (.own .ex)) 0 ∗ owns (c : Thread nD τ) B.o fullShare X ∗ ow c 3 ∗ dutyTok ER (cell (nb 0 c) (.own .ex)) 0 0 ∗ dutyTok ER (cell (nb 1 c) (.own .ex)) 0 1 ∗ dutyTok ER (cell (nb 2 c) (.own .ex)) 0 2)
      ⊢ iprop((owns (c : Thread nD τ) B.o fullShare (fin (mergeSt (SA c s3) (rt (SA (nb (ax s3) c) s3)))) -∗ ow c 0 -∗ Kt ⟨⟩)
        -∗ wp frame (wpE (defs₀ (F := F)) 𝒱₀ (c : Thread nD τ) none) Set.univ
          (k0_part16 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v5 v8 v9 v10 v11 h3 (SA c s3).acc (SA c s3).l (rt (SA (nb (ax s3) c) s3)).acc (SA (nb (ax s3) c) s3).m (SA (nb (ax s3) c) s3).l (mergeSt (SA c s3) (rt (SA (nb (ax s3) c) s3))).m (subf (SA c s3).m (mergeSt (SA c s3) (rt (SA (nb (ax s3) c) s3))).m)) Kt) := by
  rw [k0_part16_eq_skeleton]; unfold k0_part16_skel
  simp only [wp_bind]
  iintro ⟨#Hctx, #Hre_ex0, #Hre_ex1, #Hre_ex2, Ho, HO, Hde0, Hde1, Hde2⟩ Hk
  iapply (ldW c _ zero4 _ _ _ _) $$ Ho
  iintro Ho
  rw [pay51_eq (SA c s3) (SA (nb (ax s3) c) s3)]
  iapply (stW c _ zero4 _ _ _ _ _ _) $$ Ho
  iintro Ho
  iapply (sigStep κ SA c (.own .ex) exS rfl rfl 0 (by decide) 2 5 _ (dev12_eq c _) rfl _) $$ [HO Hde0]
  · isplitr; · iexact Hctx
    isplitl [HO]; · iexact HO
    isplitl [Hde0]; · iexact Hde0
    isplitr; · rw [pay_ex]; iempintro
    iexact Hre_ex0
  iintro HO
  iapply (sigStep κ SA c (.own .ex) exS rfl rfl 1 (by decide) 1 5 _ (dev13_eq c _) rfl _) $$ [HO Hde1]
  · isplitr; · iexact Hctx
    isplitl [HO]; · iexact HO
    isplitl [Hde1]; · iexact Hde1
    isplitr; · rw [pay_ex]; iempintro
    iexact Hre_ex1
  iintro HO
  iapply (sigStep κ SA c (.own .ex) exS rfl rfl 2 (by decide) 0 5 _ (dev14_eq c _) rfl _) $$ [HO Hde2]
  · isplitr; · iexact Hctx
    isplitl [HO]; · iexact HO
    isplitl [Hde2]; · iexact Hde2
    isplitr; · rw [pay_ex]; iempintro
    iexact Hre_ex2
  iintro HO
  iapply (le_wp_ret _ _)
  iapply Hk $$ Ho HO

end Parts

end Cert.Proof.KV
-- ==== Proof.Body.lean ====
/-
  The kernel's body at a grid point, one lemma for each kind of grid point.
-/
module

public import proofs.«01_k».proof.Proof.Parts

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section Body

variable (κ : GSem nD τ sig → ℕ) (SA : Slots F) (c : Dev nD)

/-- The step's new maximum, as the kernel computes it. -/
theorem stepSt_m (q : S16x32x128.Idx → Elt F .f32) (k v : S8x32x16x128.Idx → Elt F .f32) (w : S32x256.Idx → Elt F .f32) (s : St F) :
    k0_pay59 (k0_pay55 q k) (k0_pay56 w) (up3 s.m) = (stepSt q k v w s).m := rfl

/-- The step's new sum of values, as the kernel computes it. -/
theorem stepSt_acc (q : S16x32x128.Idx → Elt F .f32) (k v : S8x32x16x128.Idx → Elt F .f32) (w : S32x256.Idx → Elt F .f32) (s : St F) :
    k0_pay63 (k0_pay53 v) (k0_pay54 w) (k0_pay55 q k) (k0_pay56 w) (up3 s.m) s.acc = (stepSt q k v w s).acc := rfl

/-- The device asks for its own number. -/
theorem devStep (Kt : Dev nD → sProp 𝕄) : Kt c ⊢ wp frame (wpE (defs₀ (F := F)) 𝒱₀ (c : Thread nD τ) none) Set.univ (Prog.lift .deviceId) Kt := by
  unfold Prog.lift
  simp only [wp_deviceId]
  exact le_wp_ret _ _ _ c Kt

set_option maxHeartbeats 4000000 in
/-- Before the step: the loads of the blocks. -/
theorem prep (i : grid0.Coords) (B : Blk) (h1 : ¬k0_cond1 i = 1#1) (Xq : S16x32x128.Idx → Elt F .f32) (XK XV : S8x32x16x128.Idx → Elt F .f32) (XW : S32x256.Idx → Elt F .f32) (Kt : (Σ' (_ : BitVec 32) (_ : Dev nD) (_ : BitVec 32) (_ : BitVec 32) (_ : BitVec 32) (_ : BitVec 32) (_ : BitVec 32) (_ : BitVec 32) (_ : FVec F S256x16x128 .f32) (_ : FVec F S32x256 .f32) (_ : FVec F S16x32x256 .f32), IVec S32x256 1) → sProp 𝕄) :
    iprop(ctx κ SA c ∗ owns (c : Thread nD τ) B.q fullShare Xq ∗ owns (c : Thread nD τ) B.K fullShare XK ∗ owns (c : Thread nD τ) B.V fullShare XV ∗ owns (c : Thread nD τ) B.W fullShare XW)
      ⊢ iprop((∀ (a0 v2 v5 v8 v9 v10 v11 : BitVec 32), owns (c : Thread nD τ) B.q fullShare Xq -∗ owns (c : Thread nD τ) B.K fullShare XK -∗ owns (c : Thread nD τ) B.V fullShare XV -∗ owns (c : Thread nD τ) B.W fullShare XW -∗ Kt ⟨a0, c, v2, v5, v8, v9, v10, v11, k0_pay53 XV, k0_pay54 XW, k0_pay55 Xq XK, k0_pay56 XW⟩)
        -∗ wp frame (wpE (defs₀ (F := F)) 𝒱₀ (c : Thread nD τ) none) Set.univ
          (k0_part17 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [k0_part17_eq_skeleton]; unfold k0_part17_skel
  simp only [wp_bind]
  iintro ⟨#Hctx, Hq, HK, HV, HW⟩ Hk
  iapply (devStep c _)
  rw [dif_neg h1]
  simp only [wp_bind]
  iapply (ldW c _ zero3 _ _ _ _) $$ Hq
  iintro Hq
  iapply (ldW c _ zero4 _ _ _ _) $$ HK
  iintro HK
  iapply (ldW c _ zero4 _ _ _ _) $$ HV
  iintro HV
  iapply (ldW c _ zero2 _ _ _ _) $$ HW
  iintro HW
  try iapply (le_wp_ret _ _)
  iapply Hk $$ Hq HK HV HW

set_option maxHeartbeats 4000000 in
/-- Before the step: the barrier, the reset, and the loads of the blocks. -/
theorem prep_first (i : grid0.Coords) (B : Blk) (h1 : k0_cond1 i = 1#1) (fa : Vec F S16x32x128 .f32) (m l : FVec F S16x32 .f32) (Xq : S16x32x128.Idx → Elt F .f32) (XK XV : S8x32x16x128.Idx → Elt F .f32) (XW : S32x256.Idx → Elt F .f32) (Kt : (Σ' (_ : BitVec 32) (_ : Dev nD) (_ : BitVec 32) (_ : BitVec 32) (_ : BitVec 32) (_ : BitVec 32) (_ : BitVec 32) (_ : BitVec 32) (_ : FVec F S256x16x128 .f32) (_ : FVec F S32x256 .f32) (_ : FVec F S16x32x256 .f32), IVec S32x256 1) → sProp 𝕄) :
    iprop(ctx κ SA c ∗ ow c 14 ∗ dutyTok ER (cell (nb 0 c) .bar) 0 0 ∗ barGift (F := F) 0 c ∗ dutyTok ER (cell (nb 1 c) .bar) 0 1 ∗ barGift (F := F) 1 c ∗ dutyTok ER (cell (nb 2 c) .bar) 0 2 ∗ barGift (F := F) 2 c ∗ atPos ER (cell c .bar) 0 ∅ 0 ∗ cred (tallyAt (cell c .bar) 1 3) ∗ pAcc c fa ∗ pSt c (pack m l) ∗ owns (c : Thread nD τ) B.q fullShare Xq ∗ owns (c : Thread nD τ) B.K fullShare XK ∗ owns (c : Thread nD τ) B.V fullShare XV ∗ owns (c : Thread nD τ) B.W fullShare XW)
      ⊢ iprop((∀ (a0 v2 v5 v8 v9 v10 v11 : BitVec 32), ow c 11 -∗ atPos ER (cell c .bar) 1 ∅ 0 -∗ barGift (F := F) 0 (nb 0 c) -∗ barGift (F := F) 1 (nb 1 c) -∗ barGift (F := F) 2 (nb 2 c) -∗ pAcc c (initSt (F := F)).acc -∗ pSt c (pack (initSt (F := F)).m (initSt (F := F)).l) -∗ owns (c : Thread nD τ) B.q fullShare Xq -∗ owns (c : Thread nD τ) B.K fullShare XK -∗ owns (c : Thread nD τ) B.V fullShare XV -∗ owns (c : Thread nD τ) B.W fullShare XW -∗ Kt ⟨a0, c, v2, v5, v8, v9, v10, v11, k0_pay53 XV, k0_pay54 XW, k0_pay55 Xq XK, k0_pay56 XW⟩)
        -∗ wp frame (wpE (defs₀ (F := F)) 𝒱₀ (c : Thread nD τ) none) Set.univ
          (k0_part17 i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [k0_part17_eq_skeleton]; unfold k0_part17_skel
  simp only [wp_bind]
  iintro ⟨#Hctx, HO, Hdb0, Hgift0, Hdb1, Hgift1, Hdb2, Hgift2, Hat_bar, Hcr_bar, Hacc, Hst, Hq, HK, HV, HW⟩ Hk
  iapply (devStep c _)
  rw [dif_pos h1]
  simp only [wp_bind]
  iapply (part1 κ SA c i B _ _ _ _ _ _ h1 fa m l _) $$ [HO Hdb0 Hgift0 Hdb1 Hgift1 Hdb2 Hgift2 Hat_bar Hcr_bar Hacc Hst]
  · isplitr; · iexact Hctx
    isplitl [HO]; · iexact HO
    isplitl [Hdb0]; · iexact Hdb0
    isplitl [Hgift0]; · iexact Hgift0
    isplitl [Hdb1]; · iexact Hdb1
    isplitl [Hgift1]; · iexact Hgift1
    isplitl [Hdb2]; · iexact Hdb2
    isplitl [Hgift2]; · iexact Hgift2
    isplitl [Hat_bar]; · iexact Hat_bar
    isplitl [Hcr_bar]; · iexact Hcr_bar
    isplitl [Hacc]; · iexact Hacc
    iexact Hst
  iintro HO Hat_bar Hg0 Hg1 Hg2 Hacc Hst
  iapply (stLd1 c _ _ _ _ _) $$ Hst
  iintro Hst
  iapply (stSt1 c _ _ (initSt (F := F)).l _ (by unfold k0_pay52; rfl) _ _ _ _) $$ Hst
  iintro Hst
  iapply (ldW c _ zero3 _ _ _ _) $$ Hq
  iintro Hq
  iapply (ldW c _ zero4 _ _ _ _) $$ HK
  iintro HK
  iapply (ldW c _ zero4 _ _ _ _) $$ HV
  iintro HV
  iapply (ldW c _ zero2 _ _ _ _) $$ HW
  iintro HW
  try iapply (le_wp_ret _ _)
  iapply Hk $$ HO Hat_bar Hg0 Hg1 Hg2 Hacc Hst Hq HK HV HW

set_option maxHeartbeats 4000000 in
/-- The first grid point. -/
theorem body_first (i : grid0.Coords) (B : Blk) (h1 : k0_cond1 i = 1#1) (h2 : ¬k0_cond2 i = 1#1) (h3 : ¬k0_cond3 i = 1#1) (fa : Vec F S16x32x128 .f32) (m l : FVec F S16x32 .f32) (Xq : S16x32x128.Idx → Elt F .f32) (XK XV : S8x32x16x128.Idx → Elt F .f32) (XW : S32x256.Idx → Elt F .f32) (Kt : PUnit → sProp 𝕄) :
    iprop(ctx κ SA c ∗ ow c 14 ∗ dutyTok ER (cell (nb 0 c) .bar) 0 0 ∗ barGift (F := F) 0 c ∗ dutyTok ER (cell (nb 1 c) .bar) 0 1 ∗ barGift (F := F) 1 c ∗ dutyTok ER (cell (nb 2 c) .bar) 0 2 ∗ barGift (F := F) 2 c ∗ atPos ER (cell c .bar) 0 ∅ 0 ∗ cred (tallyAt (cell c .bar) 1 3) ∗ pAcc c fa ∗ pSt c (pack m l) ∗ owns (c : Thread nD τ) B.q fullShare Xq ∗ owns (c : Thread nD τ) B.K fullShare XK ∗ owns (c : Thread nD τ) B.V fullShare XV ∗ owns (c : Thread nD τ) B.W fullShare XW)
      ⊢ iprop((ow c 11 -∗ atPos ER (cell c .bar) 1 ∅ 0 -∗ barGift (F := F) 0 (nb 0 c) -∗ barGift (F := F) 1 (nb 1 c) -∗ barGift (F := F) 2 (nb 2 c) -∗ owns (c : Thread nD τ) B.q fullShare Xq -∗ owns (c : Thread nD τ) B.K fullShare XK -∗ owns (c : Thread nD τ) B.V fullShare XV -∗ owns (c : Thread nD τ) B.W fullShare XW -∗ pSt c (pack (stepSt Xq XK XV XW initSt).m (stepSt Xq XK XV XW initSt).l) -∗ pAcc c (stepSt Xq XK XV XW initSt).acc -∗ Kt ⟨⟩)
        -∗ wp frame (wpE (defs₀ (F := F)) 𝒱₀ (c : Thread nD τ) none) Set.univ
          (cc0_body i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [cc0_body_eq_skeleton]; unfold cc0_body_skel
  simp only [wp_bind]
  iintro ⟨#Hctx, HO, Hdb0, Hgift0, Hdb1, Hgift1, Hdb2, Hgift2, Hat_bar, Hcr_bar, Hacc, Hst, Hq, HK, HV, HW⟩ Hk
  iapply (prep_first κ SA c i B h1 fa m l Xq XK XV XW _) $$ [HO Hdb0 Hgift0 Hdb1 Hgift1 Hdb2 Hgift2 Hat_bar Hcr_bar Hacc Hst Hq HK HV HW]
  · isplitr; · iexact Hctx
    isplitl [HO]; · iexact HO
    isplitl [Hdb0]; · iexact Hdb0
    isplitl [Hgift0]; · iexact Hgift0
    isplitl [Hdb1]; · iexact Hdb1
    isplitl [Hgift1]; · iexact Hgift1
    isplitl [Hdb2]; · iexact Hdb2
    isplitl [Hgift2]; · iexact Hgift2
    isplitl [Hat_bar]; · iexact Hat_bar
    isplitl [Hcr_bar]; · iexact Hcr_bar
    isplitl [Hacc]; · iexact Hacc
    isplitl [Hst]; · iexact Hst
    isplitl [Hq]; · iexact Hq
    isplitl [HK]; · iexact HK
    isplitl [HV]; · iexact HV
    iexact HW
  iintro %a0 %v2 %v5 %v8 %v9 %v10 %v11 HO Hat_bar Hg0 Hg1 Hg2 Hacc Hst Hq HK HV HW
  dsimp only
  iapply (part18 κ SA c i B _ _ _ _ initSt _) $$ [Hst Hacc]
  · isplitr; · iexact Hctx
    isplitl [Hst]; · iexact Hst
    iexact Hacc
  iintro Hst Hacc
  rw [stepSt_m Xq XK XV XW initSt, stepSt_acc Xq XK XV XW initSt]
  dsimp only
  iapply (stSt1 c _ _ (stepSt Xq XK XV XW initSt).l _ (by unfold k0_pay1; with_unfolding_all rfl) _ _ _ _) $$ Hst
  iintro Hst
  rw [dif_neg h2]
  try iapply (le_wp_ret _ _)
  rw [dif_neg h3]
  try iapply (le_wp_ret _ _)
  try iapply (le_wp_ret _ _)
  iapply Hk $$ HO Hat_bar Hg0 Hg1 Hg2 Hq HK HV HW Hst Hacc

set_option maxHeartbeats 4000000 in
/-- A grid point that only takes a step. -/
theorem body_mid (i : grid0.Coords) (B : Blk) (h1 : ¬k0_cond1 i = 1#1) (h2 : ¬k0_cond2 i = 1#1) (h3 : ¬k0_cond3 i = 1#1) (s : St F) (Xq : S16x32x128.Idx → Elt F .f32) (XK XV : S8x32x16x128.Idx → Elt F .f32) (XW : S32x256.Idx → Elt F .f32) (Kt : PUnit → sProp 𝕄) :
    iprop(ctx κ SA c ∗ owns (c : Thread nD τ) B.q fullShare Xq ∗ owns (c : Thread nD τ) B.K fullShare XK ∗ owns (c : Thread nD τ) B.V fullShare XV ∗ owns (c : Thread nD τ) B.W fullShare XW ∗ pSt c (pack s.m s.l) ∗ pAcc c s.acc)
      ⊢ iprop((owns (c : Thread nD τ) B.q fullShare Xq -∗ owns (c : Thread nD τ) B.K fullShare XK -∗ owns (c : Thread nD τ) B.V fullShare XV -∗ owns (c : Thread nD τ) B.W fullShare XW -∗ pSt c (pack (stepSt Xq XK XV XW s).m (stepSt Xq XK XV XW s).l) -∗ pAcc c (stepSt Xq XK XV XW s).acc -∗ Kt ⟨⟩)
        -∗ wp frame (wpE (defs₀ (F := F)) 𝒱₀ (c : Thread nD τ) none) Set.univ
          (cc0_body i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [cc0_body_eq_skeleton]; unfold cc0_body_skel
  simp only [wp_bind]
  iintro ⟨#Hctx, Hq, HK, HV, HW, Hst, Hacc⟩ Hk
  iapply (prep κ SA c i B h1 Xq XK XV XW _) $$ [Hq HK HV HW]
  · isplitr; · iexact Hctx
    isplitl [Hq]; · iexact Hq
    isplitl [HK]; · iexact HK
    isplitl [HV]; · iexact HV
    iexact HW
  iintro %a0 %v2 %v5 %v8 %v9 %v10 %v11 Hq HK HV HW
  dsimp only
  iapply (part18 κ SA c i B _ _ _ _ s _) $$ [Hst Hacc]
  · isplitr; · iexact Hctx
    isplitl [Hst]; · iexact Hst
    iexact Hacc
  iintro Hst Hacc
  rw [stepSt_m Xq XK XV XW s, stepSt_acc Xq XK XV XW s]
  dsimp only
  iapply (stSt1 c _ _ (stepSt Xq XK XV XW s).l _ (by unfold k0_pay1; with_unfolding_all rfl) _ _ _ _) $$ Hst
  iintro Hst
  rw [dif_neg h2]
  try iapply (le_wp_ret _ _)
  rw [dif_neg h3]
  try iapply (le_wp_ret _ _)
  try iapply (le_wp_ret _ _)
  iapply Hk $$ Hq HK HV HW Hst Hacc

set_option maxHeartbeats 4000000 in
/-- The grid point that ends the device's first half. -/
theorem body_send (i : grid0.Coords) (B : Blk) (h1 : ¬k0_cond1 i = 1#1) (h2 : k0_cond2 i = 1#1) (h3 : ¬k0_cond3 i = 1#1) (s : St F) (Xq : S16x32x128.Idx → Elt F .f32) (XK XV : S8x32x16x128.Idx → Elt F .f32) (XW : S32x256.Idx → Elt F .f32) (hA : stepSt Xq XK XV XW s = SA c s0) (fsa : Vec F S4x16x32x128 .bf16) (fss : Vec F S4x2x16x32 .f32) (Kt : PUnit → sProp 𝕄) :
    iprop(ctx κ SA c ∗ reached ER (cell (nb (ax s0) c) (.own (.ar s0))) 0 ∗ reached ER (cell (nb (ax s0) c) (.own (.sr s0))) 0 ∗ owns (c : Thread nD τ) B.q fullShare Xq ∗ owns (c : Thread nD τ) B.K fullShare XK ∗ owns (c : Thread nD τ) B.V fullShare XV ∗ owns (c : Thread nD τ) B.W fullShare XW ∗ pSt c (pack s.m s.l) ∗ pAcc c s.acc ∗ pSa c s0 fsa ∗ pSs c s0 fss ∗ ow c 11 ∗ (∃ f, pRa (F := F) (nb (ax s0) c) s0 f) ∗ dutyTok ER (cell c (.own (.as s0))) 0 0 ∗ dutyTok ER (cell (nb (ax s0) c) (.own (.ar s0))) 0 0 ∗ (∃ f, pRs (F := F) (nb (ax s0) c) s0 f) ∗ dutyTok ER (cell c (.own (.ss s0))) 0 0 ∗ dutyTok ER (cell (nb (ax s0) c) (.own (.sr s0))) 0 0)
      ⊢ iprop((owns (c : Thread nD τ) B.q fullShare Xq -∗ owns (c : Thread nD τ) B.K fullShare XK -∗ owns (c : Thread nD τ) B.V fullShare XV -∗ owns (c : Thread nD τ) B.W fullShare XW -∗ pAcc c (initSt (F := F)).acc -∗ pSt c (pack (initSt (F := F)).m (initSt (F := F)).l) -∗ cred (tallyAt (cell c (.own (.as s0))) 0 NA) -∗ ow c 9 -∗ cred (tallyAt (cell c (.own (.ss s0))) 0 NS) -∗ Kt ⟨⟩)
        -∗ wp frame (wpE (defs₀ (F := F)) 𝒱₀ (c : Thread nD τ) none) Set.univ
          (cc0_body i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [cc0_body_eq_skeleton]; unfold cc0_body_skel
  simp only [wp_bind]
  iintro ⟨#Hctx, #Hre_ar0, #Hre_sr0, Hq, HK, HV, HW, Hst, Hacc, HpSa0, HpSs0, HO, HgpRa0, Hd_as0, Hd_ar0, HgpRs0, Hd_ss0, Hd_sr0⟩ Hk
  iapply (prep κ SA c i B h1 Xq XK XV XW _) $$ [Hq HK HV HW]
  · isplitr; · iexact Hctx
    isplitl [Hq]; · iexact Hq
    isplitl [HK]; · iexact HK
    isplitl [HV]; · iexact HV
    iexact HW
  iintro %a0 %v2 %v5 %v8 %v9 %v10 %v11 Hq HK HV HW
  dsimp only
  iapply (part18 κ SA c i B _ _ _ _ s _) $$ [Hst Hacc]
  · isplitr; · iexact Hctx
    isplitl [Hst]; · iexact Hst
    iexact Hacc
  iintro Hst Hacc
  rw [stepSt_m Xq XK XV XW s, stepSt_acc Xq XK XV XW s, hA]
  dsimp only
  iapply (stSt1 c _ _ (SA c s0).l _ (by rw [← hA]; unfold k0_pay1; with_unfolding_all rfl) _ _ _ _) $$ Hst
  iintro Hst
  rw [dif_pos h2]
  simp only [wp_bind]
  iapply (part2 κ SA c i B _ _ _ h2 fsa fss _) $$ [Hacc HpSa0 Hst HpSs0 HO HgpRa0 Hd_as0 Hd_ar0]
  · isplitr; · iexact Hctx
    isplitr; · iexact Hre_ar0
    isplitl [Hacc]; · iexact Hacc
    isplitl [HpSa0]; · iexact HpSa0
    isplitl [Hst]; · iexact Hst
    isplitl [HpSs0]; · iexact HpSs0
    isplitl [HO]; · iexact HO
    isplitl [HgpRa0]; · iexact HgpRa0
    isplitl [Hd_as0]; · iexact Hd_as0
    iexact Hd_ar0
  iintro Hacc Hst HpSs0 HO Hcr_as0
  iapply (sendS κ SA c 0 lt0 9 2 _ (dev5_eq c _) (owe_sr0 c) _ _ _ _ rfl rfl _ _ _ _ _) $$ [HO HpSs0 HgpRs0 Hd_ss0 Hd_sr0]
  · isplitr; · iexact Hctx
    isplitl [HO]; · iexact HO
    isplitl [HpSs0]; · iexact HpSs0
    isplitl [HgpRs0]; · iexact HgpRs0
    isplitl [Hd_ss0]; · iexact Hd_ss0
    isplitl [Hd_sr0]; · iexact Hd_sr0
    iexact Hre_sr0
  iintro HO Hcr_ss0
  iapply (accLd c _ _ _ _) $$ Hacc
  iintro Hacc
  rw [show k0_pay2 (F := F) = (initSt (F := F)).acc from shapeCast_self _ _]
  iapply (accSt c _ _ _ _ _ _) $$ Hacc
  iintro Hacc
  iapply (stLd0 c _ _ _ _ _) $$ Hst
  iintro Hst
  iapply (stSt0 c _ _ (initSt (F := F)).m _ (by unfold k0_pay3 initSt; rfl) _ _ _ _) $$ Hst
  iintro Hst
  iapply (stLd1 c _ _ _ _ _) $$ Hst
  iintro Hst
  iapply (stSt1 c _ _ (initSt (F := F)).l _ (by unfold k0_pay4 initSt; rfl) _ _ _ _) $$ Hst
  iintro Hst
  try iapply (le_wp_ret _ _)
  rw [dif_neg h3]
  try iapply (le_wp_ret _ _)
  try iapply (le_wp_ret _ _)
  iapply Hk $$ Hq HK HV HW Hacc Hst Hcr_as0 HO Hcr_ss0

set_option maxHeartbeats 4000000 in
/-- The last grid point. -/
theorem body_last (i : grid0.Coords) (B : Blk) (h1 : ¬k0_cond1 i = 1#1) (h2 : ¬k0_cond2 i = 1#1) (h3 : k0_cond3 i = 1#1) (s : St F) (Xq : S16x32x128.Idx → Elt F .f32) (XK XV : S8x32x16x128.Idx → Elt F .f32) (XW : S32x256.Idx → Elt F .f32) (hB : stepSt Xq XK XV XW s = SA c s1) (hM1 : SA c s2 = mergeSt (mergeSt (mergeSt (rt (SA c s0)) (SA c s1)) (rt (SA (nb (ax s0) c) s0))) (rt (SA (nb (ax s1) c) s1))) (hM2 : SA c s3 = mergeSt (SA c s2) (rt (SA (nb (ax s2) c) s2))) (fsa1 : Vec F S4x16x32x128 .bf16) (fss1 : Vec F S4x2x16x32 .f32) (fsa2 : Vec F S4x16x32x128 .bf16) (fss2 : Vec F S4x2x16x32 .f32) (fsa3 : Vec F S4x16x32x128 .bf16) (fss3 : Vec F S4x2x16x32 .f32) (Xo : S32x1x16x128.Idx → Elt F .f32) (Kt : PUnit → sProp 𝕄) :
    iprop(ctx κ SA c ∗ reached ER (cell (nb (ax s1) c) (.own (.ar s1))) 0 ∗ reached ER (cell (nb (ax s1) c) (.own (.sr s1))) 0 ∗ reached ER (cell (nb (ax s2) c) (.own (.ar s2))) 0 ∗ reached ER (cell (nb (ax s2) c) (.own (.sr s2))) 0 ∗ reached ER (cell (nb (ax s3) c) (.own (.ar s3))) 0 ∗ reached ER (cell (nb (ax s3) c) (.own (.sr s3))) 0 ∗ reached ER (cell (nb 0 c) (.own .ex)) 0 ∗ reached ER (cell (nb 1 c) (.own .ex)) 0 ∗ reached ER (cell (nb 2 c) (.own .ex)) 0 ∗ owns (c : Thread nD τ) B.q fullShare Xq ∗ owns (c : Thread nD τ) B.K fullShare XK ∗ owns (c : Thread nD τ) B.V fullShare XV ∗ owns (c : Thread nD τ) B.W fullShare XW ∗ pSt c (pack s.m s.l) ∗ pAcc c s.acc ∗ pSa c s1 fsa1 ∗ pSs c s1 fss1 ∗ pSa c s2 fsa2 ∗ pSs c s2 fss2 ∗ pSa c s3 fsa3 ∗ pSs c s3 fss3 ∗ ow c 9 ∗ (∃ f, pRa (F := F) (nb (ax s1) c) s1 f) ∗ dutyTok ER (cell c (.own (.as s1))) 0 0 ∗ dutyTok ER (cell (nb (ax s1) c) (.own (.ar s1))) 0 0 ∗ (∃ f, pRs (F := F) (nb (ax s1) c) s1 f) ∗ dutyTok ER (cell c (.own (.ss s1))) 0 0 ∗ dutyTok ER (cell (nb (ax s1) c) (.own (.sr s1))) 0 0 ∗ atPos ER (cell c (.own (.as s0))) 0 ∅ 0 ∗ cred (tallyAt (cell c (.own (.as s0))) 0 NA) ∗ atPos ER (cell c (.own (.ar s0))) 0 ∅ 0 ∗ cred (tallyAt (cell c (.own (.ar s0))) 2 NA) ∗ atPos ER (cell c (.own (.ss s0))) 0 ∅ 0 ∗ cred (tallyAt (cell c (.own (.ss s0))) 0 NS) ∗ atPos ER (cell c (.own (.sr s0))) 0 ∅ 0 ∗ cred (tallyAt (cell c (.own (.sr s0))) 2 NS) ∗ atPos ER (cell c (.own (.as s1))) 0 ∅ 0 ∗ atPos ER (cell c (.own (.ar s1))) 0 ∅ 0 ∗ cred (tallyAt (cell c (.own (.ar s1))) 2 NA) ∗ atPos ER (cell c (.own (.ss s1))) 0 ∅ 0 ∗ atPos ER (cell c (.own (.sr s1))) 0 ∅ 0 ∗ cred (tallyAt (cell c (.own (.sr s1))) 2 NS) ∗ (∃ f, pRa (F := F) (nb (ax s2) c) s2 f) ∗ dutyTok ER (cell c (.own (.as s2))) 0 0 ∗ dutyTok ER (cell (nb (ax s2) c) (.own (.ar s2))) 0 0 ∗ (∃ f, pRs (F := F) (nb (ax s2) c) s2 f) ∗ dutyTok ER (cell c (.own (.ss s2))) 0 0 ∗ dutyTok ER (cell (nb (ax s2) c) (.own (.sr s2))) 0 0 ∗ atPos ER (cell c (.own (.as s2))) 0 ∅ 0 ∗ atPos ER (cell c (.own (.ar s2))) 0 ∅ 0 ∗ cred (tallyAt (cell c (.own (.ar s2))) 3 NA) ∗ atPos ER (cell c (.own (.ss s2))) 0 ∅ 0 ∗ atPos ER (cell c (.own (.sr s2))) 0 ∅ 0 ∗ cred (tallyAt (cell c (.own (.sr s2))) 3 NS) ∗ (∃ f, pRa (F := F) (nb (ax s3) c) s3 f) ∗ dutyTok ER (cell c (.own (.as s3))) 0 0 ∗ dutyTok ER (cell (nb (ax s3) c) (.own (.ar s3))) 0 0 ∗ (∃ f, pRs (F := F) (nb (ax s3) c) s3 f) ∗ dutyTok ER (cell c (.own (.ss s3))) 0 0 ∗ dutyTok ER (cell (nb (ax s3) c) (.own (.sr s3))) 0 0 ∗ atPos ER (cell c (.own (.as s3))) 0 ∅ 0 ∗ atPos ER (cell c (.own (.ar s3))) 0 ∅ 0 ∗ cred (tallyAt (cell c (.own (.ar s3))) 4 NA) ∗ atPos ER (cell c (.own (.ss s3))) 0 ∅ 0 ∗ atPos ER (cell c (.own (.sr s3))) 0 ∅ 0 ∗ cred (tallyAt (cell c (.own (.sr s3))) 4 NS) ∗ owns (c : Thread nD τ) B.o fullShare Xo ∗ dutyTok ER (cell (nb 0 c) (.own .ex)) 0 0 ∗ dutyTok ER (cell (nb 1 c) (.own .ex)) 0 1 ∗ dutyTok ER (cell (nb 2 c) (.own .ex)) 0 2 ∗ atPos ER (cell c (.own .ex)) 0 ∅ 0 ∗ cred (tallyAt (cell c (.own .ex)) 5 3))
      ⊢ iprop((owns (c : Thread nD τ) B.q fullShare Xq -∗ owns (c : Thread nD τ) B.K fullShare XK -∗ owns (c : Thread nD τ) B.V fullShare XV -∗ owns (c : Thread nD τ) B.W fullShare XW -∗ atPos ER (cell c (.own (.as s0))) 1 ∅ 0 -∗ atPos ER (cell c (.own (.ar s0))) 1 ∅ 0 -∗ atPos ER (cell c (.own (.ss s0))) 1 ∅ 0 -∗ atPos ER (cell c (.own (.sr s0))) 1 ∅ 0 -∗ atPos ER (cell c (.own (.as s1))) 1 ∅ 0 -∗ pSa c s1 (SACC (SA c)) -∗ atPos ER (cell c (.own (.ar s1))) 1 ∅ 0 -∗ atPos ER (cell c (.own (.ss s1))) 1 ∅ 0 -∗ pSs c s1 (SST (SA c)) -∗ atPos ER (cell c (.own (.sr s1))) 1 ∅ 0 -∗ pSa c s0 (SACC (SA c)) -∗ pSs c s0 (SST (SA c)) -∗ pAcc c (SA c s1).acc -∗ pSt c (pack (SA c s1).m (SA c s1).l) -∗ pRa c s0 (SACC (SA (nb (ax s0) c))) -∗ pRs c s0 (SST (SA (nb (ax s0) c))) -∗ pRa c s1 (SACC (SA (nb (ax s1) c))) -∗ pRs c s1 (SST (SA (nb (ax s1) c))) -∗ atPos ER (cell c (.own (.as s2))) 1 ∅ 0 -∗ pSa c s2 (SACC (SA c)) -∗ atPos ER (cell c (.own (.ar s2))) 1 ∅ 0 -∗ atPos ER (cell c (.own (.ss s2))) 1 ∅ 0 -∗ pSs c s2 (SST (SA c)) -∗ atPos ER (cell c (.own (.sr s2))) 1 ∅ 0 -∗ pRs c s2 (SST (SA (nb (ax s2) c))) -∗ pRa c s2 (SACC (SA (nb (ax s2) c))) -∗ atPos ER (cell c (.own (.as s3))) 1 ∅ 0 -∗ pSa c s3 (SACC (SA c)) -∗ atPos ER (cell c (.own (.ar s3))) 1 ∅ 0 -∗ atPos ER (cell c (.own (.ss s3))) 1 ∅ 0 -∗ pSs c s3 (SST (SA c)) -∗ atPos ER (cell c (.own (.sr s3))) 1 ∅ 0 -∗ pRs c s3 (SST (SA (nb (ax s3) c))) -∗ pRa c s3 (SACC (SA (nb (ax s3) c))) -∗ owns (c : Thread nD τ) B.o fullShare (fin (mergeSt (SA c s3) (rt (SA (nb (ax s3) c) s3)))) -∗ ow c 0 -∗ atPos ER (cell c (.own .ex)) 1 ∅ 0 -∗ Kt ⟨⟩)
        -∗ wp frame (wpE (defs₀ (F := F)) 𝒱₀ (c : Thread nD τ) none) Set.univ
          (cc0_body i (Memref.whole main_v41) (Memref.isWhole_whole _) B.q B.hq B.K B.hK B.V B.hV B.W B.hW B.o B.ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt) := by
  rw [cc0_body_eq_skeleton]; unfold cc0_body_skel
  simp only [wp_bind]
  iintro ⟨#Hctx, #Hre_ar1, #Hre_sr1, #Hre_ar2, #Hre_sr2, #Hre_ar3, #Hre_sr3, #Hre_ex0, #Hre_ex1, #Hre_ex2, Hq, HK, HV, HW, Hst, Hacc, HpSa1, HpSs1, HpSa2, HpSs2, HpSa3, HpSs3, HO, HgpRa1, Hd_as1, Hd_ar1, HgpRs1, Hd_ss1, Hd_sr1, Hat_as0, Hcr_as0, Hat_ar0, Hcr_ar0, Hat_ss0, Hcr_ss0, Hat_sr0, Hcr_sr0, Hat_as1, Hat_ar1, Hcr_ar1, Hat_ss1, Hat_sr1, Hcr_sr1, HgpRa2, Hd_as2, Hd_ar2, HgpRs2, Hd_ss2, Hd_sr2, Hat_as2, Hat_ar2, Hcr_ar2, Hat_ss2, Hat_sr2, Hcr_sr2, HgpRa3, Hd_as3, Hd_ar3, HgpRs3, Hd_ss3, Hd_sr3, Hat_as3, Hat_ar3, Hcr_ar3, Hat_ss3, Hat_sr3, Hcr_sr3, Ho, Hde0, Hde1, Hde2, Hat_ex, Hcr_ex⟩ Hk
  iapply (prep κ SA c i B h1 Xq XK XV XW _) $$ [Hq HK HV HW]
  · isplitr; · iexact Hctx
    isplitl [Hq]; · iexact Hq
    isplitl [HK]; · iexact HK
    isplitl [HV]; · iexact HV
    iexact HW
  iintro %a0 %v2 %v5 %v8 %v9 %v10 %v11 Hq HK HV HW
  dsimp only
  iapply (part18 κ SA c i B _ _ _ _ s _) $$ [Hst Hacc]
  · isplitr; · iexact Hctx
    isplitl [Hst]; · iexact Hst
    iexact Hacc
  iintro Hst Hacc
  rw [stepSt_m Xq XK XV XW s, stepSt_acc Xq XK XV XW s, hB]
  dsimp only
  iapply (stSt1 c _ _ (SA c s1).l _ (by rw [← hB]; unfold k0_pay1; with_unfolding_all rfl) _ _ _ _) $$ Hst
  iintro Hst
  rw [dif_neg h2]
  try iapply (le_wp_ret _ _)
  rw [dif_pos h3]
  simp only [wp_bind]
  iapply (part3 κ SA c i B _ _ _ h3 fsa1 fss1 _) $$ [Hacc HpSa1 Hst HpSs1 HO HgpRa1 Hd_as1 Hd_ar1]
  · isplitr; · iexact Hctx
    isplitr; · iexact Hre_ar1
    isplitl [Hacc]; · iexact Hacc
    isplitl [HpSa1]; · iexact HpSa1
    isplitl [Hst]; · iexact Hst
    isplitl [HpSs1]; · iexact HpSs1
    isplitl [HO]; · iexact HO
    isplitl [HgpRa1]; · iexact HgpRa1
    isplitl [Hd_as1]; · iexact Hd_as1
    iexact Hd_ar1
  iintro Hacc Hst HpSs1 HO Hcr_as1
  iapply (part4 κ SA c i B _ _ _ _ h3 _) $$ [HO HpSs1 HgpRs1 Hd_ss1 Hd_sr1 Hat_as0 Hcr_as0]
  · isplitr; · iexact Hctx
    isplitr; · iexact Hre_sr1
    isplitl [HO]; · iexact HO
    isplitl [HpSs1]; · iexact HpSs1
    isplitl [HgpRs1]; · iexact HgpRs1
    isplitl [Hd_ss1]; · iexact Hd_ss1
    isplitl [Hd_sr1]; · iexact Hd_sr1
    isplitl [Hat_as0]; · iexact Hat_as0
    iexact Hcr_as0
  iintro HO Hcr_ss1 Hat_as0 HpSa0
  iapply (part5 κ SA c i B _ _ _ _) $$ [HO Hat_ar0 Hcr_ar0 Hat_ss0 Hcr_ss0 Hat_sr0 Hcr_sr0]
  · isplitr; · iexact Hctx
    isplitl [HO]; · iexact HO
    isplitl [Hat_ar0]; · iexact Hat_ar0
    isplitl [Hcr_ar0]; · iexact Hcr_ar0
    isplitl [Hat_ss0]; · iexact Hat_ss0
    isplitl [Hcr_ss0]; · iexact Hcr_ss0
    isplitl [Hat_sr0]; · iexact Hat_sr0
    iexact Hcr_sr0
  iintro HO Hat_ar0 HpRa0 Hat_ss0 HpSs0 Hat_sr0 HpRs0
  iapply (part6 κ SA c i B _ _ _ _) $$ [HO Hat_as1 Hcr_as1 Hat_ar1 Hcr_ar1 Hat_ss1 Hcr_ss1]
  · isplitr; · iexact Hctx
    isplitl [HO]; · iexact HO
    isplitl [Hat_as1]; · iexact Hat_as1
    isplitl [Hcr_as1]; · iexact Hcr_as1
    isplitl [Hat_ar1]; · iexact Hat_ar1
    isplitl [Hcr_ar1]; · iexact Hcr_ar1
    isplitl [Hat_ss1]; · iexact Hat_ss1
    iexact Hcr_ss1
  iintro HO Hat_as1 HpSa1 Hat_ar1 HpRa1 Hat_ss1 HpSs1
  iapply (part7 κ SA c i B _ _ _ _) $$ [HO Hat_sr1 Hcr_sr1 HpSa0 HpSs0 Hacc Hst]
  · isplitr; · iexact Hctx
    isplitl [HO]; · iexact HO
    isplitl [Hat_sr1]; · iexact Hat_sr1
    isplitl [Hcr_sr1]; · iexact Hcr_sr1
    isplitl [HpSa0]; · iexact HpSa0
    isplitl [HpSs0]; · iexact HpSs0
    isplitl [Hacc]; · iexact Hacc
    iexact Hst
  iintro HO Hat_sr1 HpRs1 HpSa0 HpSs0 Hacc Hst
  dsimp only
  iapply (part8 κ SA c i B  _) $$ [HpRa0 HpRs0 HpRa1 HpRs1]
  · isplitr; · iexact Hctx
    isplitl [HpRa0]; · iexact HpRa0
    isplitl [HpRs0]; · iexact HpRs0
    isplitl [HpRa1]; · iexact HpRa1
    iexact HpRs1
  iintro HpRa0 HpRs0 HpRa1 HpRs1
  dsimp only
  iapply (part9 κ SA c i B _ _ _ hM1 fsa2 fss2 _) $$ [HpRs1 HpSa2 HpSs2]
  · isplitr; · iexact Hctx
    isplitl [HpRs1]; · iexact HpRs1
    isplitl [HpSa2]; · iexact HpSa2
    iexact HpSs2
  iintro HpRs1 HpSa2 HpSs2
  dsimp only
  iapply (part10 κ SA c i B _ _ _ h3 _) $$ [HO HpSa2 HgpRa2 Hd_as2 Hd_ar2 HpSs2 HgpRs2 Hd_ss2 Hd_sr2 Hat_as2]
  · isplitr; · iexact Hctx
    isplitr; · iexact Hre_ar2
    isplitr; · iexact Hre_sr2
    isplitl [HO]; · iexact HO
    isplitl [HpSa2]; · iexact HpSa2
    isplitl [HgpRa2]; · iexact HgpRa2
    isplitl [Hd_as2]; · iexact Hd_as2
    isplitl [Hd_ar2]; · iexact Hd_ar2
    isplitl [HpSs2]; · iexact HpSs2
    isplitl [HgpRs2]; · iexact HgpRs2
    isplitl [Hd_ss2]; · iexact Hd_ss2
    isplitl [Hd_sr2]; · iexact Hd_sr2
    iexact Hat_as2
  iintro HO Hcr_ss2 Hat_as2 HpSa2
  iapply (part11 κ SA c i B _ _ _ _) $$ [HO Hat_ar2 Hcr_ar2 Hat_ss2 Hcr_ss2]
  · isplitr; · iexact Hctx
    isplitl [HO]; · iexact HO
    isplitl [Hat_ar2]; · iexact Hat_ar2
    isplitl [Hcr_ar2]; · iexact Hcr_ar2
    isplitl [Hat_ss2]; · iexact Hat_ss2
    iexact Hcr_ss2
  iintro HO Hat_ar2 HpRa2 Hat_ss2 HpSs2
  iapply (part12 κ SA c i B hM2 fsa3 fss3 _) $$ [HO Hat_sr2 Hcr_sr2 HpRa2 HpSa3 HpSs3]
  · isplitr; · iexact Hctx
    isplitl [HO]; · iexact HO
    isplitl [Hat_sr2]; · iexact Hat_sr2
    isplitl [Hcr_sr2]; · iexact Hcr_sr2
    isplitl [HpRa2]; · iexact HpRa2
    isplitl [HpSa3]; · iexact HpSa3
    iexact HpSs3
  iintro %v354 HO Hat_sr2 HpRs2 HpRa2 HpSa3 HpSs3
  dsimp only
  iapply (part13 κ SA c i B _ _ _ h3 _ fss3 _) $$ [HpSs3 HO HpSa3 HgpRa3 Hd_as3 Hd_ar3]
  · isplitr; · iexact Hctx
    isplitr; · iexact Hre_ar3
    isplitl [HpSs3]; · iexact HpSs3
    isplitl [HO]; · iexact HO
    isplitl [HpSa3]; · iexact HpSa3
    isplitl [HgpRa3]; · iexact HgpRa3
    isplitl [Hd_as3]; · iexact Hd_as3
    iexact Hd_ar3
  iintro HpSs3 HO Hcr_as3
  iapply (part14 κ SA c i B _ _ _ h3 _) $$ [HO HpSs3 HgpRs3 Hd_ss3 Hd_sr3 Hat_as3 Hcr_as3 Hat_ar3 Hcr_ar3]
  · isplitr; · iexact Hctx
    isplitr; · iexact Hre_sr3
    isplitl [HO]; · iexact HO
    isplitl [HpSs3]; · iexact HpSs3
    isplitl [HgpRs3]; · iexact HgpRs3
    isplitl [Hd_ss3]; · iexact Hd_ss3
    isplitl [Hd_sr3]; · iexact Hd_sr3
    isplitl [Hat_as3]; · iexact Hat_as3
    isplitl [Hcr_as3]; · iexact Hcr_as3
    isplitl [Hat_ar3]; · iexact Hat_ar3
    iexact Hcr_ar3
  iintro HO Hcr_ss3 Hat_as3 HpSa3 Hat_ar3 HpRa3
  iapply (part15 κ SA c i B _ _ _ _) $$ [HO Hat_ss3 Hcr_ss3 Hat_sr3 Hcr_sr3 HpRa3]
  · isplitr; · iexact Hctx
    isplitl [HO]; · iexact HO
    isplitl [Hat_ss3]; · iexact Hat_ss3
    isplitl [Hcr_ss3]; · iexact Hcr_ss3
    isplitl [Hat_sr3]; · iexact Hat_sr3
    isplitl [Hcr_sr3]; · iexact Hcr_sr3
    iexact HpRa3
  iintro HO Hat_ss3 HpSs3 Hat_sr3 HpRs3 HpRa3
  dsimp only
  iapply (part16 κ SA c i B _ _ _ _ _ _ h3 Xo _) $$ [Ho HO Hde0 Hde1 Hde2]
  · isplitr; · iexact Hctx
    isplitr; · iexact Hre_ex0
    isplitr; · iexact Hre_ex1
    isplitr; · iexact Hre_ex2
    isplitl [Ho]; · iexact Ho
    isplitl [HO]; · iexact HO
    isplitl [Hde0]; · iexact Hde0
    isplitl [Hde1]; · iexact Hde1
    iexact Hde2
  iintro Ho HO
  iapply (waitEx κ SA c 0 (by decide) _) $$ [HO Hat_ex Hcr_ex]
  · isplitr; · iexact Hctx
    isplitl [HO]; · iexact HO
    isplitl [Hat_ex]; · iexact Hat_ex
    iexact Hcr_ex
  iintro HO Hat_ex -
  try iapply (le_wp_ret _ _)
  try iapply (le_wp_ret _ _)
  iapply Hk $$ Hq HK HV HW Hat_as0 Hat_ar0 Hat_ss0 Hat_sr0 Hat_as1 HpSa1 Hat_ar1 Hat_ss1 HpSs1 Hat_sr1 HpSa0 HpSs0 Hacc Hst HpRa0 HpRs0 HpRa1 HpRs1 Hat_as2 HpSa2 Hat_ar2 Hat_ss2 HpSs2 Hat_sr2 HpRs2 HpRa2 Hat_as3 HpSa3 Hat_ar3 Hat_ss3 HpSs3 Hat_sr3 HpRs3 HpRa3 Ho HO Hat_ex

end Body

end Cert.Proof.KV
-- ==== Proof.Data.lean ====
/-
  What the kernel's region computes with: each device's block index table, the blocks its eight grid points read, the
  states of the running attention from point to point, and the states of the four slots as they are sent.
-/
module

public import proofs.«01_k».proof.Proof.Body
public import proofs.«01_k».proof.Proof.Gen.KernelIdeal.Regions

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-! ### The table -/

/-- The table of a device holds one number, the first of its blocks of pages. -/
def tbl (c : Dev nD) : pre0.Contents (Elt F)
  | 0 => fun _ => BitVec.ofNat 32 (c.val % 4 * 8)

theorem tbl_at (c : Dev nD) (inb) (hn) :
    (tbl (F := F) c).at 0 (Rect.unit (s := S1) ![0] S1.size inb) hn = BitVec.ofNat 32 (c.val % 4 * 8) := rfl

theorem i0_lt (i : grid0.Coords) : (i 0).val < 8 := (i 0).isLt

theorem blk_no (c : Dev nD) (i : grid0.Coords) :
    (BitVec.ofNat 32 (c.val % 4 * 8) + BitVec.ofNat 32 (i 0).val).toNat = c.val % 4 * 8 + (i 0).val := by
  have := i0_lt i
  rw [BitVec.toNat_add, BitVec.toNat_ofNat, BitVec.toNat_ofNat]
  omega

theorem tr1 (c : Dev nD) (i : grid0.Coords) :
    cc0_transform_1 inb_S1_S1_0 numel1_S1 (tbl (F := F) c) i = ![c.val % 4 * 8 + (i 0).val, 0, 0, 0] := by
  unfold cc0_transform_1
  dsimp only
  rw [tbl_at _ _ numel1_S1]
  show ![(BitVec.ofNat 32 (c.val % 4 * 8) + BitVec.ofNat 32 (i 0).val).toNat, 0, 0, 0] = _
  rw [blk_no]

theorem tr2 (c : Dev nD) (i : grid0.Coords) :
    cc0_transform_2 inb_S1_S1_0 numel1_S1 (tbl (F := F) c) i = ![c.val % 4 * 8 + (i 0).val, 0, 0, 0] := by
  unfold cc0_transform_2
  dsimp only
  rw [tbl_at _ _ numel1_S1]
  show ![(BitVec.ofNat 32 (c.val % 4 * 8) + BitVec.ofNat 32 (i 0).val).toNat, 0, 0, 0] = _
  rw [blk_no]

theorem tbl_ok (c : Dev nD) : ok0 (tbl (F := F) c) := by
  have h (i : grid0.Coords) : ∀ a, ((![c.val % 4 * 8 + (i 0).val, 0, 0, 0] : Fin 4 → Nat) a + 1) * S8x32x16x128.size a ≤ S256x32x16x128.size a := by
    intro a
    have := i0_lt i
    match a with
    | ⟨0, _⟩ => show (c.val % 4 * 8 + (i 0).val + 1) * 8 ≤ 256; omega
    | ⟨1, _⟩ => show (0 + 1) * 32 ≤ 32; omega
    | ⟨2, _⟩ => show (0 + 1) * 16 ≤ 16; omega
    | ⟨3, _⟩ => show (0 + 1) * 128 ≤ 128; omega
  exact ⟨fun i => ⟨by rw [tr1]; exact h i, Or.inl rfl⟩, fun i => ⟨by rw [tr2]; exact h i, Or.inl rfl⟩⟩

/-- Every device's table, with the fact that its blocks lie in the arrays. -/
abbrev adm (c : Dev nD) : (p : Fin 1) → (pcfgs (F := F) p).Adm := fun _ => ⟨tbl c, tbl_ok c⟩

/-- The kernel's region on device `c`. -/
abbrev cf (c : Dev nD) : Pipeline.Cfg sig Λ₀ := Pipeline.pinD (pcfgs (F := F)) adm c 0

theorem phinj : Function.Injective (Pipeline.PerCore.cellOf (nD := nD) (τ := τ) (Pipeline.pinD (pcfgs (F := F)) adm)) :=
  Pipeline.PerCore.cellOf_injective _ (fun _ p => by fin_cases p; exact (by decide : Pipeline.SpecSemsDistinct spec0))
    fun _ p p' h => absurd (Subsingleton.elim p p') h

/-! ### Blocks and states -/

section

variable (V : Dev nD → Valuation τ sig (Elt F))

/-- The contents of the arrays the region's windows look into, at entry. -/
def arrs (c : Dev nD) (w : Fin 5) : Buf (Elt F) (((cf (F := F) c).win w).arr.view.loc (c.tc : Thread nD τ)) :=
  V c (Proc.devRef .tc (Pipeline.arrRef spec0 w))

/-- The block a window shows at a grid point. -/
def iblk (c : Dev nD) (w : Fin 5) (t : Fin grid0.N) :
    (((cf (F := F) c).win w).xblock ((cf (F := F) c).grid.coords t)).Idx → Elt F ((cf (F := F) c).win w).elt :=
  (((cf (F := F) c).win w).blk t).view.read (Elt F) (arrs V c w)

abbrev qB (c : Dev nD) (t : Fin grid0.N) : Vec F S16x32x128 .f32 := iblk V c 0 t
abbrev kB (c : Dev nD) (t : Fin grid0.N) : Vec F S8x32x16x128 .f32 := iblk V c 1 t
abbrev vB (c : Dev nD) (t : Fin grid0.N) : Vec F S8x32x16x128 .f32 := iblk V c 2 t
abbrev wB (c : Dev nD) (t : Fin grid0.N) : Vec F S32x256 .f32 := iblk V c 3 t

/-- One grid point: its block of pages taken into the state. -/
def stp (c : Dev nD) (s : St F) (t : Fin grid0.N) : St F := stepSt (qB V c t) (kB V c t) (vB V c t) (wB V c t) s

/-- The state after the first `n` points of the first half, and of the second. -/
def sA (c : Dev nD) (n : ℕ) : St F := ([t0_0, t0_1, t0_2, t0_3].take n).foldl (stp V c) initSt
def sB (c : Dev nD) (n : ℕ) : St F := ([t0_4, t0_5, t0_6, t0_7].take n).foldl (stp V c) initSt

/-- A device's two halves merged with its neighbour's along `z`, then along `y`, then along `x`. -/
def M1 (c : Dev nD) : St F :=
  mergeSt (mergeSt (mergeSt (rt (sA V c 4)) (sB V c 4)) (rt (sA V (nb 0 c) 4))) (rt (sB V (nb 0 c) 4))
def M2 (c : Dev nD) : St F := mergeSt (M1 V c) (rt (M1 V (nb 1 c)))
def M3 (c : Dev nD) : St F := mergeSt (M2 V c) (rt (M2 V (nb 2 c)))

/-- What a device sends in its four slots. -/
def SA (c : Dev nD) : Fin 4 → St F := ![sA V c 4, sB V c 4, M1 V c, M2 V c]

/-- The kernel's result on device `c`. -/
def out (c : Dev nD) : Vec F S32x1x16x128 .f32 := fin (M3 V c)

end

end Cert.Proof.KV
-- ==== Proof.Inv.lean ====
/-
  What a device holds between grid points of the kernel's region: its part in the protocol, the slots of the exchange
  buffers, the running state; and how the semaphores are closed at the end.
-/
module

public import proofs.«01_k».proof.Proof.Data
public import Idealize.ShloMosaic.Lib.Ring

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-! ### Slots of a buffer held whole -/

theorem slA_disj (s t : Fin 4) (h : s ≠ t) : Disjoint (slA s) (slA t) :=
  Finset.disjoint_left.mpr fun _ hi hj => h (Fin.ext ((mem_slA.mp hi).symm.trans (mem_slA.mp hj)))
theorem slS_disj (s t : Fin 4) (h : s ≠ t) : Disjoint (slS s) (slS t) :=
  Finset.disjoint_left.mpr fun _ hi hj => h (Fin.ext ((mem_slS.mp hi).symm.trans (mem_slS.mp hj)))
theorem slA_all : (Finset.univ : Finset (Fin 4)).biUnion slA = Finset.univ :=
  Finset.eq_univ_of_forall fun i => Finset.mem_biUnion.mpr ⟨i 0, Finset.mem_univ _, mem_slA.mpr rfl⟩
theorem slS_all : (Finset.univ : Finset (Fin 4)).biUnion slS = Finset.univ :=
  Finset.eq_univ_of_forall fun i => Finset.mem_biUnion.mpr ⟨i 0, Finset.mem_univ _, mem_slS.mpr rfl⟩

/-- Four summands one by one. -/
theorem four (Φ : Fin 4 → sProp 𝕄) : bigSep Finset.univ Φ = iprop(Φ s0 ∗ Φ s1 ∗ Φ s2 ∗ Φ s3) :=
  bigSep_univ_eq_bigSepL [s0, s1, s2, s3] (by decide) (by decide) Φ

/-- The buffer held whole is held slot by slot, -/
theorem pSa_split (c : Dev nD) :
    (iprop(∃ f : Buf (Elt F) (lSa c), lSa c ↦{fullShare} f) : sProp 𝕄) ⊢ iprop((∃ f, pSa (F := F) c s0 f) ∗ (∃ f, pSa (F := F) c s1 f) ∗ (∃ f, pSa (F := F) c s2 f) ∗ (∃ f, pSa (F := F) c s3 f)) := by
  iintro ⟨%f, H⟩
  have h : (lSa c ↦{fullShare} f : sProp 𝕄) = iprop(pSa c s0 f ∗ pSa c s1 f ∗ pSa c s2 f ∗ pSa c s3 f) := by
    rw [Ring.pointsTo_blocks slA slA_disj slA_all, four]; rfl
  ihave H' := (Entails.of_eq h) $$ H
  icases H' with ⟨H0, H1, H2, H3⟩
  isplitl [H0]; · iexists f; iexact H0
  isplitl [H1]; · iexists f; iexact H1
  isplitl [H2]; · iexists f; iexact H2
  iexists f; iexact H3

/-- and back. -/
theorem pSa_join (c : Dev nD) (f0 f1 f2 f3 : Vec F S4x16x32x128 .bf16) :
    iprop(pSa c s0 f0 ∗ pSa c s1 f1 ∗ pSa c s2 f2 ∗ pSa c s3 f3) ⊢ (iprop(∃ f : Buf (Elt F) (lSa c), lSa c ↦{fullShare} f) : sProp 𝕄) := by
  refine Entails.trans (Entails.of_eq ?_) (Ring.pointsTo_blocks_join (ℓ := lSa c) slA slA_disj slA_all ![f0, f1, f2, f3] f0)
  rw [four]; rfl

/-- The buffer held whole is held slot by slot, -/
theorem pSs_split (c : Dev nD) :
    (iprop(∃ f : Buf (Elt F) (lSs c), lSs c ↦{fullShare} f) : sProp 𝕄) ⊢ iprop((∃ f, pSs (F := F) c s0 f) ∗ (∃ f, pSs (F := F) c s1 f) ∗ (∃ f, pSs (F := F) c s2 f) ∗ (∃ f, pSs (F := F) c s3 f)) := by
  iintro ⟨%f, H⟩
  have h : (lSs c ↦{fullShare} f : sProp 𝕄) = iprop(pSs c s0 f ∗ pSs c s1 f ∗ pSs c s2 f ∗ pSs c s3 f) := by
    rw [Ring.pointsTo_blocks slS slS_disj slS_all, four]; rfl
  ihave H' := (Entails.of_eq h) $$ H
  icases H' with ⟨H0, H1, H2, H3⟩
  isplitl [H0]; · iexists f; iexact H0
  isplitl [H1]; · iexists f; iexact H1
  isplitl [H2]; · iexists f; iexact H2
  iexists f; iexact H3

/-- and back. -/
theorem pSs_join (c : Dev nD) (f0 f1 f2 f3 : Vec F S4x2x16x32 .f32) :
    iprop(pSs c s0 f0 ∗ pSs c s1 f1 ∗ pSs c s2 f2 ∗ pSs c s3 f3) ⊢ (iprop(∃ f : Buf (Elt F) (lSs c), lSs c ↦{fullShare} f) : sProp 𝕄) := by
  refine Entails.trans (Entails.of_eq ?_) (Ring.pointsTo_blocks_join (ℓ := lSs c) slS slS_disj slS_all ![f0, f1, f2, f3] f0)
  rw [four]; rfl

/-- The buffer held whole is held slot by slot, -/
theorem pRa_split (c : Dev nD) :
    (iprop(∃ f : Buf (Elt F) (lRa c), lRa c ↦{fullShare} f) : sProp 𝕄) ⊢ iprop((∃ f, pRa (F := F) c s0 f) ∗ (∃ f, pRa (F := F) c s1 f) ∗ (∃ f, pRa (F := F) c s2 f) ∗ (∃ f, pRa (F := F) c s3 f)) := by
  iintro ⟨%f, H⟩
  have h : (lRa c ↦{fullShare} f : sProp 𝕄) = iprop(pRa c s0 f ∗ pRa c s1 f ∗ pRa c s2 f ∗ pRa c s3 f) := by
    rw [Ring.pointsTo_blocks slA slA_disj slA_all, four]; rfl
  ihave H' := (Entails.of_eq h) $$ H
  icases H' with ⟨H0, H1, H2, H3⟩
  isplitl [H0]; · iexists f; iexact H0
  isplitl [H1]; · iexists f; iexact H1
  isplitl [H2]; · iexists f; iexact H2
  iexists f; iexact H3

/-- and back. -/
theorem pRa_join (c : Dev nD) (f0 f1 f2 f3 : Vec F S4x16x32x128 .bf16) :
    iprop(pRa c s0 f0 ∗ pRa c s1 f1 ∗ pRa c s2 f2 ∗ pRa c s3 f3) ⊢ (iprop(∃ f : Buf (Elt F) (lRa c), lRa c ↦{fullShare} f) : sProp 𝕄) := by
  refine Entails.trans (Entails.of_eq ?_) (Ring.pointsTo_blocks_join (ℓ := lRa c) slA slA_disj slA_all ![f0, f1, f2, f3] f0)
  rw [four]; rfl

/-- The buffer held whole is held slot by slot, -/
theorem pRs_split (c : Dev nD) :
    (iprop(∃ f : Buf (Elt F) (lRs c), lRs c ↦{fullShare} f) : sProp 𝕄) ⊢ iprop((∃ f, pRs (F := F) c s0 f) ∗ (∃ f, pRs (F := F) c s1 f) ∗ (∃ f, pRs (F := F) c s2 f) ∗ (∃ f, pRs (F := F) c s3 f)) := by
  iintro ⟨%f, H⟩
  have h : (lRs c ↦{fullShare} f : sProp 𝕄) = iprop(pRs c s0 f ∗ pRs c s1 f ∗ pRs c s2 f ∗ pRs c s3 f) := by
    rw [Ring.pointsTo_blocks slS slS_disj slS_all, four]; rfl
  ihave H' := (Entails.of_eq h) $$ H
  icases H' with ⟨H0, H1, H2, H3⟩
  isplitl [H0]; · iexists f; iexact H0
  isplitl [H1]; · iexists f; iexact H1
  isplitl [H2]; · iexists f; iexact H2
  iexists f; iexact H3

/-- and back. -/
theorem pRs_join (c : Dev nD) (f0 f1 f2 f3 : Vec F S4x2x16x32 .f32) :
    iprop(pRs c s0 f0 ∗ pRs c s1 f1 ∗ pRs c s2 f2 ∗ pRs c s3 f3) ⊢ (iprop(∃ f : Buf (Elt F) (lRs c), lRs c ↦{fullShare} f) : sProp 𝕄) := by
  refine Entails.trans (Entails.of_eq ?_) (Ring.pointsTo_blocks_join (ℓ := lRs c) slS slS_disj slS_all ![f0, f1, f2, f3] f0)
  rw [four]; rfl

/-! ### What a device holds of the protocol -/

/-- The duties of slot `s`'s copies. -/
def sendRes (c : Dev nD) (s : Fin 4) : sProp 𝕄 :=
  iprop(dutyTok ER (cell c (.own (.as s))) 0 0 ∗ dutyTok ER (cell (nb (ax s) c) (.own (.ar s))) 0 0
    ∗ dutyTok ER (cell c (.own (.ss s))) 0 0 ∗ dutyTok ER (cell (nb (ax s) c) (.own (.sr s))) 0 0)

/-- The waits of slot `s`'s copies, the neighbour's at level `l`. -/
def recvRes (c : Dev nD) (s : Fin 4) (l : ℕ) : sProp 𝕄 :=
  iprop(atPos ER (cell c (.own (.as s))) 0 ∅ 0 ∗ atPos ER (cell c (.own (.ar s))) 0 ∅ 0 ∗ cred (tallyAt (cell c (.own (.ar s))) l NA)
    ∗ atPos ER (cell c (.own (.ss s))) 0 ∅ 0 ∗ atPos ER (cell c (.own (.sr s))) 0 ∅ 0 ∗ cred (tallyAt (cell c (.own (.sr s))) l NS))

/-- The duties and the wait of the semaphore at the end. -/
def endRes (c : Dev nD) : sProp 𝕄 :=
  iprop(dutyTok ER (cell (nb 0 c) (.own .ex)) 0 0 ∗ dutyTok ER (cell (nb 1 c) (.own .ex)) 0 1 ∗ dutyTok ER (cell (nb 2 c) (.own .ex)) 0 2
    ∗ atPos ER (cell c (.own .ex)) 0 ∅ 0 ∗ cred (tallyAt (cell c (.own .ex)) 5 3))

/-- The duties and the wait of the barrier. -/
def barRes (c : Dev nD) : sProp 𝕄 :=
  iprop(dutyTok ER (cell (nb 0 c) .bar) 0 0 ∗ dutyTok ER (cell (nb 1 c) .bar) 0 1 ∗ dutyTok ER (cell (nb 2 c) .bar) 0 2
    ∗ atPos ER (cell c .bar) 0 ∅ 0 ∗ cred (tallyAt (cell c .bar) 1 3))

/-- A device's own send slot at some contents. -/
def slotS (c : Dev nD) (s : Fin 4) : sProp 𝕄 := iprop((∃ f, pSa (F := F) c s f) ∗ (∃ f, pSs (F := F) c s f))

/-- The neighbours' semaphores at the end are in their first round. -/
def gotEx (c : Dev nD) : sProp 𝕄 :=
  iprop(reached ER (cell (nb 0 c) (.own .ex)) 0 ∗ reached ER (cell (nb 1 c) (.own .ex)) 0 ∗ reached ER (cell (nb 2 c) (.own .ex)) 0)

/-- What a device brings into the region. -/
def begRes (c : Dev nD) : sProp 𝕄 :=
  iprop(barRes c ∗ sendRes c s0 ∗ sendRes c s1 ∗ sendRes c s2 ∗ sendRes c s3
    ∗ recvRes c s0 2 ∗ recvRes c s1 2 ∗ recvRes c s2 3 ∗ recvRes c s3 4 ∗ endRes c)

/-- What stays from the barrier to the last grid point. -/
def restRes (c : Dev nD) : sProp 𝕄 :=
  iprop(slotS (F := F) c s1 ∗ slotS (F := F) c s2 ∗ slotS (F := F) c s3
    ∗ slotGift (F := F) (nb (ax s1) c) s1 ∗ slotGift (F := F) (nb (ax s2) c) s2 ∗ slotGift (F := F) (nb (ax s3) c) s3
    ∗ gotEx c ∗ sendRes c s1 ∗ sendRes c s2 ∗ sendRes c s3
    ∗ recvRes c s0 2 ∗ recvRes c s1 2 ∗ recvRes c s2 3 ∗ recvRes c s3 4 ∗ endRes c ∗ atPos ER (cell c .bar) 1 ∅ 0)

/-- What the first half's copies use up, -/
def slot0Res (c : Dev nD) : sProp 𝕄 :=
  iprop(slotS (F := F) c s0 ∗ slotGift (F := F) (nb (ax s0) c) s0 ∗ sendRes c s0)

/-- and what they leave. -/
def sentRes (c : Dev nD) : sProp 𝕄 :=
  iprop(cred (tallyAt (cell c (.own (.as s0))) 0 NA) ∗ cred (tallyAt (cell c (.own (.ss s0))) 0 NS))

/-! ### The invariant between grid points -/

section

variable (V : Dev nD → Valuation τ sig (Elt F)) (c : Dev nD)

/-- The two running buffers at a state. -/
def atSt (s : St F) : sProp 𝕄 := iprop(pAcc c s.acc ∗ pSt c (pack s.m s.l))

/-- The table, held whole. -/
def tblHeld : sProp 𝕄 := Pipeline.prefHeld pre0 c (fun _ => fullShare) (tbl (F := F) c)

/-- What the region starts from besides its buffers: the invariants and the device's part in the protocol. -/
def X : sProp 𝕄 := iprop(∃ κ, ctx κ (SA V) c ∗ begRes c)

/-- What it leaves: the barrier semaphore at zero. -/
def Y : sProp 𝕄 := semVal (cell c .bar) 0

def Φ0 : sProp 𝕄 := iprop(X V c ∗ tblHeld (F := F) c ∗ Pipeline.scopedRest spec0 c)
def ΦA (n : ℕ) : sProp 𝕄 := iprop(tblHeld (F := F) c ∗ (∃ κ, ctx κ (SA V) c ∗ slot0Res (F := F) c ∗ restRes (F := F) c) ∗ atSt c (sA V c n))
def ΦB (n : ℕ) : sProp 𝕄 := iprop(tblHeld (F := F) c ∗ (∃ κ, ctx κ (SA V) c ∗ sentRes c ∗ restRes (F := F) c) ∗ atSt c (sB V c n))
def Φ8 : sProp 𝕄 := iprop((Y c ∗ tblHeld (F := F) c) ∗ Pipeline.ownSems0 osem c ∗ Pipeline.scopedRest spec0 c)

/-- The invariant before grid point `n`. -/
def Φat : ℕ → sProp 𝕄
  | 0 => Φ0 V c
  | 1 => ΦA V c 1
  | 2 => ΦA V c 2
  | 3 => ΦA V c 3
  | 4 => ΦB V c 0
  | 5 => ΦB V c 1
  | 6 => ΦB V c 2
  | 7 => ΦB V c 3
  | _ => Φ8 c

/-- How many payments are still to be made before grid point `n`. -/
def left : ℕ → ℕ
  | 0 => 14
  | 1 => 11
  | 2 => 11
  | 3 => 11
  | 4 => 9
  | 5 => 9
  | 6 => 9
  | 7 => 9
  | _ => 0

/-- The region's data on device `c`. -/
def dat : Dat τ (Elt F) ℕ ℕ UU ℕ (cf (F := F) c) c where
  A := arrs V c
  after w t := match w with
    | 0 => iblk V c 0 t
    | 1 => iblk V c 1 t
    | 2 => iblk V c 2 t
    | 3 => iblk V c 3 t
    | 4 => out V c
    | ⟨_ + 5, h⟩ => absurd h (Nat.not_lt.2 (Nat.le_add_left _ _))
  Φ t := Φat V c t.val
  q _ := fullShare
  owed t := owe c (left t.val)

/-- The data of every device. -/
def pdats : (p : Fin 1) → (c : Dev nD) → Dat τ (Elt F) ℕ ℕ UU ℕ (Pipeline.pinD (pcfgs (F := F)) adm c p) c
  | 0, c => dat V c

end

/-! ### Closing the semaphores -/

section

variable (κ : GSem nD τ sig → ℕ) (SA : Slots F) (c : Dev nD)

theorem close1 (k : Kd) : iprop(ctx κ SA c ∗ atPos ER (cell c k) 1 ∅ 0) ⊢ (|={Set.univ}=> semVal (cell c k) 0 : sProp 𝕄) := by
  iintro ⟨#Hc, H⟩
  ihave Hi := (ctx_inv κ SA c c k) $$ Hc
  iapply (cell_close ER (Rd SA) (Set.mem_univ (κ (cell c k))) (fun h => h) (duties_later SA (cell c k)))
  isplitl [Hi]; · iexact Hi
  iexact H

theorem closeOwn : iprop(ctx κ SA c ∗ bigSep (Finset.univ : Finset Ks) fun k => atPos ER (cell c (.own k)) 1 ∅ 0)
    ⊢ (|={Set.univ}=> Pipeline.ownSems0 osem c : sProp 𝕄) := by
  unfold Pipeline.ownSems0
  exact (bigSep_with_persistent (R := ctx κ SA c) fun k _ => close1 κ SA c (.own k)).trans (bigSep_fupd _ _)

theorem own_list (Φ : Ks → sProp 𝕄) : bigSep Finset.univ Φ = bigSepL
    [.as s0, .ar s0, .ss s0, .sr s0, .as s1, .ar s1, .ss s1, .sr s1, .as s2, .ar s2, .ss s2, .sr s2, .as s3, .ar s3, .ss s3, .sr s3, .ex] Φ :=
  bigSep_univ_eq_bigSepL _ (by decide) (by decide) Φ

end

end Cert.Proof.KV
-- ==== Proof.Points.lean ====
/-
  The grid points of the kernel's region: which one does what, and what the body finds in its windows.
-/
module

public import proofs.«01_k».proof.Proof.Inv
public import Idealize.ShloMosaic.Lib.Pipeline.FrameBody

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-! ### Grid points -/

theorem cond1_iff (t : Fin grid0.N) : k0_cond1 (grid0.coords t) = 1#1 ↔ t = t0_0 := by revert t; decide +kernel
theorem cond2_iff (t : Fin grid0.N) : k0_cond2 (grid0.coords t) = 1#1 ↔ t = t0_3 := by revert t; decide +kernel
theorem cond3_iff (t : Fin grid0.N) : k0_cond3 (grid0.coords t) = 1#1 ↔ t = t0_7 := by revert t; decide +kernel

section

variable (V : Dev nD → Valuation τ sig (Elt F)) (c : Dev nD)

/-- A window's staging buffer at grid point `t`, as the body is handed it. -/
def blk (t : Fin grid0.N) : Blk :=
  ⟨spec0_0.stage ((cf (F := F) c).slots t 0), hstage0_0 _, spec0_1.stage ((cf (F := F) c).slots t 1), hstage0_1 _,
    spec0_2.stage ((cf (F := F) c).slots t 2), hstage0_2 _, spec0_3.stage ((cf (F := F) c).slots t 3), hstage0_3 _,
    spec0_4.stage ((cf (F := F) c).slots t 4), hstage0_4 _⟩

theorem found0 (t : Fin grid0.N) (d) : (dat V c).before 0 t d = iblk V c 0 t :=
  ((dat V c).before_in_eq_fetched 0 rfl (fun _ => rfl) (fun _ _ _ => rfl) (fun _ => rfl) t d).trans rfl
theorem found1 (t : Fin grid0.N) (d) : (dat V c).before 1 t d = iblk V c 1 t :=
  ((dat V c).before_in_eq_fetched 1 rfl (fun _ => rfl) (fun _ _ _ => rfl) (fun _ => rfl) t d).trans rfl
theorem found2 (t : Fin grid0.N) (d) : (dat V c).before 2 t d = iblk V c 2 t :=
  ((dat V c).before_in_eq_fetched 2 rfl (fun _ => rfl) (fun _ _ _ => rfl) (fun _ => rfl) t d).trans rfl
theorem found3 (t : Fin grid0.N) (d) : (dat V c).before 3 t d = iblk V c 3 t :=
  ((dat V c).before_in_eq_fetched 3 rfl (fun _ => rfl) (fun _ _ _ => rfl) (fun _ => rfl) t d).trans rfl

theorem idle4 (t : Fin grid0.N) : (cf (F := F) c).idle 4 ((cf (F := F) c).grid.coords t) = !(k0_cond3 (grid0.coords t) == 1#1) := rfl
theorem flush4 (t : Fin grid0.N) : ((cf (F := F) c).win 4).flush t = decide (t = t0_7) := by
  rcases fin_N0 t with h | h | h | h | h | h | h | h <;> subst h <;> rfl

theorem body_eq (t : Fin grid0.N) : defs₀ (F := F) .tc (cf (F := F) c).body ((cf (F := F) c).bodyArgs t ((cf (F := F) c).slots t))
    = cc0_body (grid0.coords t) (Memref.whole main_v41) (Memref.isWhole_whole _) (blk (F := F) c t).q (blk (F := F) c t).hq (blk (F := F) c t).K (blk (F := F) c t).hK (blk (F := F) c t).V (blk (F := F) c t).hV (blk (F := F) c t).W (blk (F := F) c t).hW (blk (F := F) c t).o (blk (F := F) c t).ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 := rfl

end

end Cert.Proof.KV
-- ==== Proof.Obl.lean ====
/-
  The body's obligation at a grid point, from a run of the body there.
-/
module

public import proofs.«01_k».proof.Proof.Points

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section

variable (V : Dev nD → Valuation τ sig (Elt F)) (c : Dev nD)

theorem owesAt_intro (t : Fin (grid0.N + 1)) (n : ℕ) (h0 : left t.val = n) :
    (ow c n : sProp 𝕄) ⊢ ((dat V c).owesAt 0 t : sProp 𝕄) := by
  subst h0
  unfold ow Dat.owesAt Pipeline.owesWithin Dat.bound
  iintro ⟨%W, HO⟩
  iexists W
  isplitr
  · ipureintro; exact fun _ _ => Or.inl trivial
  iexact HO

theorem owesAt_elim (t : Fin (grid0.N + 1)) (n : ℕ) (h0 : left t.val = n) :
    ((dat V c).owesAt 0 t : sProp 𝕄) ⊢ (ow c n : sProp 𝕄) := by
  subst h0
  unfold ow Dat.owesAt Pipeline.owesWithin
  iintro ⟨%W, -, HO⟩
  iexists W
  iexact HO

/-- What the body's run at grid point `t` comes to: from `P` to `Q`, the payments left from `n` to `n'`, the output's
    buffer from any contents to `g` of them. -/
def Runs (t : Fin grid0.N) (P Q : sProp 𝕄) (n n' : ℕ) (g : (S32x1x16x128.Idx → Elt F .f32) → (S32x1x16x128.Idx → Elt F .f32)) : Prop :=
  ∀ (Xo : S32x1x16x128.Idx → Elt F .f32) (Kt : PUnit → sProp 𝕄),
    iprop(P ∗ ow c n ∗ (owns (c : Thread nD τ) (blk (F := F) c t).q fullShare (qB V c t) ∗ owns (c : Thread nD τ) (blk (F := F) c t).K fullShare (kB V c t) ∗ owns (c : Thread nD τ) (blk (F := F) c t).V fullShare (vB V c t) ∗ owns (c : Thread nD τ) (blk (F := F) c t).W fullShare (wB V c t)) ∗ owns (c : Thread nD τ) (blk (F := F) c t).o fullShare Xo)
      ⊢ iprop((Q -∗ ow c n' -∗ owns (c : Thread nD τ) (blk (F := F) c t).q fullShare (qB V c t) -∗ owns (c : Thread nD τ) (blk (F := F) c t).K fullShare (kB V c t) -∗ owns (c : Thread nD τ) (blk (F := F) c t).V fullShare (vB V c t) -∗ owns (c : Thread nD τ) (blk (F := F) c t).W fullShare (wB V c t) -∗ owns (c : Thread nD τ) (blk (F := F) c t).o fullShare (g Xo) -∗ Kt ⟨⟩)
        -∗ wp frame (wpE (defs₀ (F := F)) 𝒱₀ (c : Thread nD τ) none) Set.univ (cc0_body (grid0.coords t) (Memref.whole main_v41) (Memref.isWhole_whole _) (blk (F := F) c t).q (blk (F := F) c t).hq (blk (F := F) c t).K (blk (F := F) c t).hK (blk (F := F) c t).V (blk (F := F) c t).hV (blk (F := F) c t).W (blk (F := F) c t).hW (blk (F := F) c t).o (blk (F := F) c t).ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) Kt)

/-- The body's obligation at one grid point. -/
def OblAt (t : Fin grid0.N) : Prop :=
    iprop((dat V c).Φ t.castSucc ∗ (dat V c).owesAt 0 t.castSucc
        ∗ bigSep Finset.univ fun w : Fin (cf (F := F) c).W => iprop(∃ d, owns c (((cf (F := F) c).win w).stage ((cf (F := F) c).slots t w)) fullShare ((dat V c).before w t d)))
      ⊢ wp frame (wpE (defs₀ (F := F)) 𝒱₀ c none) Set.univ (defs₀ (F := F) .tc (cf (F := F) c).body ((cf (F := F) c).bodyArgs t ((cf (F := F) c).slots t))) fun _ =>
          iprop((dat V c).Φ t.succ ∗ (dat V c).owesAt 0 t.succ
            ∗ bigSep Finset.univ fun w : Fin (cf (F := F) c).W =>
                  match (cf (F := F) c).idle w ((cf (F := F) c).grid.coords t) with
                  | true =>
                    match ((cf (F := F) c).win w).flush t with
                    | false => iprop(∃ d, owns c (((cf (F := F) c).win w).stage ((cf (F := F) c).slots t w)) fullShare ((dat V c).before w t d))
                    | true => owns c (((cf (F := F) c).win w).stage ((cf (F := F) c).slots t w)) fullShare ((dat V c).after w t)
                  | false => owns c (((cf (F := F) c).win w).stage ((cf (F := F) c).slots t w)) fullShare ((dat V c).after w t))

theorem foundH0 (t : Fin grid0.N) (d) : (owns c (((cf (F := F) c).win (0 : Fin 5)).stage ((cf (F := F) c).slots t (0 : Fin 5))) fullShare ((dat V c).before (0 : Fin 5) t d) : sProp 𝕄)
    ⊢ owns (c : Thread nD τ) (blk (F := F) c t).q fullShare (qB V c t) :=
  Entails.of_eq (congrArg (owns (c : Thread nD τ) (blk (F := F) c t).q fullShare) (found0 V c t d))

theorem foundH1 (t : Fin grid0.N) (d) : (owns c (((cf (F := F) c).win (1 : Fin 5)).stage ((cf (F := F) c).slots t (1 : Fin 5))) fullShare ((dat V c).before (1 : Fin 5) t d) : sProp 𝕄)
    ⊢ owns (c : Thread nD τ) (blk (F := F) c t).K fullShare (kB V c t) :=
  Entails.of_eq (congrArg (owns (c : Thread nD τ) (blk (F := F) c t).K fullShare) (found1 V c t d))

theorem foundH2 (t : Fin grid0.N) (d) : (owns c (((cf (F := F) c).win (2 : Fin 5)).stage ((cf (F := F) c).slots t (2 : Fin 5))) fullShare ((dat V c).before (2 : Fin 5) t d) : sProp 𝕄)
    ⊢ owns (c : Thread nD τ) (blk (F := F) c t).V fullShare (vB V c t) :=
  Entails.of_eq (congrArg (owns (c : Thread nD τ) (blk (F := F) c t).V fullShare) (found2 V c t d))

theorem foundH3 (t : Fin grid0.N) (d) : (owns c (((cf (F := F) c).win (3 : Fin 5)).stage ((cf (F := F) c).slots t (3 : Fin 5))) fullShare ((dat V c).before (3 : Fin 5) t d) : sProp 𝕄)
    ⊢ owns (c : Thread nD τ) (blk (F := F) c t).W fullShare (wB V c t) :=
  Entails.of_eq (congrArg (owns (c : Thread nD τ) (blk (F := F) c t).W fullShare) (found3 V c t d))

/-- A grid point that leaves the output alone. -/
theorem obl_of (t : Fin grid0.N) (ht : ¬t = t0_7) (n n' : ℕ) (hn : left t.val = n) (hn' : left (t.val + 1) = n')
    (h : Runs V c t (Φat V c t.val) (Φat V c (t.val + 1)) n n' (fun Xo => Xo)) : OblAt V c t := by
  unfold OblAt
  rw [body_eq, show (dat V c).Φ t.castSucc = Φat V c t.val from rfl, show (dat V c).Φ t.succ = Φat V c (t.val + 1) from rfl]
  rw [show (bigSep Finset.univ fun w : Fin (cf (F := F) c).W => iprop(∃ d, owns c (((cf (F := F) c).win w).stage ((cf (F := F) c).slots t w)) fullShare ((dat V c).before w t d)) : sProp 𝕄) = _ from Gen.bigSep_W0 _]
  iintro ⟨HΦ, HO, ⟨%d0, H0⟩, ⟨%d1, H1⟩, ⟨%d2, H2⟩, ⟨%d3, H3⟩, ⟨%d4, H4⟩⟩
  ihave HO := (owesAt_elim V c t.castSucc n hn) $$ HO
  ihave H0 := (foundH0 V c t d0) $$ H0
  ihave H1 := (foundH1 V c t d1) $$ H1
  ihave H2 := (foundH2 V c t d2) $$ H2
  ihave H3 := (foundH3 V c t d3) $$ H3
  iapply (h _ _) $$ [HΦ HO H0 H1 H2 H3 H4]
  · isplitl [HΦ]; · iexact HΦ
    isplitl [HO]; · iexact HO
    isplitl [H0 H1 H2 H3]
    · isplitl [H0]; · iexact H0
      isplitl [H1]; · iexact H1
      isplitl [H2]; · iexact H2
      iexact H3
    iexact H4
  iintro HΦ HO H0 H1 H2 H3 H4
  isplitl [HΦ]; · iexact HΦ
  isplitl [HO]; · iapply (owesAt_intro V c t.succ n' hn'); iexact HO
  iapply (Entails.of_eq (Gen.bigSep_W0 _).symm)
  isplitl [H0]; · iexact H0
  isplitl [H1]; · iexact H1
  isplitl [H2]; · iexact H2
  isplitl [H3]; · iexact H3
  have hi : idle0 (4 : Fin 5) (((pcfgs (F := F) 0).gridAt (tbl c)).coords t) = true := by
    show (!(k0_cond3 (grid0.coords t) == 1#1)) = true; simp only [Bool.not_eq_true', beq_eq_false_iff_ne]; exact fun e => ht ((cond3_iff t).mp e)
  have hf : ((pcfgs (F := F) 0).win (adm c 0) (4 : Fin 5)).flush t = false := (flush4 c t).trans (decide_eq_false ht)
  simp only [hi, hf]
  iexists d4
  iexact H4

/-- The last grid point, which writes the output. -/
theorem obl_last (t : Fin grid0.N) (ht : t = t0_7) (n n' : ℕ) (hn : left t.val = n) (hn' : left (t.val + 1) = n')
    (h : Runs V c t (Φat V c t.val) (Φat V c (t.val + 1)) n n' (fun _ => out V c)) : OblAt V c t := by
  unfold OblAt
  rw [body_eq, show (dat V c).Φ t.castSucc = Φat V c t.val from rfl, show (dat V c).Φ t.succ = Φat V c (t.val + 1) from rfl]
  rw [show (bigSep Finset.univ fun w : Fin (cf (F := F) c).W => iprop(∃ d, owns c (((cf (F := F) c).win w).stage ((cf (F := F) c).slots t w)) fullShare ((dat V c).before w t d)) : sProp 𝕄) = _ from Gen.bigSep_W0 _]
  iintro ⟨HΦ, HO, ⟨%d0, H0⟩, ⟨%d1, H1⟩, ⟨%d2, H2⟩, ⟨%d3, H3⟩, ⟨%d4, H4⟩⟩
  ihave HO := (owesAt_elim V c t.castSucc n hn) $$ HO
  ihave H0 := (foundH0 V c t d0) $$ H0
  ihave H1 := (foundH1 V c t d1) $$ H1
  ihave H2 := (foundH2 V c t d2) $$ H2
  ihave H3 := (foundH3 V c t d3) $$ H3
  iapply (h _ _) $$ [HΦ HO H0 H1 H2 H3 H4]
  · isplitl [HΦ]; · iexact HΦ
    isplitl [HO]; · iexact HO
    isplitl [H0 H1 H2 H3]
    · isplitl [H0]; · iexact H0
      isplitl [H1]; · iexact H1
      isplitl [H2]; · iexact H2
      iexact H3
    iexact H4
  iintro HΦ HO H0 H1 H2 H3 H4
  isplitl [HΦ]; · iexact HΦ
  isplitl [HO]; · iapply (owesAt_intro V c t.succ n' hn'); iexact HO
  iapply (Entails.of_eq (Gen.bigSep_W0 _).symm)
  isplitl [H0]; · iexact H0
  isplitl [H1]; · iexact H1
  isplitl [H2]; · iexact H2
  isplitl [H3]; · iexact H3
  have hi : idle0 (4 : Fin 5) (((pcfgs (F := F) 0).gridAt (tbl c)).coords t) = false := by
    show (!(k0_cond3 (grid0.coords t) == 1#1)) = false; simp only [Bool.not_eq_false', beq_iff_eq]; exact (cond3_iff t).mpr ht
  simp only [hi]
  iexact H4

end

end Cert.Proof.KV
-- ==== Proof.RunsA.lean ====
/-
  The runs of the body at the first seven grid points of the kernel's region.
-/
module

public import proofs.«01_k».proof.Proof.Obl

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section

variable (V : Dev nD → Valuation τ sig (Elt F)) (c : Dev nD)

/-- A grid point that only takes its block into the state. -/
theorem run_mid (t : Fin grid0.N) (h1 : ¬t = t0_0) (h2 : ¬t = t0_3) (h3 : ¬t = t0_7) (s : St F) (R : sProp 𝕄) (n : ℕ) :
    Runs V c t iprop(tblHeld (F := F) c ∗ (∃ κ, ctx κ (SA V) c ∗ R) ∗ atSt c s)
      iprop(tblHeld (F := F) c ∗ (∃ κ, ctx κ (SA V) c ∗ R) ∗ atSt c (stp V c s t)) n n (fun Xo => Xo) := by
  intro Xo Kt
  unfold atSt
  iintro ⟨⟨Ht, ⟨%κ, #Hc, HR⟩, Hacc, Hst⟩, HO, ⟨Hq, HK, HV, HW⟩, Ho⟩ Hk
  iapply (body_mid κ (SA V) c (grid0.coords t) (blk (F := F) c t) (fun e => h1 ((cond1_iff t).mp e)) (fun e => h2 ((cond2_iff t).mp e))
    (fun e => h3 ((cond3_iff t).mp e)) s (qB V c t) (kB V c t) (vB V c t) (wB V c t) Kt) $$ [Hq HK HV HW Hst Hacc]
  · isplitr; · iexact Hc
    isplitl [Hq]; · iexact Hq
    isplitl [HK]; · iexact HK
    isplitl [HV]; · iexact HV
    isplitl [HW]; · iexact HW
    isplitl [Hst]; · iexact Hst
    iexact Hacc
  iintro Hq HK HV HW Hst Hacc
  iapply Hk $$ [Ht HR Hacc Hst] HO Hq HK HV HW Ho
  isplitl [Ht]; · iexact Ht
  isplitl [HR]
  · iexists κ
    isplitr; · iexact Hc
    iexact HR
  isplitl [Hacc]; · iexact Hacc
  iexact Hst

theorem mkGift0 : iprop(slotGift (F := F) c s0 ∗ slotGift (F := F) c s1 ∗ reached ER (cell c (.own .ex)) 0) ⊢ barGift (F := F) 0 c := Entails.rfl
theorem mkGift1 : iprop(slotGift (F := F) c s2 ∗ reached ER (cell c (.own .ex)) 0) ⊢ barGift (F := F) 1 c := Entails.rfl
theorem mkGift2 : iprop(slotGift (F := F) c s3 ∗ reached ER (cell c (.own .ex)) 0) ⊢ barGift (F := F) 2 c := Entails.rfl
theorem mkAcc (f : Buf (Elt F) (lAcc c)) : (lAcc c ↦{fullShare} f : sProp 𝕄) ⊢ pAcc c f := Entails.rfl

/-- A device's receive slots, with what it may say of its semaphores, are what it hands over at the barrier. -/
theorem gifts (κ) : iprop(ctx κ (SA V) c
      ∗ ((∃ f, pRa (F := F) c s0 f) ∗ (∃ f, pRa (F := F) c s1 f) ∗ (∃ f, pRa (F := F) c s2 f) ∗ (∃ f, pRa (F := F) c s3 f))
      ∗ ((∃ f, pRs (F := F) c s0 f) ∗ (∃ f, pRs (F := F) c s1 f) ∗ (∃ f, pRs (F := F) c s2 f) ∗ (∃ f, pRs (F := F) c s3 f)))
    ⊢ iprop(barGift (F := F) 0 c ∗ barGift (F := F) 1 c ∗ barGift (F := F) 2 c) := by
  iintro ⟨#Hc, ⟨Ha0, Ha1, Ha2, Ha3⟩, Hs0, Hs1, Hs2, Hs3⟩
  have hg : ∀ s : Fin 4, iprop(ctx κ (SA V) c ∗ (∃ f, pRa (F := F) c s f) ∗ (∃ f, pRs (F := F) c s f)) ⊢ slotGift (F := F) c s := fun s => by
    unfold slotGift
    iintro ⟨#Hc, Ha, Hs⟩
    isplitl [Ha]; · iexact Ha
    isplitl [Hs]; · iexact Hs
    isplitr; · iapply (ctx_own κ (SA V) c (.ar s)); iexact Hc
    iapply (ctx_own κ (SA V) c (.sr s)); iexact Hc
  isplitl [Ha0 Ha1 Hs0 Hs1]
  · iapply (mkGift0 (F := F) c)
    isplitl [Ha0 Hs0]
    · iapply (hg s0); isplitr; · iexact Hc
      isplitl [Ha0]; · iexact Ha0
      iexact Hs0
    isplitl [Ha1 Hs1]
    · iapply (hg s1); isplitr; · iexact Hc
      isplitl [Ha1]; · iexact Ha1
      iexact Hs1
    iapply (ctx_own κ (SA V) c .ex); iexact Hc
  isplitl [Ha2 Hs2]
  · iapply (mkGift1 (F := F) c)
    isplitl [Ha2 Hs2]
    · iapply (hg s2); isplitr; · iexact Hc
      isplitl [Ha2]; · iexact Ha2
      iexact Hs2
    iapply (ctx_own κ (SA V) c .ex); iexact Hc
  iapply (mkGift2 (F := F) c)
  isplitl [Ha3 Hs3]
  · iapply (hg s3); isplitr; · iexact Hc
    isplitl [Ha3]; · iexact Ha3
    iexact Hs3
  iapply (ctx_own κ (SA V) c .ex); iexact Hc

/-- What the neighbours hand over at the barrier, opened. -/
theorem gift0 : barGift (F := F) 0 (nb 0 c) ⊢ iprop(slotGift (F := F) (nb (ax s0) c) s0 ∗ slotGift (F := F) (nb (ax s1) c) s1 ∗ reached ER (cell (nb 0 c) (.own .ex)) 0) := Entails.rfl
theorem gift1 : barGift (F := F) 1 (nb 1 c) ⊢ iprop(slotGift (F := F) (nb (ax s2) c) s2 ∗ reached ER (cell (nb 1 c) (.own .ex)) 0) := Entails.rfl
theorem gift2 : barGift (F := F) 2 (nb 2 c) ⊢ iprop(slotGift (F := F) (nb (ax s3) c) s3 ∗ reached ER (cell (nb 2 c) (.own .ex)) 0) := Entails.rfl

/-- The first grid point: the barrier, and the first block. -/
theorem run_first : Runs V c t0_0 (Φ0 V c) (ΦA V c 1) 14 11 (fun Xo => Xo) := by
  intro Xo Kt
  unfold Φ0 ΦA X begRes barRes
  rw [Gen.scopedRest0_eq]
  iintro ⟨⟨⟨%κ, #Hc, ⟨Hd0, Hd1, Hd2, Hat, Hcr⟩, Hsd0, Hsd1, Hsd2, Hsd3, Hrc0, Hrc1, Hrc2, Hrc3, Hend⟩, Ht, ⟨%fa, Hacc⟩, ⟨%fs, Hst⟩, HSa, HSs, HRa, HRs⟩, HO, ⟨Hq, HK, HV, HW⟩, Ho⟩ Hk
  ihave HSa := (pSa_split (F := F) c) $$ HSa
  ihave HSs := (pSs_split (F := F) c) $$ HSs
  ihave HRa := (pRa_split (F := F) c) $$ HRa
  ihave HRs := (pRs_split (F := F) c) $$ HRs
  icases HSa with ⟨Ha0, Ha1, Ha2, Ha3⟩
  icases HSs with ⟨Hs0, Hs1, Hs2, Hs3⟩
  ihave Hg := (gifts V c κ) $$ [HRa HRs]
  · isplitr; · iexact Hc
    isplitl [HRa]; · iexact HRa
    iexact HRs
  icases Hg with ⟨Hg0, Hg1, Hg2⟩
  ihave Hacc := (mkAcc (F := F) c fa) $$ Hacc
  have hst : ((lSt c ↦{fullShare} fs : sProp 𝕄)) = pSt c (pack (F := F) (fun j => fs (ix3 0 (j 0) (j 1))) (fun j => fs (ix3 1 (j 0) (j 1)))) := by
    rw [← pack_eta fs]; rfl
  ihave Hst := (Entails.of_eq hst) $$ Hst
  iapply (body_first κ (SA V) c (grid0.coords t0_0) (blk (F := F) c t0_0) ((cond1_iff _).mpr rfl) (fun e => absurd ((cond2_iff _).mp e) (by decide))
    (fun e => absurd ((cond3_iff _).mp e) (by decide)) fa _ _ (qB V c t0_0) (kB V c t0_0) (vB V c t0_0) (wB V c t0_0) Kt)
    $$ [HO Hd0 Hg0 Hd1 Hg1 Hd2 Hg2 Hat Hcr Hacc Hst Hq HK HV HW]
  · isplitr; · iexact Hc
    isplitl [HO]; · iexact HO
    isplitl [Hd0]; · iexact Hd0
    isplitl [Hg0]; · iexact Hg0
    isplitl [Hd1]; · iexact Hd1
    isplitl [Hg1]; · iexact Hg1
    isplitl [Hd2]; · iexact Hd2
    isplitl [Hg2]; · iexact Hg2
    isplitl [Hat]; · iexact Hat
    isplitl [Hcr]; · iexact Hcr
    isplitl [Hacc]; · iexact Hacc
    isplitl [Hst]; · iexact Hst
    isplitl [Hq]; · iexact Hq
    isplitl [HK]; · iexact HK
    isplitl [HV]; · iexact HV
    iexact HW
  iintro HO Hat Hg0 Hg1 Hg2 Hq HK HV HW Hst Hacc
  ihave Hg0 := (gift0 (F := F) c) $$ Hg0
  ihave Hg1 := (gift1 (F := F) c) $$ Hg1
  ihave Hg2 := (gift2 (F := F) c) $$ Hg2
  icases Hg0 with ⟨Hg00, Hg01, Hx0⟩
  icases Hg1 with ⟨Hg12, Hx1⟩
  icases Hg2 with ⟨Hg23, Hx2⟩
  iapply Hk $$ [Ht Hacc Hst Ha0 Ha1 Ha2 Ha3 Hs0 Hs1 Hs2 Hs3 Hg00 Hg01 Hg12 Hg23 Hx0 Hx1 Hx2 Hsd0 Hsd1 Hsd2 Hsd3 Hrc0 Hrc1 Hrc2 Hrc3 Hend Hat] HO Hq HK HV HW Ho
  isplitl [Ht]; · iexact Ht
  isplitr [Hacc Hst]
  · iexists κ
    isplitr; · iexact Hc
    unfold slot0Res restRes slotS gotEx
    isplitl [Ha0 Hs0 Hg00 Hsd0]
    · isplitl [Ha0 Hs0]
      · isplitl [Ha0]; · iexact Ha0
        iexact Hs0
      isplitl [Hg00]; · iexact Hg00
      iexact Hsd0
    isplitl [Ha1 Hs1]
    · isplitl [Ha1]; · iexact Ha1
      iexact Hs1
    isplitl [Ha2 Hs2]
    · isplitl [Ha2]; · iexact Ha2
      iexact Hs2
    isplitl [Ha3 Hs3]
    · isplitl [Ha3]; · iexact Ha3
      iexact Hs3
    isplitl [Hg01]; · iexact Hg01
    isplitl [Hg12]; · iexact Hg12
    isplitl [Hg23]; · iexact Hg23
    isplitl [Hx0 Hx1 Hx2]
    · isplitl [Hx0]; · iexact Hx0
      isplitl [Hx1]; · iexact Hx1
      iexact Hx2
    isplitl [Hsd1]; · iexact Hsd1
    isplitl [Hsd2]; · iexact Hsd2
    isplitl [Hsd3]; · iexact Hsd3
    isplitl [Hrc0]; · iexact Hrc0
    isplitl [Hrc1]; · iexact Hrc1
    isplitl [Hrc2]; · iexact Hrc2
    isplitl [Hrc3]; · iexact Hrc3
    isplitl [Hend]; · iexact Hend
    iexact Hat
  unfold atSt
  isplitl [Hacc]; · iexact Hacc
  iexact Hst

/-- The grid point that sends the first half's state. -/
theorem run_send : Runs V c t0_3 (ΦA V c 3) (ΦB V c 0) 11 9 (fun Xo => Xo) := by
  intro Xo Kt
  unfold ΦA ΦB slot0Res slotS slotGift sendRes atSt
  iintro ⟨⟨Ht, ⟨%κ, #Hc, ⟨⟨⟨%fsa, HSa⟩, ⟨%fss, HSs⟩⟩, ⟨HRa, HRs, #Hra, #Hrs⟩, Hd1, Hd2, Hd3, Hd4⟩, Hrest⟩, Hacc, Hst⟩, HO, ⟨Hq, HK, HV, HW⟩, Ho⟩ Hk
  iapply (body_send κ (SA V) c (grid0.coords t0_3) (blk (F := F) c t0_3) (fun e => absurd ((cond1_iff _).mp e) (by decide)) ((cond2_iff _).mpr rfl)
    (fun e => absurd ((cond3_iff _).mp e) (by decide)) (sA V c 3) (qB V c t0_3) (kB V c t0_3) (vB V c t0_3) (wB V c t0_3) rfl fsa fss Kt)
    $$ [Hq HK HV HW Hst Hacc HSa HSs HO HRa Hd1 Hd2 HRs Hd3 Hd4]
  · isplitr; · iexact Hc
    isplitr; · iexact Hra
    isplitr; · iexact Hrs
    isplitl [Hq]; · iexact Hq
    isplitl [HK]; · iexact HK
    isplitl [HV]; · iexact HV
    isplitl [HW]; · iexact HW
    isplitl [Hst]; · iexact Hst
    isplitl [Hacc]; · iexact Hacc
    isplitl [HSa]; · iexact HSa
    isplitl [HSs]; · iexact HSs
    isplitl [HO]; · iexact HO
    isplitl [HRa]; · iexact HRa
    isplitl [Hd1]; · iexact Hd1
    isplitl [Hd2]; · iexact Hd2
    isplitl [HRs]; · iexact HRs
    isplitl [Hd3]; · iexact Hd3
    iexact Hd4
  iintro Hq HK HV HW Hacc Hst Hc1 HO Hc2
  iapply Hk $$ [Ht Hacc Hst Hc1 Hc2 Hrest] HO Hq HK HV HW Ho
  isplitl [Ht]; · iexact Ht
  isplitr [Hacc Hst]
  · iexists κ
    isplitr; · iexact Hc
    unfold sentRes
    isplitl [Hc1 Hc2]
    · isplitl [Hc1]; · iexact Hc1
      iexact Hc2
    iexact Hrest
  isplitl [Hacc]; · iexact Hacc
  iexact Hst

/-- The first seven grid points' obligations. -/
theorem obl_0 : OblAt V c t0_0 := obl_of V c t0_0 (by decide) 14 11 rfl rfl (run_first V c)
theorem obl_1 : OblAt V c t0_1 := obl_of V c t0_1 (by decide) 11 11 rfl rfl (run_mid V c t0_1 (by decide) (by decide) (by decide) (sA V c 1) _ 11)
theorem obl_2 : OblAt V c t0_2 := obl_of V c t0_2 (by decide) 11 11 rfl rfl (run_mid V c t0_2 (by decide) (by decide) (by decide) (sA V c 2) _ 11)
theorem obl_3 : OblAt V c t0_3 := obl_of V c t0_3 (by decide) 11 9 rfl rfl (run_send V c)
theorem obl_4 : OblAt V c t0_4 := obl_of V c t0_4 (by decide) 9 9 rfl rfl (run_mid V c t0_4 (by decide) (by decide) (by decide) (sB V c 0) _ 9)
theorem obl_5 : OblAt V c t0_5 := obl_of V c t0_5 (by decide) 9 9 rfl rfl (run_mid V c t0_5 (by decide) (by decide) (by decide) (sB V c 1) _ 9)
theorem obl_6 : OblAt V c t0_6 := obl_of V c t0_6 (by decide) 9 9 rfl rfl (run_mid V c t0_6 (by decide) (by decide) (by decide) (sB V c 2) _ 9)

end

end Cert.Proof.KV
-- ==== Proof.RunsB.lean ====
/-
  The run of the body at the last grid point of the kernel's region.
-/
module

public import proofs.«01_k».proof.Proof.RunsA

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section

variable (V : Dev nD → Valuation τ sig (Elt F)) (c : Dev nD)

theorem vec0 {α : Type} (a b d e : α) : (![a, b, d, e] : Fin 4 → α) s0 = a := rfl
theorem vec1 {α : Type} (a b d e : α) : (![a, b, d, e] : Fin 4 → α) s1 = b := rfl
theorem vec2 {α : Type} (a b d e : α) : (![a, b, d, e] : Fin 4 → α) s2 = d := rfl
theorem vec3 {α : Type} (a b d e : α) : (![a, b, d, e] : Fin 4 → α) s3 = e := rfl
theorem fold4 {α β : Type} (f : α → β → α) (i : α) (a b d e : β) : f (([a, b, d, e].take 3).foldl f i) e = ([a, b, d, e].take 4).foldl f i := rfl
theorem SA_A (c : Dev nD) : SA V c s0 = sA V c 4 := by unfold SA; exact vec0 _ _ _ _
theorem SA_B (c : Dev nD) : SA V c s1 = sB V c 4 := by unfold SA; exact vec1 _ _ _ _
theorem SA_1 (c : Dev nD) : SA V c s2 = M1 V c := by unfold SA; exact vec2 _ _ _ _
theorem SA_2 (c : Dev nD) : SA V c s3 = M2 V c := by unfold SA; exact vec3 _ _ _ _
theorem sB_last : stepSt (qB V c t0_7) (kB V c t0_7) (vB V c t0_7) (wB V c t0_7) (sB V c 3) = SA V c s1 := by
  rw [SA_B]; exact fold4 (stp V c) initSt t0_4 t0_5 t0_6 t0_7
theorem M1_eq : SA V c s2 = mergeSt (mergeSt (mergeSt (rt (SA V c s0)) (SA V c s1)) (rt (SA V (nb (ax s0) c) s0))) (rt (SA V (nb (ax s1) c) s1)) := by
  rw [SA_1, SA_A, SA_B, SA_A, SA_B]; unfold M1; rfl
theorem M2_eq : SA V c s3 = mergeSt (SA V c s2) (rt (SA V (nb (ax s2) c) s2)) := by
  rw [SA_2, SA_1, SA_1]; unfold M2; rfl
theorem out_eq : fin (mergeSt (SA V c s3) (rt (SA V (nb (ax s3) c) s3))) = out V c := by
  rw [SA_2, SA_2]; unfold out M3; rfl

theorem own_at : iprop(atPos ER (cell c (.own (.as s0))) 1 ∅ 0 ∗ atPos ER (cell c (.own (.ar s0))) 1 ∅ 0 ∗ atPos ER (cell c (.own (.ss s0))) 1 ∅ 0 ∗ atPos ER (cell c (.own (.sr s0))) 1 ∅ 0 ∗ atPos ER (cell c (.own (.as s1))) 1 ∅ 0 ∗ atPos ER (cell c (.own (.ar s1))) 1 ∅ 0 ∗ atPos ER (cell c (.own (.ss s1))) 1 ∅ 0 ∗ atPos ER (cell c (.own (.sr s1))) 1 ∅ 0 ∗ atPos ER (cell c (.own (.as s2))) 1 ∅ 0 ∗ atPos ER (cell c (.own (.ar s2))) 1 ∅ 0 ∗ atPos ER (cell c (.own (.ss s2))) 1 ∅ 0 ∗ atPos ER (cell c (.own (.sr s2))) 1 ∅ 0 ∗ atPos ER (cell c (.own (.as s3))) 1 ∅ 0 ∗ atPos ER (cell c (.own (.ar s3))) 1 ∅ 0 ∗ atPos ER (cell c (.own (.ss s3))) 1 ∅ 0 ∗ atPos ER (cell c (.own (.sr s3))) 1 ∅ 0 ∗ atPos ER (cell c (.own .ex)) 1 ∅ 0) ⊢ bigSep (Finset.univ : Finset Ks) (fun k => atPos ER (cell c (.own k)) 1 ∅ 0 : Ks → sProp 𝕄) :=
  Entails.of_eq (own_list (F := F) (fun k => atPos ER (cell c (.own k)) 1 ∅ 0)).symm

/-- The scratch buffers whole again at the end of the region. -/
theorem scratch (s : St F) (a0 a1 a2 a3 b0 b1 b2 b3 : Vec F S4x16x32x128 .bf16) (e0 e1 e2 e3 g0 g1 g2 g3 : Vec F S4x2x16x32 .f32) :
    iprop(pAcc c s.acc ∗ pSt c (pack s.m s.l) ∗ (pSa c s0 a0 ∗ pSa c s1 a1 ∗ pSa c s2 a2 ∗ pSa c s3 a3) ∗ (pSs c s0 e0 ∗ pSs c s1 e1 ∗ pSs c s2 e2 ∗ pSs c s3 e3)
      ∗ (pRa c s0 b0 ∗ pRa c s1 b1 ∗ pRa c s2 b2 ∗ pRa c s3 b3) ∗ (pRs c s0 g0 ∗ pRs c s1 g1 ∗ pRs c s2 g2 ∗ pRs c s3 g3))
    ⊢ (Pipeline.scopedRest spec0 c : sProp 𝕄) := by
  rw [Gen.scopedRest0_eq]
  iintro ⟨Hacc, Hst, Ha, Hs, Hb, Hg⟩
  isplitl [Hacc]
  · iexists s.acc
    unfold pAcc
    iexact Hacc
  isplitl [Hst]
  · iexists (pack s.m s.l)
    unfold pSt
    iexact Hst
  isplitl [Ha]; · iapply (pSa_join c a0 a1 a2 a3); iexact Ha
  isplitl [Hs]; · iapply (pSs_join c e0 e1 e2 e3); iexact Hs
  isplitl [Hb]; · iapply (pRa_join c b0 b1 b2 b3); iexact Hb
  iapply (pRs_join c g0 g1 g2 g3); iexact Hg

set_option maxHeartbeats 400000 in
/-- The last grid point: the second half's state sent, the four exchanges, the output, and every semaphore closed. -/
theorem run_last : Runs V c t0_7 (ΦB V c 3) (Φ8 c) 9 0 (fun _ => out V c) := by
  intro Xo Kt
  unfold ΦB sentRes restRes slotS slotGift gotEx sendRes recvRes endRes atSt
  iintro ⟨⟨Ht, ⟨%κ, #Hc, ⟨Hcr_as_s0, Hcr_ss_s0⟩, ⟨⟨⟨%fsas1, HpSa_s1⟩, ⟨%fsss1, HpSs_s1⟩⟩, ⟨⟨%fsas2, HpSa_s2⟩, ⟨%fsss2, HpSs_s2⟩⟩, ⟨⟨%fsas3, HpSa_s3⟩, ⟨%fsss3, HpSs_s3⟩⟩, ⟨HpRa_s1, HpRs_s1, #Hr_ar_s1, #Hr_sr_s1⟩, ⟨HpRa_s2, HpRs_s2, #Hr_ar_s2, #Hr_sr_s2⟩, ⟨HpRa_s3, HpRs_s3, #Hr_ar_s3, #Hr_sr_s3⟩, ⟨#Hx0, #Hx1, #Hx2⟩, ⟨Hd_as_s1, Hd_ar_s1, Hd_ss_s1, Hd_sr_s1⟩, ⟨Hd_as_s2, Hd_ar_s2, Hd_ss_s2, Hd_sr_s2⟩, ⟨Hd_as_s3, Hd_ar_s3, Hd_ss_s3, Hd_sr_s3⟩, ⟨Hat_as_s0, Hat_ar_s0, Hcr_ar_s0, Hat_ss_s0, Hat_sr_s0, Hcr_sr_s0⟩, ⟨Hat_as_s1, Hat_ar_s1, Hcr_ar_s1, Hat_ss_s1, Hat_sr_s1, Hcr_sr_s1⟩, ⟨Hat_as_s2, Hat_ar_s2, Hcr_ar_s2, Hat_ss_s2, Hat_sr_s2, Hcr_sr_s2⟩, ⟨Hat_as_s3, Hat_ar_s3, Hcr_ar_s3, Hat_ss_s3, Hat_sr_s3, Hcr_sr_s3⟩, ⟨Hd_ex0, Hd_ex1, Hd_ex2, Hat_ex, Hcr_ex⟩, Hat_bar⟩⟩, Hacc, Hst⟩, HO, ⟨Hq, HK, HV, HW⟩, Ho⟩ Hk
  iapply (wp_fupd _ _ _ _ _)
  iapply (body_last κ (SA V) c (grid0.coords t0_7) (blk (F := F) c t0_7) (fun e => absurd ((cond1_iff _).mp e) (by decide)) (fun e => absurd ((cond2_iff _).mp e) (by decide))
    ((cond3_iff _).mpr rfl) (sB V c 3) (qB V c t0_7) (kB V c t0_7) (vB V c t0_7) (wB V c t0_7) (sB_last V c) (M1_eq V c) (M2_eq V c) fsas1 fsss1 fsas2 fsss2 fsas3 fsss3 Xo _)
    $$ [Hq HK HV HW Hst Hacc HpSa_s1 HpSs_s1 HpSa_s2 HpSs_s2 HpSa_s3 HpSs_s3 HO HpRa_s1 Hd_as_s1 Hd_ar_s1 HpRs_s1 Hd_ss_s1 Hd_sr_s1 Hat_as_s0 Hcr_as_s0 Hat_ar_s0 Hcr_ar_s0 Hat_ss_s0 Hcr_ss_s0 Hat_sr_s0 Hcr_sr_s0 Hat_as_s1 Hat_ar_s1 Hcr_ar_s1 Hat_ss_s1 Hat_sr_s1 Hcr_sr_s1 HpRa_s2 Hd_as_s2 Hd_ar_s2 HpRs_s2 Hd_ss_s2 Hd_sr_s2 Hat_as_s2 Hat_ar_s2 Hcr_ar_s2 Hat_ss_s2 Hat_sr_s2 Hcr_sr_s2 HpRa_s3 Hd_as_s3 Hd_ar_s3 HpRs_s3 Hd_ss_s3 Hd_sr_s3 Hat_as_s3 Hat_ar_s3 Hcr_ar_s3 Hat_ss_s3 Hat_sr_s3 Hcr_sr_s3 Ho Hd_ex0 Hd_ex1 Hd_ex2 Hat_ex Hcr_ex]
  · isplitr; · iexact Hc
    isplitr; · iexact Hr_ar_s1
    isplitr; · iexact Hr_sr_s1
    isplitr; · iexact Hr_ar_s2
    isplitr; · iexact Hr_sr_s2
    isplitr; · iexact Hr_ar_s3
    isplitr; · iexact Hr_sr_s3
    isplitr; · iexact Hx0
    isplitr; · iexact Hx1
    isplitr; · iexact Hx2
    isplitl [Hq]; · iexact Hq
    isplitl [HK]; · iexact HK
    isplitl [HV]; · iexact HV
    isplitl [HW]; · iexact HW
    isplitl [Hst]; · iexact Hst
    isplitl [Hacc]; · iexact Hacc
    isplitl [HpSa_s1]; · iexact HpSa_s1
    isplitl [HpSs_s1]; · iexact HpSs_s1
    isplitl [HpSa_s2]; · iexact HpSa_s2
    isplitl [HpSs_s2]; · iexact HpSs_s2
    isplitl [HpSa_s3]; · iexact HpSa_s3
    isplitl [HpSs_s3]; · iexact HpSs_s3
    isplitl [HO]; · iexact HO
    isplitl [HpRa_s1]; · iexact HpRa_s1
    isplitl [Hd_as_s1]; · iexact Hd_as_s1
    isplitl [Hd_ar_s1]; · iexact Hd_ar_s1
    isplitl [HpRs_s1]; · iexact HpRs_s1
    isplitl [Hd_ss_s1]; · iexact Hd_ss_s1
    isplitl [Hd_sr_s1]; · iexact Hd_sr_s1
    isplitl [Hat_as_s0]; · iexact Hat_as_s0
    isplitl [Hcr_as_s0]; · iexact Hcr_as_s0
    isplitl [Hat_ar_s0]; · iexact Hat_ar_s0
    isplitl [Hcr_ar_s0]; · iexact Hcr_ar_s0
    isplitl [Hat_ss_s0]; · iexact Hat_ss_s0
    isplitl [Hcr_ss_s0]; · iexact Hcr_ss_s0
    isplitl [Hat_sr_s0]; · iexact Hat_sr_s0
    isplitl [Hcr_sr_s0]; · iexact Hcr_sr_s0
    isplitl [Hat_as_s1]; · iexact Hat_as_s1
    isplitl [Hat_ar_s1]; · iexact Hat_ar_s1
    isplitl [Hcr_ar_s1]; · iexact Hcr_ar_s1
    isplitl [Hat_ss_s1]; · iexact Hat_ss_s1
    isplitl [Hat_sr_s1]; · iexact Hat_sr_s1
    isplitl [Hcr_sr_s1]; · iexact Hcr_sr_s1
    isplitl [HpRa_s2]; · iexact HpRa_s2
    isplitl [Hd_as_s2]; · iexact Hd_as_s2
    isplitl [Hd_ar_s2]; · iexact Hd_ar_s2
    isplitl [HpRs_s2]; · iexact HpRs_s2
    isplitl [Hd_ss_s2]; · iexact Hd_ss_s2
    isplitl [Hd_sr_s2]; · iexact Hd_sr_s2
    isplitl [Hat_as_s2]; · iexact Hat_as_s2
    isplitl [Hat_ar_s2]; · iexact Hat_ar_s2
    isplitl [Hcr_ar_s2]; · iexact Hcr_ar_s2
    isplitl [Hat_ss_s2]; · iexact Hat_ss_s2
    isplitl [Hat_sr_s2]; · iexact Hat_sr_s2
    isplitl [Hcr_sr_s2]; · iexact Hcr_sr_s2
    isplitl [HpRa_s3]; · iexact HpRa_s3
    isplitl [Hd_as_s3]; · iexact Hd_as_s3
    isplitl [Hd_ar_s3]; · iexact Hd_ar_s3
    isplitl [HpRs_s3]; · iexact HpRs_s3
    isplitl [Hd_ss_s3]; · iexact Hd_ss_s3
    isplitl [Hd_sr_s3]; · iexact Hd_sr_s3
    isplitl [Hat_as_s3]; · iexact Hat_as_s3
    isplitl [Hat_ar_s3]; · iexact Hat_ar_s3
    isplitl [Hcr_ar_s3]; · iexact Hcr_ar_s3
    isplitl [Hat_ss_s3]; · iexact Hat_ss_s3
    isplitl [Hat_sr_s3]; · iexact Hat_sr_s3
    isplitl [Hcr_sr_s3]; · iexact Hcr_sr_s3
    isplitl [Ho]; · iexact Ho
    isplitl [Hd_ex0]; · iexact Hd_ex0
    isplitl [Hd_ex1]; · iexact Hd_ex1
    isplitl [Hd_ex2]; · iexact Hd_ex2
    isplitl [Hat_ex]; · iexact Hat_ex
    iexact Hcr_ex
  iintro Hq HK HV HW Hat_as_s0 Hat_ar_s0 Hat_ss_s0 Hat_sr_s0 Hat_as_s1 HpSa_s1 Hat_ar_s1 Hat_ss_s1 HpSs_s1 Hat_sr_s1 HpSa_s0 HpSs_s0 Hacc Hst HpRa_s0 HpRs_s0 HpRa_s1 HpRs_s1 Hat_as_s2 HpSa_s2 Hat_ar_s2 Hat_ss_s2 HpSs_s2 Hat_sr_s2 HpRs_s2 HpRa_s2 Hat_as_s3 HpSa_s3 Hat_ar_s3 Hat_ss_s3 HpSs_s3 Hat_sr_s3 HpRs_s3 HpRa_s3 Ho HO Hat_ex
  ihave Ho := (Entails.of_eq (congrArg (owns (c : Thread nD τ) (blk (F := F) c t0_7).o fullShare) (out_eq V c))) $$ Ho
  ihave Hb := (close1 κ (SA V) c .bar) $$ [Hat_bar]
  · isplitr; · iexact Hc
    iexact Hat_bar
  imod Hb with Hb
  ihave Hown := (closeOwn κ (SA V) c) $$ [Hat_as_s0 Hat_ar_s0 Hat_ss_s0 Hat_sr_s0 Hat_as_s1 Hat_ar_s1 Hat_ss_s1 Hat_sr_s1 Hat_as_s2 Hat_ar_s2 Hat_ss_s2 Hat_sr_s2 Hat_as_s3 Hat_ar_s3 Hat_ss_s3 Hat_sr_s3 Hat_ex]
  · isplitr; · iexact Hc
    iapply (own_at (F := F) c)
    isplitl [Hat_as_s0]; · iexact Hat_as_s0
    isplitl [Hat_ar_s0]; · iexact Hat_ar_s0
    isplitl [Hat_ss_s0]; · iexact Hat_ss_s0
    isplitl [Hat_sr_s0]; · iexact Hat_sr_s0
    isplitl [Hat_as_s1]; · iexact Hat_as_s1
    isplitl [Hat_ar_s1]; · iexact Hat_ar_s1
    isplitl [Hat_ss_s1]; · iexact Hat_ss_s1
    isplitl [Hat_sr_s1]; · iexact Hat_sr_s1
    isplitl [Hat_as_s2]; · iexact Hat_as_s2
    isplitl [Hat_ar_s2]; · iexact Hat_ar_s2
    isplitl [Hat_ss_s2]; · iexact Hat_ss_s2
    isplitl [Hat_sr_s2]; · iexact Hat_sr_s2
    isplitl [Hat_as_s3]; · iexact Hat_as_s3
    isplitl [Hat_ar_s3]; · iexact Hat_ar_s3
    isplitl [Hat_ss_s3]; · iexact Hat_ss_s3
    isplitl [Hat_sr_s3]; · iexact Hat_sr_s3
    iexact Hat_ex
  imod Hown with Hown
  imodintro
  iapply Hk $$ [HpSa_s1 HpSs_s1 HpSa_s0 HpSs_s0 Hacc Hst HpRa_s0 HpRs_s0 HpRa_s1 HpRs_s1 HpSa_s2 HpSs_s2 HpRs_s2 HpRa_s2 HpSa_s3 HpSs_s3 HpRs_s3 HpRa_s3 Ht Hb Hown] HO Hq HK HV HW Ho
  unfold Φ8 Y
  isplitl [Ht Hb]
  · isplitl [Hb]; · iexact Hb
    iexact Ht
  isplitl [Hown]; · iexact Hown
  iapply (scratch c ((SA V) c s1) (SACC ((SA V) c)) (SACC ((SA V) c)) (SACC ((SA V) c)) (SACC ((SA V) c)) _ _ _ _ (SST ((SA V) c)) (SST ((SA V) c)) (SST ((SA V) c)) (SST ((SA V) c)) _ _ _ _)
  isplitl [Hacc]; · iexact Hacc
  isplitl [Hst]; · iexact Hst
  isplitl [HpSa_s0 HpSa_s1 HpSa_s2 HpSa_s3]
  · isplitl [HpSa_s0]; · iexact HpSa_s0
    isplitl [HpSa_s1]; · iexact HpSa_s1
    isplitl [HpSa_s2]; · iexact HpSa_s2
    iexact HpSa_s3
  isplitl [HpSs_s0 HpSs_s1 HpSs_s2 HpSs_s3]
  · isplitl [HpSs_s0]; · iexact HpSs_s0
    isplitl [HpSs_s1]; · iexact HpSs_s1
    isplitl [HpSs_s2]; · iexact HpSs_s2
    iexact HpSs_s3
  isplitl [HpRa_s0 HpRa_s1 HpRa_s2 HpRa_s3]
  · isplitl [HpRa_s0]; · iexact HpRa_s0
    isplitl [HpRa_s1]; · iexact HpRa_s1
    isplitl [HpRa_s2]; · iexact HpRa_s2
    iexact HpRa_s3
  isplitl [HpRs_s0]; · iexact HpRs_s0
  isplitl [HpRs_s1]; · iexact HpRs_s1
  isplitl [HpRs_s2]; · iexact HpRs_s2
  iexact HpRs_s3

theorem obl_7 : OblAt V c t0_7 := obl_last V c t0_7 rfl 9 0 rfl rfl (run_last V c)

theorem body_obl : Pipeline.BodyObligation (dat V c) (defs₀ (F := F)) 𝒱₀ 0 Set.univ := fun t => by
  rcases fin_N0 t with h | h | h | h | h | h | h | h <;> subst h
  · exact obl_0 V c
  · exact obl_1 V c
  · exact obl_2 V c
  · exact obl_3 V c
  · exact obl_4 V c
  · exact obl_5 V c
  · exact obl_6 V c
  · exact obl_7 V c

end

end Cert.Proof.KV
-- ==== Proof.Region.lean ====
/-
  The kernel's region on every device: entered with the device's part in the protocol, left with the output written.
-/
module

public import proofs.«01_k».proof.Proof.RunsB
public import Idealize.ShloMosaic.Lib.Pipeline.RegionArraysT
public import Idealize.ShloMosaic.Lib.Pipeline.Value

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section

variable (V : Dev nD → Valuation τ sig (Elt F)) (c : Dev nD)

/-! ### The device's part in the protocol before the region -/

/-- The pieces of a device's part that the launch hands out: everything but the region's own semaphores. -/
def partRes : sProp 𝕄 :=
  iprop(barRes c ∗ sendRes c s0 ∗ sendRes c s1 ∗ sendRes c s2 ∗ sendRes c s3
    ∗ (cred (tallyAt (cell c (.own (.ar s0))) 2 NA) ∗ cred (tallyAt (cell c (.own (.sr s0))) 2 NS))
    ∗ (cred (tallyAt (cell c (.own (.ar s1))) 2 NA) ∗ cred (tallyAt (cell c (.own (.sr s1))) 2 NS))
    ∗ (cred (tallyAt (cell c (.own (.ar s2))) 3 NA) ∗ cred (tallyAt (cell c (.own (.sr s2))) 3 NS))
    ∗ (cred (tallyAt (cell c (.own (.ar s3))) 4 NA) ∗ cred (tallyAt (cell c (.own (.sr s3))) 4 NS))
    ∗ (dutyTok ER (cell (nb 0 c) (.own .ex)) 0 0 ∗ dutyTok ER (cell (nb 1 c) (.own .ex)) 0 1 ∗ dutyTok ER (cell (nb 2 c) (.own .ex)) 0 2
      ∗ cred (tallyAt (cell c (.own .ex)) 5 3)))

/-- What every device knows: the semaphores' invariants, and that every barrier is in its first round. -/
def known (κ : GSem nD τ sig → ℕ) : sProp 𝕄 :=
  iprop(records κ (SA V) ∗ bigSep (Finset.univ : Finset (Dev nD)) fun d => reached ER (cell d .bar) 0)

instance known_persistent (κ) : BI.Persistent (known V κ : sProp 𝕄) := by unfold known; infer_instance

/-- What rides beside the buffers before the region. -/
def rest : sProp 𝕄 :=
  iprop((∃ κ, known V κ ∗ partRes c ∗ bigSep (Finset.univ : Finset Ks) fun k => openTok ER (cell c (.own k))) ∗ ow c 14)

/-- The own semaphores' invariants, one by one. -/
theorem own_invs (κ : GSem nD τ sig → ℕ) : (records κ (SA V) : sProp 𝕄)
    ⊢ bigSep (Finset.univ : Finset Ks) fun k => cellInv ER (Rd (SA V)) (κ (cell c (.own k))) (cell c (.own k)) := by
  refine BI.bigSep_intro_persistent fun k _ => ?_
  unfold records
  exact ent (bigSep_elim (Φ := fun x : Dev nD × Kd => (cellInv ER (Rd (SA V)) (κ (cell x.1 x.2)) (cell x.1 x.2) : sProp 𝕄)) (Finset.mem_univ (c, Kd.own k)))

/-- The own semaphores opened: each at its first round, and known to be. -/
theorem own_open (κ : GSem nD τ sig → ℕ) :
    iprop(records κ (SA V) ∗ (bigSep (Finset.univ : Finset Ks) fun k => openTok ER (cell c (.own k))) ∗ Pipeline.ownSems0 osem c)
      ⊢ (|={Set.univ}=> iprop((bigSep (Finset.univ : Finset Ks) fun k => atPos ER (cell c (.own k)) 0 ∅ 0)
          ∗ bigSep (Finset.univ : Finset Ks) fun k => reached ER (cell c (.own k)) 0) : sProp 𝕄) := by
  rw [← bigSep_sep']
  refine BIBase.Entails.trans ?_ (cells_open ER (Rd (SA V)) (Finset.univ : Finset Ks) (fun k => cell c (.own k)) (fun k => κ (cell c (.own k))) (fun _ _ => Set.mem_univ _))
  rw [bigSep_sep']
  iintro ⟨#Hr, Ho, Hs⟩
  ihave Hi := (own_invs V c κ) $$ Hr
  unfold Pipeline.ownSems0
  isplitl [Ho]
  · isplitl [Hi]; · iexact Hi
    iexact Ho
  iexact Hs

theorem own_at0 : bigSep (Finset.univ : Finset Ks) (fun k => atPos ER (cell c (.own k)) 0 ∅ 0 : Ks → sProp 𝕄) ⊢ iprop(atPos ER (cell c (.own (.as s0))) 0 ∅ 0 ∗ atPos ER (cell c (.own (.ar s0))) 0 ∅ 0 ∗ atPos ER (cell c (.own (.ss s0))) 0 ∅ 0 ∗ atPos ER (cell c (.own (.sr s0))) 0 ∅ 0 ∗ atPos ER (cell c (.own (.as s1))) 0 ∅ 0 ∗ atPos ER (cell c (.own (.ar s1))) 0 ∅ 0 ∗ atPos ER (cell c (.own (.ss s1))) 0 ∅ 0 ∗ atPos ER (cell c (.own (.sr s1))) 0 ∅ 0 ∗ atPos ER (cell c (.own (.as s2))) 0 ∅ 0 ∗ atPos ER (cell c (.own (.ar s2))) 0 ∅ 0 ∗ atPos ER (cell c (.own (.ss s2))) 0 ∅ 0 ∗ atPos ER (cell c (.own (.sr s2))) 0 ∅ 0 ∗ atPos ER (cell c (.own (.as s3))) 0 ∅ 0 ∗ atPos ER (cell c (.own (.ar s3))) 0 ∅ 0 ∗ atPos ER (cell c (.own (.ss s3))) 0 ∅ 0 ∗ atPos ER (cell c (.own (.sr s3))) 0 ∅ 0 ∗ atPos ER (cell c (.own .ex)) 0 ∅ 0) :=
  Entails.of_eq (own_list (F := F) (fun k => atPos ER (cell c (.own k)) 0 ∅ 0))

/-- The device's part with its own semaphores opened is what it brings into the region. -/
theorem begRes_intro : iprop(partRes c ∗ bigSep (Finset.univ : Finset Ks) fun k => atPos ER (cell c (.own k)) 0 ∅ 0) ⊢ (begRes c : sProp 𝕄) := by
  unfold partRes begRes
  iintro ⟨⟨Hb, H0, H1, H2, H3, ⟨Ca0, Cs0⟩, ⟨Ca1, Cs1⟩, ⟨Ca2, Cs2⟩, ⟨Ca3, Cs3⟩, X0, X1, X2, XC⟩, Hat⟩
  ihave Hat := (own_at0 c) $$ Hat
  icases Hat with ⟨A_as_s0, A_ar_s0, A_ss_s0, A_sr_s0, A_as_s1, A_ar_s1, A_ss_s1, A_sr_s1, A_as_s2, A_ar_s2, A_ss_s2, A_sr_s2, A_as_s3, A_ar_s3, A_ss_s3, A_sr_s3, A_ex⟩
  isplitl [Hb]; · iexact Hb
  isplitl [H0]; · iexact H0
  isplitl [H1]; · iexact H1
  isplitl [H2]; · iexact H2
  isplitl [H3]; · iexact H3
  isplitl [A_as_s0 A_ar_s0 Ca0 A_ss_s0 A_sr_s0 Cs0]
  · unfold recvRes
    isplitl [A_as_s0]; · iexact A_as_s0
    isplitl [A_ar_s0]; · iexact A_ar_s0
    isplitl [Ca0]; · iexact Ca0
    isplitl [A_ss_s0]; · iexact A_ss_s0
    isplitl [A_sr_s0]; · iexact A_sr_s0
    iexact Cs0
  isplitl [A_as_s1 A_ar_s1 Ca1 A_ss_s1 A_sr_s1 Cs1]
  · unfold recvRes
    isplitl [A_as_s1]; · iexact A_as_s1
    isplitl [A_ar_s1]; · iexact A_ar_s1
    isplitl [Ca1]; · iexact Ca1
    isplitl [A_ss_s1]; · iexact A_ss_s1
    isplitl [A_sr_s1]; · iexact A_sr_s1
    iexact Cs1
  isplitl [A_as_s2 A_ar_s2 Ca2 A_ss_s2 A_sr_s2 Cs2]
  · unfold recvRes
    isplitl [A_as_s2]; · iexact A_as_s2
    isplitl [A_ar_s2]; · iexact A_ar_s2
    isplitl [Ca2]; · iexact Ca2
    isplitl [A_ss_s2]; · iexact A_ss_s2
    isplitl [A_sr_s2]; · iexact A_sr_s2
    iexact Cs2
  isplitl [A_as_s3 A_ar_s3 Ca3 A_ss_s3 A_sr_s3 Cs3]
  · unfold recvRes
    isplitl [A_as_s3]; · iexact A_as_s3
    isplitl [A_ar_s3]; · iexact A_ar_s3
    isplitl [Ca3]; · iexact Ca3
    isplitl [A_ss_s3]; · iexact A_ss_s3
    isplitl [A_sr_s3]; · iexact A_sr_s3
    iexact Cs3
  unfold endRes
  isplitl [X0]; · iexact X0
  isplitl [X1]; · iexact X1
  isplitl [X2]; · iexact X2
  isplitl [A_ex]; · iexact A_ex
  iexact XC

/-! ### The output array -/

theorem idx4 (t : Fin grid0.N) (a : Fin 4) : (((cf (F := F) c).win (4 : Fin 5)).index t : Fin 4 → ℕ) a = 0 := by
  show (![0, 0, 0, 0] : Fin 4 → ℕ) a = 0
  fin_cases a <;> rfl

theorem emb4 (t : Fin grid0.N) (y : S32x1x16x128.Idx) : (((cf (F := F) c).win (4 : Fin 5)).blk t).view.emb y = y := by
  funext a
  refine Fin.ext ?_
  exact Pipeline.Window.rect_emb_val_of_index_zero ((cf (F := F) c).win (4 : Fin 5)) t a (idx4 c t a) y

/-- The output array after the region. -/
theorem arr4 : (dat V c).arrAt (4 : Fin 5) (cf (F := F) c).N = out V c := by
  refine (dat V c).arrAt_eq_of_cover (4 : Fin 5) (out V c) (fun t _ => ?_) (fun i => ⟨t0_7, ?_, ?_⟩)
  · funext y
    rw [View.read_apply]
    show out V c y = out V c _
    rw [emb4]
  · rw [flush4]; rfl
  · have h := View.emb_mem_set (((cf (F := F) c).win (4 : Fin 5)).blk t0_7).view i
    rwa [emb4] at h

/-! ### The buffers -/

/-- The contents after the region. -/
def VE : Valuation τ sig (Elt F) := Function.update (V c) main_v42 (out V c)

theorem VE_of (b : DevRef τ sig) (h : b ≠ Proc.devRef .tc main_v42) : VE V c b = V c b := Function.update_of_ne h _ _

theorem arrs_VE (w : Fin 5) : (dat V c).arrAt w (cf (F := F) c).N = VE V c (Proc.devRef .tc (Pipeline.arrRef spec0 w)) := by
  fin_cases w
  · exact ((dat V c).arrAt_in (0 : Fin 5) rfl _).trans (VE_of V c _ (by decide)).symm
  · exact ((dat V c).arrAt_in (1 : Fin 5) rfl _).trans (VE_of V c _ (by decide)).symm
  · exact ((dat V c).arrAt_in (2 : Fin 5) rfl _).trans (VE_of V c _ (by decide)).symm
  · exact ((dat V c).arrAt_in (3 : Fin 5) rfl _).trans (VE_of V c _ (by decide)).symm
  · refine (arr4 V c).trans ?_
    unfold VE
    exact (Function.update_self (Proc.devRef .tc main_v42) (out V c) (V c)).symm

/-- The windows' arrays at a valuation's contents are its buffers held. -/
theorem arrays_eq (G : (w : Fin 5) → Buf (Elt F) (((cf (F := F) c).win w).arr.view.loc (c.tc : Thread nD τ))) (W : Valuation τ sig (Elt F))
    (hG : ∀ w, G w = W (Proc.devRef .tc (Pipeline.arrRef spec0 w))) :
    ((dat V c).arrays G : sProp 𝕄) = StableHlo.held (c.tc : Thread nD τ) (Pipeline.arrRefs spec0) W := by
  have h := Pipeline.PerCore.arrays_eq (Pipeline.pinD (pcfgs (F := F)) adm) (pdats V) 0 c (launch0 (F := F)).arr_whole
    ((dat V c).share_full fun _ => rfl) G
  refine Eq.trans h ?_
  unfold StableHlo.held Pipeline.arrRefs
  rw [bigSep_map, show Finset.univ.image (Pipeline.arrRef spec0) = Finset.univ.map ⟨Pipeline.arrRef spec0, winFacts0.arr_inj⟩ from
    (Finset.map_eq_image ⟨Pipeline.arrRef spec0, winFacts0.arr_inj⟩ Finset.univ).symm, bigSep_map]
  exact bigSep_congr fun w _ => by rw [hG]; rfl

/-- The buffers of the device's table. -/
abbrev tbls : Finset (DevRef τ sig) := Pipeline.tblRefs pre0
/-- The buffers the region neither reads nor writes. -/
abbrev others : Finset (DevRef τ sig) := (Pipeline.ucRefs τ sig \ Pipeline.arrRefs spec0) \ tbls

theorem held_parts (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) tbls W ∗ StableHlo.held (c.tc : Thread nD τ) others W) := by
  rw [StableHlo.held_sub_split _ (Pipeline.arrRefs_sub_ucRefs spec0 winFacts0.arr_unscoped) W,
    StableHlo.held_sub_split _ (Pipeline.tblRefs_sub_ucRefs_sdiff spec0 pre0 preFacts0.unscoped preFacts0.disj) W]

theorem tbl_VE (hV : V c (Proc.devRef .tc main_v41) = tbl (F := F) c 0) (k : Fin 1) : tbl (F := F) c k = VE V c (Proc.devRef .tc (pre0.ref k)) := by
  fin_cases k
  exact hV.symm.trans (VE_of V c _ (by decide)).symm

theorem tbl_V (hV : V c (Proc.devRef .tc main_v41) = tbl (F := F) c 0) (k : Fin 1) : tbl (F := F) c k = V c (Proc.devRef .tc (pre0.ref k)) := by
  fin_cases k
  exact hV.symm

theorem others_VE : (StableHlo.held (c.tc : Thread nD τ) others (V c) : sProp 𝕄) = StableHlo.held (c.tc : Thread nD τ) others (VE V c) :=
  StableHlo.held_congr _ fun b hb => (VE_of V c b fun e =>
    (Finset.mem_sdiff.mp (Finset.mem_sdiff.mp hb).1).2 (e ▸ Finset.mem_map_of_mem _ (Finset.mem_image_of_mem _ (Finset.mem_univ (4 : Fin 5))))).symm

/-! ### The region -/

theorem waits (t : Fin (grid0.N + 1)) (sm : SemLoc sig) : (levAts (L 6) lv : sProp 𝕄) ⊢ MayWait (c : Thread nD τ) sm 0 ((dat V c).owed t) :=
  mayWait c sm 0 (left t.val) (by decide) fun x hx => (by decide : ∀ x ∈ dueLev, 0 < x ∧ x < 6) x (List.mem_of_mem_take hx)

/-- What the region is entered from, -/
def preR : sProp 𝕄 := iprop(StableHlo.held (c.tc : Thread nD τ) (Pipeline.ucRefs τ sig) (V c) ∗ rest V c)
/-- and what it leaves. -/
def postR : sProp 𝕄 := iprop(StableHlo.held (c.tc : Thread nD τ) (Pipeline.ucRefs τ sig) (VE V c)
  ∗ (Y c ∗ ∃ W, owes (c.tc : Thread nD τ) (0 : CellTallies nD τ sig ℕ) W))

theorem entry (hV : V c (Proc.devRef .tc main_v41) = tbl (F := F) c 0) :
    iprop(preR V c ∗ Pipeline.ownSems0 osem c ∗ levAts (L 6) lv)
      ⊢ (|={Set.univ}=> iprop((dat V c).arrays ((dat V c).arrAt · 0) ∗ tblHeld (F := F) c ∗ (dat V c).owesAt 0 0 ∗ X V c
          ∗ StableHlo.held (c.tc : Thread nD τ) others (V c)) : sProp 𝕄) := by
  unfold preR rest tblHeld X
  rw [arrays_eq V c ((dat V c).arrAt · 0) (V c) (fun _ => rfl), Pipeline.prefHeld_held pre0 preFacts0.inj c (tbl (F := F) c) (V c) (tbl_V V c hV), held_parts]
  iintro ⟨⟨⟨Ha, Ht, Hz⟩, ⟨%κ, #Hk, Hp, Ho⟩, HO⟩, Hs, #Hlev⟩
  unfold known
  icases Hk with ⟨#Hrec, #Hbar⟩
  imod (own_open V c κ) $$ [Ho Hs] with ⟨Hat, #Hr⟩
  · isplitr; · iexact Hrec
    isplitl [Ho]; · iexact Ho
    iexact Hs
  imodintro
  isplitl [Ha]; · iexact Ha
  isplitl [Ht]; · iexact Ht
  isplitl [HO]
  · iapply (owesAt_intro V c 0 14 rfl); iexact HO
  isplitr [Hz]
  · iexists κ
    isplitr
    · unfold ctx
      isplitr; · iexact Hrec
      isplitr; · iexact Hlev
      isplitr; · iexact Hbar
      iexact Hr
    iapply (begRes_intro c)
    isplitl [Hp]; · iexact Hp
    iexact Hat
  iexact Hz

theorem exit (hV : V c (Proc.devRef .tc main_v41) = tbl (F := F) c 0) :
    iprop((dat V c).arrays ((dat V c).arrAt · (cf (F := F) c).N) ∗ (dat V c).owesAt 0 (Fin.last grid0.N) ∗ (Y c ∗ tblHeld (F := F) c)
        ∗ StableHlo.held (c.tc : Thread nD τ) others (V c))
      ⊢ (|={Set.univ}=> postR V c : sProp 𝕄) := by
  unfold postR tblHeld
  rw [arrays_eq V c ((dat V c).arrAt · (cf (F := F) c).N) (VE V c) (arrs_VE V c), Pipeline.prefHeld_held pre0 preFacts0.inj c (tbl (F := F) c) (VE V c) (tbl_VE V c hV),
    others_VE, held_parts (F := F) c (VE V c)]
  iintro ⟨Ha, HO, ⟨Hy, Ht⟩, Hz⟩
  imodintro
  isplitl [Ha Ht Hz]
  · isplitl [Ha]; · iexact Ha
    isplitl [Ht]; · iexact Ht
    iexact Hz
  isplitl [Hy]; · iexact Hy
  ihave HO := (owesAt_elim V c (Fin.last grid0.N) 0 rfl) $$ HO
  unfold ow
  icases HO with ⟨%W, HO⟩
  iexists W
  iexact HO

theorem enterI : iprop(X V c ∗ tblHeld (F := F) c ∗ Pipeline.scopedRest spec0 c) ⊢ ((dat V c).Φ 0 : sProp 𝕄) :=
  (Entails.rfl : Φ0 V c ⊢ Φ0 V c)

theorem leaveI : ((dat V c).Φ (Fin.last grid0.N) : sProp 𝕄) ⊢ iprop((Y c ∗ tblHeld (F := F) c) ∗ Pipeline.ownSems0 osem c ∗ Pipeline.scopedRest spec0 c) :=
  (Entails.rfl : Φ8 (F := F) c ⊢ Φ8 c)

end

theorem own_facts : Pipeline.OwnSemFacts spec0 osem := ⟨by decide, by decide, by decide⟩

/-- The region. -/
def region (V : Dev nD → Valuation τ sig (Elt F)) (hV : ∀ c, V c (Proc.devRef .tc main_v41) = tbl (F := F) c 0) :
    Pipeline.PerCore.RegionSeg (Lvl := ℕ) (pcfgs (F := F)) adm (pdats V) 0 (defs₀ (F := F)) 𝒱₀ (L 6) lv 0 where
  win := winFacts0.to₀
  block_pos := block_pos0
  stage_whole := stage_whole0
  K := Ks
  osem := osem
  ho := own_facts
  hbody c := (body_obl V c).loose
  hwaits c := Pipeline.PerCore.cellsWaits_intro _ (pdats V) 0 0 c fun _ _ t => waits V c t _
  pre := preR V
  post := postR V
  X := X V
  Y c := iprop(Y c ∗ tblHeld (F := F) c)
  Z c := StableHlo.held (c.tc : Thread nD τ) others (V c)
  hentry c := entry V c (hV c)
  hin c := enterI V c
  hout c := leaveI V c
  hexit c := exit V c (hV c)

end Cert.Proof.KV
-- ==== Proof.Fund.lean ====
/-
  What the launch hands out: the tokens of the payments, the credit of the waits, and the invariants of the semaphores.
-/
module

public import proofs.«01_k».proof.Proof.Region
public import Idealize.ShloMosaic.Harness.Basic

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

/-! ### The credit -/

/-- What device `c` is to be paid, in the order of the payments. -/
def back (c : Dev nD) : List (Pay nD τ sig) :=
  [(cell c (.own .ex), 5, 1), (cell c (.own .ex), 5, 1), (cell c (.own .ex), 5, 1),
   (cell c (.own (.sr s3)), 4, NS), (cell c (.own (.ar s3)), 4, NA),
   (cell c (.own (.sr s2)), 3, NS), (cell c (.own (.ar s2)), 3, NA),
   (cell c (.own (.sr s1)), 2, NS), (cell c (.own (.ar s1)), 2, NA),
   (cell c (.own (.sr s0)), 2, NS), (cell c (.own (.ar s0)), 2, NA),
   (cell c .bar, 1, 1), (cell c .bar, 1, 1), (cell c .bar, 1, 1)]

theorem back_tc (c : Dev nD) : ∀ x ∈ back c, x.1.1 = (c.tc : Thread nD τ) := by
  intro x hx
  unfold back at hx
  simp only [List.mem_cons, List.not_mem_nil, or_false] at hx
  rcases hx with h | h | h | h | h | h | h | h | h | h | h | h | h | h <;> (subst h; rfl)

theorem sum_flip (a : Fin 3) (k : Kd) (i n : ℕ) :
    (∑ d : Dev nD, (tallyAt (cell (nb a d) k) i n : CellTallies nD τ sig ℕ)) = ∑ d : Dev nD, tallyAt (cell d k) i n :=
  Equiv.sum_comp (flip a) fun d : Dev nD => (tallyAt (cell d k) i n : CellTallies nD τ sig ℕ)

/-- All payments together, seen by payer and by payee. -/
theorem sum_owe : (∑ d : Dev nD, owe d 14) = ∑ d : Dev nD, tallyL (back d) := by
  have h (d : Dev nD) : owe d 14 = tallyL (due d) := by
    unfold owe; rw [TalkSites.addL_eq, zero_add]; rfl
  simp only [h]
  unfold due back
  simp only [tallyL, TalkSites.Pay.tally, Finset.sum_add_distrib, sum_flip]
  rfl

theorem launch_back (c : Dev nD) : (Pipeline.launchCred (fun d => owe d 14) c : sProp 𝕄) = cred (tallyL (back c)) :=
  Pipeline.launchCred_of_sum _ (fun d => tallyL (back d)) sum_owe
    (fun d g hg => by
      obtain ⟨i, hi⟩ := DFunLike.ne_iff.mp hg
      obtain ⟨x, hx, rfl, -⟩ := TalkSites.tallyL_pos (Nat.pos_of_ne_zero hi)
      exact back_tc d x hx) c

theorem cred3 (g : GSem nD τ sig) (i : ℕ) : iprop(cred (tallyAt g i 1) ∗ cred (tallyAt g i 1) ∗ cred (tallyAt g i 1)) ⊢ (cred (tallyAt g i 3) : sProp 𝕄) := by
  rw [show (tallyAt g i 3 : CellTallies nD τ sig ℕ) = tallyAt g i 1 + (tallyAt g i 1 + tallyAt g i 1) by rw [tallyAt_add, tallyAt_add]]
  exact (sep_mono .rfl (cred_add _ _).2).trans (cred_add _ _).2

theorem back_list (c : Dev nD) : (cred (tallyL (back c)) : sProp 𝕄) ⊢
    iprop(cred (tallyAt (cell c (.own .ex)) 5 1) ∗ cred (tallyAt (cell c (.own .ex)) 5 1) ∗ cred (tallyAt (cell c (.own .ex)) 5 1)
      ∗ cred (tallyAt (cell c (.own (.sr s3))) 4 NS) ∗ cred (tallyAt (cell c (.own (.ar s3))) 4 NA)
      ∗ cred (tallyAt (cell c (.own (.sr s2))) 3 NS) ∗ cred (tallyAt (cell c (.own (.ar s2))) 3 NA)
      ∗ cred (tallyAt (cell c (.own (.sr s1))) 2 NS) ∗ cred (tallyAt (cell c (.own (.ar s1))) 2 NA)
      ∗ cred (tallyAt (cell c (.own (.sr s0))) 2 NS) ∗ cred (tallyAt (cell c (.own (.ar s0))) 2 NA)
      ∗ cred (tallyAt (cell c .bar) 1 1) ∗ cred (tallyAt (cell c .bar) 1 1) ∗ cred (tallyAt (cell c .bar) 1 1)) :=
  Entails.of_eq (TalkSites.cred_tallyL (back c))

/-- The credit of device `c`'s waits. -/
def credRes (c : Dev nD) : sProp 𝕄 :=
  iprop(cred (tallyAt (cell c .bar) 1 3)
    ∗ (cred (tallyAt (cell c (.own (.ar s0))) 2 NA) ∗ cred (tallyAt (cell c (.own (.sr s0))) 2 NS))
    ∗ (cred (tallyAt (cell c (.own (.ar s1))) 2 NA) ∗ cred (tallyAt (cell c (.own (.sr s1))) 2 NS))
    ∗ (cred (tallyAt (cell c (.own (.ar s2))) 3 NA) ∗ cred (tallyAt (cell c (.own (.sr s2))) 3 NS))
    ∗ (cred (tallyAt (cell c (.own (.ar s3))) 4 NA) ∗ cred (tallyAt (cell c (.own (.sr s3))) 4 NS))
    ∗ cred (tallyAt (cell c (.own .ex)) 5 3))

theorem creds (c : Dev nD) : (Pipeline.launchCred (fun d => owe d 14) c : sProp 𝕄) ⊢ credRes c := by
  rw [launch_back]
  refine BIBase.Entails.trans (back_list c) ?_
  unfold credRes
  iintro ⟨E0, E1, E2, S3, A3, S2, A2, S1, A1, S0, A0, B0, B1, B2⟩
  isplitl [B0 B1 B2]
  · iapply (cred3 (cell c .bar) 1)
    isplitl [B0]; · iexact B0
    isplitl [B1]; · iexact B1
    iexact B2
  isplitl [A0 S0]
  · isplitl [A0]; · iexact A0
    iexact S0
  isplitl [A1 S1]
  · isplitl [A1]; · iexact A1
    iexact S1
  isplitl [A2 S2]
  · isplitl [A2]; · iexact A2
    iexact S2
  isplitl [A3 S3]
  · isplitl [A3]; · iexact A3
    iexact S3
  iapply (cred3 (cell c (.own .ex)) 5)
  isplitl [E0]; · iexact E0
  isplitl [E1]; · iexact E1
  iexact E2

/-! ### The tokens -/

/-- Whom device `c` pays with payment `j` on a semaphore of a kind: itself or a neighbour. -/
def payee : Kd → Fin 3 → Dev nD ≃ Dev nD
  | .bar, j => flip j
  | .own .ex, j => flip j
  | .own (.ar s), _ => flip (ax s)
  | .own (.sr s), _ => flip (ax s)
  | .own (.as _), _ => Equiv.refl _
  | .own (.ss _), _ => Equiv.refl _

def tokEmb : (Kd × Fin 3) × Dev nD ↪ GSem nD τ sig × ℕ × Fin 3 :=
  ⟨fun x => (cell x.2 x.1.1, 0, x.1.2), fun x y h => by
    have h1 : cell x.2 x.1.1 = cell y.2 y.1.1 := congrArg Prod.fst h
    have h2 : x.1.2 = y.1.2 := congrArg (fun t : GSem nD τ sig × ℕ × Fin 3 => t.2.2) h
    have h3 : x.2 = y.2 := congrArg (fun g : GSem nD τ sig => g.1.1) h1
    have h4 : x.1.1 = y.1.1 := loc_inj (congrArg Prod.snd h1)
    exact Prod.ext (Prod.ext h4 h2) h3⟩

abbrev toks : Finset (GSem nD τ sig × ℕ × Fin 3) := Finset.univ.map tokEmb

/-- The tokens device `c` pays with. -/
def tokRes (c : Dev nD) : sProp 𝕄 :=
  bigSep (Finset.univ : Finset Kd) fun k => bigSep (Finset.univ : Finset (Fin 3)) fun j => dutyTok ER (cell (payee k j c) k) 0 j

theorem swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

theorem toks_out : bigSep toks (fun x => (dutyTok ER x.1 x.2.1 x.2.2 : sProp 𝕄)) = bigSep Finset.univ fun c : Dev nD => tokRes c := by
  unfold toks tokRes
  rw [bigSep_map, bigSep_univ_prod]
  have h (x : Kd × Fin 3) : (bigSep (Finset.univ : Finset (Dev nD)) fun d => (dutyTok ER (tokEmb (x, d)).1 (tokEmb (x, d)).2.1 (tokEmb (x, d)).2.2 : sProp 𝕄))
      = bigSep (Finset.univ : Finset (Dev nD)) fun c => dutyTok ER (cell (payee x.1 x.2 c) x.1) 0 x.2 :=
    bigSep_univ_equiv (payee x.1 x.2) fun d : Dev nD => (dutyTok ER (cell d x.1) 0 x.2 : sProp 𝕄)
  simp only [h]
  rw [swap]
  exact bigSep_congr fun c _ => bigSep_univ_prod _

theorem fin3 (Φ : Fin 3 → sProp 𝕄) : bigSep Finset.univ Φ = iprop(Φ 0 ∗ Φ 1 ∗ Φ 2) :=
  bigSep_univ_eq_bigSepL [0, 1, 2] (by decide) (by decide) Φ

theorem kd_list (Φ : Kd → sProp 𝕄) : bigSep Finset.univ Φ = bigSepL [.bar, .own (.as s0), .own (.ar s0), .own (.ss s0), .own (.sr s0), .own (.as s1), .own (.ar s1), .own (.ss s1), .own (.sr s1), .own (.as s2), .own (.ar s2), .own (.ss s2), .own (.sr s2), .own (.as s3), .own (.ar s3), .own (.ss s3), .own (.sr s3), .own .ex] Φ :=
  bigSep_univ_eq_bigSepL _ (by decide) (by decide) Φ

theorem tok_list (c : Dev nD) : (tokRes c : sProp 𝕄) ⊢ iprop((dutyTok ER (cell (nb 0 c) .bar) 0 0 ∗ dutyTok ER (cell (nb 1 c) .bar) 0 1 ∗ dutyTok ER (cell (nb 2 c) .bar) 0 2) ∗ (dutyTok ER (cell c (.own (.as s0))) 0 0 ∗ dutyTok ER (cell c (.own (.as s0))) 0 1 ∗ dutyTok ER (cell c (.own (.as s0))) 0 2) ∗ (dutyTok ER (cell (nb (ax s0) c) (.own (.ar s0))) 0 0 ∗ dutyTok ER (cell (nb (ax s0) c) (.own (.ar s0))) 0 1 ∗ dutyTok ER (cell (nb (ax s0) c) (.own (.ar s0))) 0 2) ∗ (dutyTok ER (cell c (.own (.ss s0))) 0 0 ∗ dutyTok ER (cell c (.own (.ss s0))) 0 1 ∗ dutyTok ER (cell c (.own (.ss s0))) 0 2) ∗ (dutyTok ER (cell (nb (ax s0) c) (.own (.sr s0))) 0 0 ∗ dutyTok ER (cell (nb (ax s0) c) (.own (.sr s0))) 0 1 ∗ dutyTok ER (cell (nb (ax s0) c) (.own (.sr s0))) 0 2) ∗ (dutyTok ER (cell c (.own (.as s1))) 0 0 ∗ dutyTok ER (cell c (.own (.as s1))) 0 1 ∗ dutyTok ER (cell c (.own (.as s1))) 0 2) ∗ (dutyTok ER (cell (nb (ax s1) c) (.own (.ar s1))) 0 0 ∗ dutyTok ER (cell (nb (ax s1) c) (.own (.ar s1))) 0 1 ∗ dutyTok ER (cell (nb (ax s1) c) (.own (.ar s1))) 0 2) ∗ (dutyTok ER (cell c (.own (.ss s1))) 0 0 ∗ dutyTok ER (cell c (.own (.ss s1))) 0 1 ∗ dutyTok ER (cell c (.own (.ss s1))) 0 2) ∗ (dutyTok ER (cell (nb (ax s1) c) (.own (.sr s1))) 0 0 ∗ dutyTok ER (cell (nb (ax s1) c) (.own (.sr s1))) 0 1 ∗ dutyTok ER (cell (nb (ax s1) c) (.own (.sr s1))) 0 2) ∗ (dutyTok ER (cell c (.own (.as s2))) 0 0 ∗ dutyTok ER (cell c (.own (.as s2))) 0 1 ∗ dutyTok ER (cell c (.own (.as s2))) 0 2) ∗ (dutyTok ER (cell (nb (ax s2) c) (.own (.ar s2))) 0 0 ∗ dutyTok ER (cell (nb (ax s2) c) (.own (.ar s2))) 0 1 ∗ dutyTok ER (cell (nb (ax s2) c) (.own (.ar s2))) 0 2) ∗ (dutyTok ER (cell c (.own (.ss s2))) 0 0 ∗ dutyTok ER (cell c (.own (.ss s2))) 0 1 ∗ dutyTok ER (cell c (.own (.ss s2))) 0 2) ∗ (dutyTok ER (cell (nb (ax s2) c) (.own (.sr s2))) 0 0 ∗ dutyTok ER (cell (nb (ax s2) c) (.own (.sr s2))) 0 1 ∗ dutyTok ER (cell (nb (ax s2) c) (.own (.sr s2))) 0 2) ∗ (dutyTok ER (cell c (.own (.as s3))) 0 0 ∗ dutyTok ER (cell c (.own (.as s3))) 0 1 ∗ dutyTok ER (cell c (.own (.as s3))) 0 2) ∗ (dutyTok ER (cell (nb (ax s3) c) (.own (.ar s3))) 0 0 ∗ dutyTok ER (cell (nb (ax s3) c) (.own (.ar s3))) 0 1 ∗ dutyTok ER (cell (nb (ax s3) c) (.own (.ar s3))) 0 2) ∗ (dutyTok ER (cell c (.own (.ss s3))) 0 0 ∗ dutyTok ER (cell c (.own (.ss s3))) 0 1 ∗ dutyTok ER (cell c (.own (.ss s3))) 0 2) ∗ (dutyTok ER (cell (nb (ax s3) c) (.own (.sr s3))) 0 0 ∗ dutyTok ER (cell (nb (ax s3) c) (.own (.sr s3))) 0 1 ∗ dutyTok ER (cell (nb (ax s3) c) (.own (.sr s3))) 0 2) ∗ (dutyTok ER (cell (nb 0 c) (.own .ex)) 0 0 ∗ dutyTok ER (cell (nb 1 c) (.own .ex)) 0 1 ∗ dutyTok ER (cell (nb 2 c) (.own .ex)) 0 2)) := by
  unfold tokRes
  simp only [fin3]
  rw [kd_list]
  exact Entails.rfl

/-- Tokens, credit and the barrier's position are the device's part. -/
theorem part_intro (c : Dev nD) : iprop(tokRes c ∗ atPos ER (cell c .bar) 0 ∅ 0 ∗ credRes c) ⊢ (partRes c : sProp 𝕄) := by
  unfold credRes partRes
  iintro ⟨Ht, Hb, CB, C0, C1, C2, C3, CX⟩
  ihave Ht := (tok_list c) $$ Ht
  icases Ht with ⟨⟨B0, B1, B2⟩, ⟨T_as_0, -, -⟩, ⟨T_ar_0, -, -⟩, ⟨T_ss_0, -, -⟩, ⟨T_sr_0, -, -⟩, ⟨T_as_1, -, -⟩, ⟨T_ar_1, -, -⟩, ⟨T_ss_1, -, -⟩, ⟨T_sr_1, -, -⟩, ⟨T_as_2, -, -⟩, ⟨T_ar_2, -, -⟩, ⟨T_ss_2, -, -⟩, ⟨T_sr_2, -, -⟩, ⟨T_as_3, -, -⟩, ⟨T_ar_3, -, -⟩, ⟨T_ss_3, -, -⟩, ⟨T_sr_3, -, -⟩, X0, X1, X2⟩
  isplitl [B0 B1 B2 Hb CB]
  · unfold barRes
    isplitl [B0]; · iexact B0
    isplitl [B1]; · iexact B1
    isplitl [B2]; · iexact B2
    isplitl [Hb]; · iexact Hb
    iexact CB
  isplitl [T_as_0 T_ar_0 T_ss_0 T_sr_0]
  · unfold sendRes
    isplitl [T_as_0]; · iexact T_as_0
    isplitl [T_ar_0]; · iexact T_ar_0
    isplitl [T_ss_0]; · iexact T_ss_0
    iexact T_sr_0
  isplitl [T_as_1 T_ar_1 T_ss_1 T_sr_1]
  · unfold sendRes
    isplitl [T_as_1]; · iexact T_as_1
    isplitl [T_ar_1]; · iexact T_ar_1
    isplitl [T_ss_1]; · iexact T_ss_1
    iexact T_sr_1
  isplitl [T_as_2 T_ar_2 T_ss_2 T_sr_2]
  · unfold sendRes
    isplitl [T_as_2]; · iexact T_as_2
    isplitl [T_ar_2]; · iexact T_ar_2
    isplitl [T_ss_2]; · iexact T_ss_2
    iexact T_sr_2
  isplitl [T_as_3 T_ar_3 T_ss_3 T_sr_3]
  · unfold sendRes
    isplitl [T_as_3]; · iexact T_as_3
    isplitl [T_ar_3]; · iexact T_ar_3
    isplitl [T_ss_3]; · iexact T_ss_3
    iexact T_sr_3
  isplitl [C0]; · iexact C0
  isplitl [C1]; · iexact C1
  isplitl [C2]; · iexact C2
  isplitl [C3]; · iexact C3
  isplitl [X0]; · iexact X0
  isplitl [X1]; · iexact X1
  isplitl [X2]; · iexact X2
  iexact CX

/-! ### The invariants -/

def barEmb : Dev nD ↪ GSem nD τ sig := ⟨fun c => cell c .bar, fun _ _ h => congrArg (fun g : GSem nD τ sig => g.1.1) h⟩
def ownEmb : Dev nD × Ks ↪ GSem nD τ sig :=
  ⟨fun x => cell x.1 (.own x.2), fun _ _ h => Prod.ext (congrArg (fun g : GSem nD τ sig => g.1.1) h)
    (Kd.own.inj (loc_inj (congrArg Prod.snd h)))⟩

abbrev barCells : Finset (GSem nD τ sig) := Finset.univ.map barEmb
abbrev ownCells : Finset (GSem nD τ sig) := Finset.univ.map ownEmb

theorem cells_disj : Disjoint barCells ownCells := by
  rw [Finset.disjoint_left]
  rintro g h₁ h₂
  obtain ⟨c, -, rfl⟩ := Finset.mem_map.mp h₁
  obtain ⟨x, -, h⟩ := Finset.mem_map.mp h₂
  have e : Kd.own x.2 = Kd.bar := loc_inj (congrArg Prod.snd h)
  exact absurd e (by simp)

theorem cell_mem (c : Dev nD) : ∀ k : Kd, cell c k ∈ barCells ∪ ownCells
  | .bar => Finset.mem_union_left _ (Finset.mem_map_of_mem barEmb (Finset.mem_univ c))
  | .own k => Finset.mem_union_right _ (Finset.mem_map_of_mem ownEmb (Finset.mem_univ (c, k)))

theorem records_of (κ : GSem nD τ sig → ℕ) (SA : Slots F) :
    bigSep (barCells ∪ ownCells) (fun g => (cellInv ER (Rd SA) (κ g) g : sProp 𝕄)) ⊢ records κ SA := by
  unfold records
  refine BI.bigSep_intro_persistent fun x _ => ?_
  exact ent (bigSep_elim (Φ := fun g : GSem nD τ sig => (cellInv ER (Rd SA) (κ g) g : sProp 𝕄)) (cell_mem x.1 x.2))

/-- Every barrier at zero and the launch's element make, on all devices at once, the invariants and each device's tokens
    and positions. -/
theorem fund (SA : Slots F) : iprop((bigSep Finset.univ fun c : Dev nD => semVal (cell c .bar) 0) ∗ BI.own (ER (launchOf barCells ownCells toks)))
    ⊢ (|={Set.univ}=> iprop(∃ κ, (records κ SA ∗ bigSep (Finset.univ : Finset (Dev nD)) fun d => reached ER (cell d .bar) 0)
        ∗ (bigSep Finset.univ fun c : Dev nD => atPos ER (cell c .bar) 0 ∅ 0)
        ∗ (bigSep Finset.univ fun c : Dev nD => bigSep (Finset.univ : Finset Ks) fun k => openTok ER (cell c (.own k)))
        ∗ bigSep Finset.univ fun c : Dev nD => tokRes c) : sProp 𝕄) := by
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (cell c .bar) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep (Finset.univ : Finset Ks) fun k => openTok ER (cell c (.own k))) :=
    Entails.of_eq (by rw [bigSep_map, bigSep_univ_prod]; rfl)
  iintro ⟨Hv, Hu⟩
  imod (Rounds.fund_launch ER (Rd SA) cells_disj (fun g _ h => h) toks) $$ [Hv Hu] with ⟨%κ, -, #Hinv, #Hr, Hat, Hopen, Htok⟩
  · isplitl [Hv]
    · iapply hv $$ Hv
    · iexact Hu
  imodintro
  iexists κ
  isplitr
  · isplitr; · iapply (records_of κ SA); iexact Hinv
    iapply hr; iexact Hr
  isplitl [Hat]; · iapply hat $$ Hat
  isplitl [Hopen]; · iapply hopen $$ Hopen
  iapply (Entails.of_eq (toks_out (F := F))) $$ Htok

end Cert.Proof.KV
-- ==== Proof.Run.lean ====
/-
  The run of the program on all devices, over any float values: it ends, the arguments unchanged, the result on every device what
  the exchange computes, and every semaphore at zero.
-/
module

public import proofs.«01_k».proof.Proof.Fund
public import Idealize.ShloMosaic.Lib.StableHlo.ReadAt
public import Idealize.ShloMosaic.Harness.Basic

@[expose] public section

set_option synthInstance.maxSize 4096

noncomputable section

namespace Cert.Proof.KV

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Smoke (bigSep_unpair bigSep_pair)
open Idealize.ShloMosaic.SiteBlocks (L lv)
open Idealize.ShloMosaic.TalkSites (Pay addL tallyL)
open Cert.KernelIdeal Cert.KernelIdeal.Gen

variable {F : FTy → Type} [FloatOps F]

local notation "𝕄" => MT nD τ sig ℕ (Elt F) ℕ UU ℕ

section

variable (m : (ℓ : Loc nD τ sig) → Buf (Elt F) ℓ)

/-- The table the host program computes for a device. -/
theorem tbl_host (c : Dev nD) : V3 m c (Proc.devRef .tc main_v41) = tbl (F := F) c 0 := by
  unfold V3 V2 V1
  after_reads_simp
  funext i
  have h : ∀ c : Dev nD, IntOp.muli (IntOp.addi (IntOp.muli (IntOp.remui .host (IntOp.divui .host (Dev.word c) 2#32) 2#32) 2#32) (IntOp.remui .host (IntOp.divui .host (Dev.word c) 1#32) 2#32)) 8#32 = BitVec.ofNat 32 (c.val % 4 * 8) := by decide +kernel
  exact h c

/-- A device's buffers at the end. -/
abbrev VN (c : Dev nD) : Valuation τ sig (Elt F) := VE (V3 m) c

abbrev Tst (c : Dev nD) : sProp 𝕄 := iprop(StableHlo.held (c : Thread nD τ) (Pipeline.ucRefs τ sig) (V0 m c) ∗ rest (V3 m) c)
abbrev Tend (c : Dev nD) : sProp 𝕄 := iprop(StableHlo.held (c.tc : Thread nD τ) (Pipeline.ucRefs τ sig) (VN m c) ∗ Y c)

/-- The program's items: the host stretches, then the region. -/
def items (c : Dev nD) : List (Pipeline.PerCore.Seg (pcfgs (F := F)) adm (pdats (V3 m)) 0 (defs₀ (F := F)) 𝒱₀ (L 6) lv) :=
  [.host (seg0 m 𝒱₀ (L 6) lv (fun _ => rest (V3 m)) c), .host (seg1 m 𝒱₀ (L 6) lv (fun _ => rest (V3 m))), .host (seg2 m 𝒱₀ (L 6) lv (fun _ => rest (V3 m))),
    .region (region (V3 m) (tbl_host m))]

/-- The launch's element. -/
def u₀ : UU :=
  (initOf (Pipeline.PerCore.cells (Pipeline.pinD (pcfgs (F := F)) adm) phinj) (Pipeline.PerCore.launchToks (Pipeline.pinD (pcfgs (F := F)) adm) phinj),
    launchOf barCells ownCells toks)

/-- A resource on device 0 only. -/
def on0 (P : sProp 𝕄) (c : Dev nD) : sProp 𝕄 := if c = 0 then P else iprop(emp)

theorem bigSep_on0 (P : sProp 𝕄) : bigSep Finset.univ (on0 P) = P := by
  rw [bigSep_univ_at _ (0 : Dev nD), bigSep_congr (s := Finset.univ.erase (0 : Dev nD)) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp

def G : Dev nD → sProp 𝕄 := on0 (BI.own (ER (launchOf barCells ownCells toks)))

theorem sems0_eq (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]

/-- A device's part, gathered. -/
theorem rest_intro (V : Dev nD → Valuation τ sig (Elt F)) (κ : GSem nD τ sig → ℕ) (c : Dev nD) :
    iprop(known V κ ∗ (owes (c : Thread nD τ) (owe c 14) ∅ ∗ credRes c ∗ atPos ER (cell c .bar) 0 ∅ 0
        ∗ (bigSep (Finset.univ : Finset Ks) fun k => openTok ER (cell c (.own k))) ∗ tokRes c)) ⊢ (rest V c : sProp 𝕄) := by
  unfold rest ow
  iintro ⟨#Hk, HO, HC, Hb, Ho, Ht⟩
  isplitr [HO]
  · iexists κ
    isplitr; · iexact Hk
    isplitr [Ho]
    · iapply (part_intro c)
      isplitl [Ht]; · iexact Ht
      isplitl [Hb]; · iexact Hb
      iexact HC
    iexact Ho
  iexists ∅
  iexact HO

/-- What the launch gives makes every device's part at once. -/
theorem start (V : Dev nD → Valuation τ sig (Elt F)) (ρ : Dev nD → PrngReg) :
    iprop((bigSep Finset.univ fun c : Dev nD => iprop(unscopedSems0 c ∗ owes (c : Thread nD τ) (owe c 14) ∅ ∗ Pipeline.launchCred (fun d => owe d 14) c ∗ prngReg c (ρ c) ∗ G c)))
      ⊢ (|={Set.univ}=> bigSep Finset.univ (rest V) : sProp 𝕄) := by
  have hcore (c : Dev nD) : iprop(unscopedSems0 c ∗ owes (c : Thread nD τ) (owe c 14) ∅ ∗ Pipeline.launchCred (fun d => owe d 14) c ∗ prngReg c (ρ c) ∗ G c)
      ⊢ (iprop((owes (c : Thread nD τ) (owe c 14) ∅ ∗ credRes c) ∗ (semVal (cell c .bar) 0 ∗ G c)) : sProp 𝕄) := by
    rw [sems0_eq]
    iintro ⟨Hus, HO, Hcr, Hp, HG⟩
    isplitl [HO Hcr]
    · isplitl [HO]; · iexact HO
      iapply (creds c) $$ Hcr
    isplitl [Hus] <;> iassumption
  iintro H
  ihave H' := (show (bigSep Finset.univ fun c : Dev nD => iprop(unscopedSems0 c ∗ owes (c : Thread nD τ) (owe c 14) ∅ ∗ Pipeline.launchCred (fun d => owe d 14) c ∗ prngReg c (ρ c) ∗ G c))
      ⊢ (bigSep Finset.univ fun c : Dev nD => iprop((owes (c : Thread nD τ) (owe c 14) ∅ ∗ credRes c) ∗ (semVal (cell c .bar) 0 ∗ G c)) : sProp 𝕄) from bigSep_mono fun c _ => hcore c) $$ H
  ihave H2 := bigSep_unpair $$ H'; icases H2 with ⟨HB, H3⟩
  ihave H5 := bigSep_unpair $$ HB; icases H5 with ⟨HO, HC⟩
  ihave H4 := bigSep_unpair $$ H3; icases H4 with ⟨Hv, HG⟩
  ihave Hu := (show bigSep Finset.univ (G (F := F)) ⊢ BI.own (ER (launchOf barCells ownCells toks)) from
    Entails.of_eq (bigSep_on0 (F := F) (BI.own (ER (launchOf barCells ownCells toks))))) $$ HG
  imod (fund (SA V)) $$ [Hv Hu] with ⟨%κ, #Hk, Hat, Hopen, Htok⟩
  · isplitl [Hv]; · iexact Hv
    iexact Hu
  imodintro
  iapply (bigSep_with_persistent (R := known V κ) (Φ := fun c : Dev nD => iprop(owes (c : Thread nD τ) (owe c 14) ∅ ∗ credRes c ∗ atPos ER (cell c .bar) 0 ∅ 0
        ∗ (bigSep (Finset.univ : Finset Ks) fun k => openTok ER (cell c (.own k))) ∗ tokRes c)) fun c _ => rest_intro V κ c)
  isplitr
  · unfold known; iexact Hk
  iapply bigSep_pair; isplitl [HO]; · iexact HO
  iapply bigSep_pair; isplitl [HC]; · iexact HC
  iapply bigSep_pair; isplitl [Hat]; · iexact Hat
  iapply bigSep_pair; isplitl [Hopen]; · iexact Hopen
  iexact Htok

theorem init (ρ : Dev nD → PrngReg) :
    iprop((bigSep Finset.univ fun c : Dev nD => iprop(unscopedBufs c (fun b => m ((c.tc : Thread nD τ).loc b)) ∗ unscopedSems0 c
          ∗ owes (c : Thread nD τ) (owe c 14) ∅ ∗ Pipeline.launchCred (fun d => owe d 14) c ∗ prngReg c (ρ c) ∗ G c)) ∗ levAts (L 6) lv)
      ⊢ (|={Set.univ}=> bigSep Finset.univ (Tst m) : sProp 𝕄) := by
  have hsplit : (bigSep Finset.univ fun c : Dev nD => iprop(unscopedBufs c (fun b => m ((c.tc : Thread nD τ).loc b)) ∗ unscopedSems0 c
          ∗ owes (c : Thread nD τ) (owe c 14) ∅ ∗ Pipeline.launchCred (fun d => owe d 14) c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (owe c 14) ∅ ∗ Pipeline.launchCred (fun d => owe d 14) c ∗ prngReg c (ρ c) ∗ G c)) : sProp 𝕄) := by
    rw [← bigSep_sep']
    exact bigSep_mono fun c _ => by rw [← Pipeline.unscopedBufs_held (Ix := ℕ) (Name := ℕ) (U := UU) (Lvl := ℕ) c (V0 m c)]; exact BI.Entails.refl _
  iintro ⟨H, -⟩
  ihave H' := hsplit $$ H
  icases H' with ⟨Hh, Hr⟩
  imod (start (V3 m) ρ) $$ Hr with HE
  imodintro
  iapply bigSep_pair
  isplitl [Hh]; · iexact Hh
  iexact HE

theorem unscoped_bar : ∀ sm : SemLoc sig, sm.isScoped .tc = false → sm = .reg barS := by decide

/-- What a device's memory holds at the end. -/
def Ends (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
    ∧ s.mem ((c.tc : Thread nD τ).loc main_v42) = out (V3 m) c)
  ∧ s.sem (cell c .bar) = 0

theorem VN_arg (c : Dev nD) (r : Ref sig .tc) (h0 : r ∉ ([main_v42] : List (Ref sig .tc))) (h3 : r ∉ hostOps0_2_W) (h2 : r ∉ hostOps0_1_W) (h1 : r ∉ hostOps0_W) :
    VN m c (Proc.devRef .tc r) = m ((c.tc : Thread nD τ).loc r) :=
  (VE_of (V3 m) c (Proc.devRef .tc r) (StableHlo.devRef_ne_of_ne (List.ne_of_not_mem_cons h0))).trans <|
    (V3_of m c r h3).trans <| (V2_of m c r h2).trans <| (V1_of m c r h1).trans rfl

theorem VN_out (c : Dev nD) : VN m c (Proc.devRef .tc main_v42) = out (V3 m) c := by
  unfold VN VE
  exact Function.update_self (Proc.devRef .tc main_v42) (out (V3 m) c) (V3 m c)

theorem fin_read (c : Dev nD) (s' : Phys nD τ sig (Elt F)) : iprop(Tend m c ∗ SI s') ⊢ (|={Set.univ}=> iprop(⌜Ends m c s'.mem⌝ ∗ SI s') : sProp 𝕄) := by
  unfold Tend StableHlo.held Y
  iintro ⟨⟨Hh, Hb⟩, HSI⟩
  ihave Hr := (pointsTo_read_all (Pipeline.ucRefs τ sig) (fun b => ((c.tc : Thread nD τ).1, b)) (VN m c) s') $$ [Hh HSI]
  · isplitl [Hh] <;> iassumption
  icases Hr with ⟨%h, HSI⟩
  icombine HSI Hb gives %hb
  imodintro
  isplitr
  · ipureintro
    have hh (r : Ref sig .tc) (hr : r.isScoped = false) := h (Proc.devRef .tc r) (Finset.mem_filter.mpr ⟨StableHlo.devRef_mem_tcRefs r, fun h' => Bool.false_ne_true (hr.symm.trans h')⟩)
    exact ⟨⟨⟨(hh main_arg0 rfl).trans (VN_arg m c main_arg0 (by decide) (by decide) (by decide) (by decide)),
      (hh main_arg1 rfl).trans (VN_arg m c main_arg1 (by decide) (by decide) (by decide) (by decide)),
      (hh main_arg2 rfl).trans (VN_arg m c main_arg2 (by decide) (by decide) (by decide) (by decide)),
      (hh main_arg3 rfl).trans (VN_arg m c main_arg3 (by decide) (by decide) (by decide) (by decide)),
      (hh main_arg4 rfl).trans (VN_arg m c main_arg4 (by decide) (by decide) (by decide) (by decide))⟩,
      (hh main_v42 rfl).trans (VN_out m c)⟩, by simpa using hb⟩
  iexact HSI

set_option backward.isDefEq.respectTransparency.types false in
/-- The run. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.PerCore.θ_run_regions_kit_sems (pcfgs (F := F)) adm (pdats (V3 m)) 0 phinj EP (defs₀ (F := F)) 𝒱₀ (L 6) lv m ρ main (items m)
    (fun c Q => by
      rewrite [main_chain c, Pipeline.PerCore.Seg.run_eq_chain,
        show (items m c).map Pipeline.PerCore.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := fun c => owe c 14) (hL := SiteBlocks.hL 6) (G := G) (u₀ := u₀ (F := F))
    (hu₀ := by
      unfold u₀ G
      iintro Hu
      ihave H := (ownU_pair _ _) $$ Hu
      icases H with ⟨HP, HX⟩
      imodintro
      isplitl [HP]; · iexact HP
      rw [bigSep_on0]; iexact HX)
    (T₀ := Tst m) (Tₙ := Tend m)
    (hch := fun c => ⟨.rfl, .rfl, .rfl, .rfl, by
      show postR (V3 m) c ⊢ _
      unfold postR
      iintro ⟨Hh, Hy, HO⟩
      isplitr [HO]
      · isplitl [Hh] <;> iassumption
      iexact HO⟩)
    (hinit := init m ρ) (QY := fun c s => Ends m c s) (hfin := fun c s' => fin_read m c s')
    (hQ := fun s h hs => ⟨h, sem_eq_zero hs fun c sm hsm => by
      obtain rfl := unscoped_bar sm hsm
      exact (h c).2⟩)

end

end Cert.Proof.KV
-- ==== Proof.Same.lean ====
/-
  The kernel and its idealization have one text.
-/
module

public import proofs.«01_k».proof.Proof.Gen.Kernel.Launch
public import proofs.«01_k».proof.Proof.Gen.KernelIdeal.Launch

@[expose] public section

noncomputable section

namespace Cert.Proof.KV

open Idealize.ShloMosaic Idealize.ShloMosaic.TcCoe Idealize.SL.Sem

variable {F : FTy → Type} [FloatOps F]

open Cert.Kernel in
/-- The body reads the same in both programs. -/
theorem body_e (i : grid0.Coords) (arg1 : Memref sig .tc .smem S1 .i32) (harg1 : arg1.IsWhole) (arg2 : Memref sig .tc .vmem S16x32x128 .f32) (harg2 : arg2.IsWhole) (arg3 : Memref sig .tc .vmem S8x32x16x128 .f32) (harg3 : arg3.IsWhole) (arg4 : Memref sig .tc .vmem S8x32x16x128 .f32) (harg4 : arg4.IsWhole) (arg5 : Memref sig .tc .vmem S32x256 .f32) (harg5 : arg5.IsWhole) (arg6 : Memref sig .tc .vmem S32x1x16x128 .f32) (harg6 : arg6.IsWhole) (arg7 : Memref sig .tc .vmem S16x32x128 .f32) (harg7 : arg7.IsWhole) (arg8 : Memref sig .tc .vmem S2x16x32 .f32) (harg8 : arg8.IsWhole) (arg9 : Memref sig .tc .vmem S4x16x32x128 .bf16) (harg9 : arg9.IsWhole) (arg10 : Memref sig .tc .vmem S4x2x16x32 .f32) (harg10 : arg10.IsWhole) (arg11 : Memref sig .tc .vmem S4x16x32x128 .bf16) (harg11 : arg11.IsWhole) (arg12 : Memref sig .tc .vmem S4x2x16x32 .f32) (harg12 : arg12.IsWhole) (arg13 : DmaSems sig S4) (arg14 : DmaSems sig S4) (arg15 : DmaSems sig S4) (arg16 : DmaSems sig S4) (v452_r0 : Sems sig S_) :
    Cert.Kernel.cc0_body (F := F) i arg1 harg1 arg2 harg2 arg3 harg3 arg4 harg4 arg5 harg5 arg6 harg6 arg7 harg7 arg8 harg8 arg9 harg9 arg10 harg10 arg11 harg11 arg12 harg12 arg13 arg14 arg15 arg16 v452_r0 = Cert.KernelIdeal.cc0_body (F := F) i arg1 harg1 arg2 harg2 arg3 harg3 arg4 harg4 arg5 harg5 arg6 harg6 arg7 harg7 arg8 harg8 arg9 harg9 arg10 harg10 arg11 harg11 arg12 harg12 arg13 arg14 arg15 arg16 v452_r0 := rfl

/-- So does the table of the bodies. -/
theorem defs0_e : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => exact body_e ..
  | ⟨n + 1, h⟩, _ => exact absurd h (Nat.not_lt.2 (Nat.le_add_left _ _))

theorem defs_e : Cert.Kernel.defs (F := F) = Cert.KernelIdeal.defs (F := F) :=
  congrArg (Pipeline.defs Cert.KernelIdeal.pcfgs) defs0_e

/-- And the program of the host. -/
theorem main_at (c : Dev 8) : Cert.Kernel.main (F := F) c = Cert.KernelIdeal.main (F := F) c := by
  rw [Cert.Kernel.Gen.main_chain, Cert.KernelIdeal.Gen.main_chain]
  rfl

set_option maxHeartbeats 2000000 in
@[inherit_doc main_at] theorem main_e : Cert.Kernel.main (F := F) = Cert.KernelIdeal.main (F := F) := funext main_at

end Cert.Proof.KV

end
-- ==== Proof.Frames.lean ====
/-
  The frames of the kernel, of its idealization and of the reference, and the step between the kernel and its idealization.
-/
module

public import proofs.«01_k».proof.Defs
public import proofs.«01_k».proof.Proof.Run
public import proofs.«01_k».proof.Proof.Same
public import proofs.«01_k».proof.Proof.Gen.Kernel
public import proofs.«01_k».proof.Proof.Gen.ReferenceIdeal.Run

@[expose] public section

noncomputable section

namespace Cert.Proof.KV

open Idealize.ShloMosaic Idealize.ShloMosaic.TcCoe Idealize.SL.Sem

/-- The idealized kernel ends on every memory, its arguments unchanged and every counter at zero. -/
theorem frame_ideal : Cert.quiescent_KernelIdeal := fun m ρ _ =>
  (θ_run Cert.KernelIdeal.defs _ _).mono (fun _ h => ⟨fun c => (h.1 c).1.1, h.2⟩) (run_main (F := Ideal) m ρ)

/-- So does the kernel: its text is the idealized kernel's, whose run is proved over any float values. -/
theorem frame_kernel : Cert.quiescent_Kernel := by
  intro m ρ _
  rw [main_e, defs_e]
  exact (θ_run Cert.KernelIdeal.defs _ _).mono (fun _ h => ⟨fun c => (h.1 c).1.1, h.2⟩) (run_main (F := Bits) m ρ)

/-- The reference ends on every memory, its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The idealization rewrote nothing. -/
theorem kept : Cert.preserves_Kernel_KernelIdeal := trivial

end Cert.Proof.KV

end
-- ==== Proof.Host.lean ====
/-
  What the host hands the kernel on each device: the queries by head, and how often each row's table names each of the device's
  pages.
-/
module

public import proofs.«01_k».proof.Proof.Data
public import Idealize.ShloMosaic.Lib.StableHlo.ReadAt
public import Idealize.ShloMosaic.Lib.Pointwise
public import Idealize.ShloMosaic.Lib.StableHlo.Predicate

@[expose] public section

set_option synthInstance.maxSize 4096

noncomputable section

namespace Cert.Proof.KV

open Idealize.ShloMosaic Idealize.ShloMosaic.TcCoe
open Cert.KernelIdeal Cert.KernelIdeal.Gen

variable (m : (ℓ : Loc nD τ sig) → Buf (Elt Ideal) ℓ)

/-- The table with −1 at the slots past a row's length. -/
def kTab (bt : IVec S32x256 32) (lens : IVec S32 32) : IVec S32x256 32 :=
  select (cmpi .slt (broadcastInDim S32x256 ![0, 1] bcast_S1x256_S32x256_0_1 (broadcastInDim S1x256 ![1] bcast_S256_S1x256_1 (iotaInDim S256 32 0)))
      (broadcastInDim S32x256 ![0, 1] bcast_S32x1_S32x256_0_1 (broadcastInDim S32x1 ![0] bcast_S32_S32x1_0 lens)))
    bt (broadcastInDim S32x256 ![] bcast_S_S32x256 (id (constantI S_ 32 4294967295#32)))

/-- A device's coordinate along `x`, and its number among the devices that share it, as the host computes them. -/
def kX (c : Dev nD) : IVec S_ 32 :=
  id (Host.remui (Host.divui (constantI S_ 32 (Dev.word c)) (constantI S_ 32 4#32)) (constantI S_ 32 2#32))
@[inherit_doc kX] def kYZ (c : Dev nD) : IVec S_ 32 :=
  addi (muli (id (Host.remui (Host.divui (constantI S_ 32 (Dev.word c)) (constantI S_ 32 2#32)) (constantI S_ 32 2#32))) (constantI S_ 32 2#32))
      (id (Host.remui (Host.divui (constantI S_ 32 (Dev.word c)) (constantI S_ 32 1#32)) (constantI S_ 32 2#32)))

/-- The number of a device's first page, as the host computes it. -/
def kBase (c : Dev nD) : IVec S_ 32 :=
  addi (muli (kX c) (constantI S_ 32 256#32)) (muli (kYZ c) (constantI S_ 32 64#32))

/-- How often a row's table names each of 64 pages from `base` on. -/
def kCnt (tab : IVec S32x256 32) (base : IVec S_ 32) : IVec S32x64 32 :=
  Host.reduce IntOp.addi (extui 32 (cmpi .eq
      (broadcastInDim S32x256x64 ![0, 1, 2] bcast_S32x256x1_S32x256x64_0_1_2 (broadcastInDim S32x256x1 ![0, 1] bcast_S32x256_S32x256x1_0_1 tab))
      (broadcastInDim S32x256x64 ![0, 1, 2] bcast_S1x1x64_S32x256x64_0_1_2 (broadcastInDim S1x1x64 ![2] bcast_S64_S1x1x64_2
        (addi (broadcastInDim S64 ![] bcast_S_S64 base) (iotaInDim S64 32 0))))) natLt_1_32)
    (constantI S_ 32 0#32) reducesTo_S32x256x64_S32x64_d1 h_S_

/-- The counts per token, as real numbers. -/
def kWk (cnt : IVec S32x64 32) : FVec Ideal S32x2048 .f32 :=
  sitofp .f32 (shapeCast S32x2048 (broadcastInDim S32x64x32 ![0, 1] bcast_S32x64_S32x64x32_0_1 cnt) shapeCasts_S32x64x32_S32x2048)

/-- The queries, the heads first. -/
theorem qT_at (Q : FVec Ideal S32x1x16x128 .f32) (h : Fin 16) (b : Fin 32) (d : Fin 128) :
    transpose S16x32x128 [1, 0, 2] (shapeCast S32x16x128 Q shapeCasts_S32x1x16x128_S32x16x128)
      transposes_S32x16x128_S16x32x128_1_0_2 (ix3 h b d) = Q (ix4 b (0 : Fin 1) h d) := by
  pointwise []

theorem q_host (c : Dev nD) (h : Fin 16) (b : Fin 32) (d : Fin 128) :
    V3 m c (Proc.devRef .tc main_v39) (ix3 h b d) = m ((c.tc : Thread nD τ).loc main_arg0) (ix4 b (0 : Fin 1) h d) := by
  have e : V3 m c (Proc.devRef .tc main_v39) = transpose S16x32x128 [1, 0, 2]
      (shapeCast S32x16x128 (m ((c.tc : Thread nD τ).loc main_arg0)) shapeCasts_S32x1x16x128_S32x16x128)
      transposes_S32x16x128_S16x32x128_1_0_2 := by
    unfold V3 V2 V1
    after_reads_simp
    rfl
  rw [e]
  exact qT_at _ h b d

theorem x_host (c : Dev nD) : V2 m c (Proc.devRef .tc main_v4) = kX c := by
  rw [V2_of m c main_v4 (by decide)]
  unfold V1
  after_reads_simp
  rfl

theorem yz_host (c : Dev nD) : V2 m c (Proc.devRef .tc main_v14) = kYZ c := by
  rw [V2_of m c main_v14 (by decide)]
  unfold V1
  after_reads_simp
  rfl

theorem lt_host (c : Dev nD) : V1 m c (Proc.devRef .tc main_v20) =
    cmpi .slt (broadcastInDim S32x256 ![0, 1] bcast_S1x256_S32x256_0_1 (broadcastInDim S1x256 ![1] bcast_S256_S1x256_1 (iotaInDim S256 32 0)))
      (broadcastInDim S32x256 ![0, 1] bcast_S32x1_S32x256_0_1 (broadcastInDim S32x1 ![0] bcast_S32_S32x1_0 (m ((c.tc : Thread nD τ).loc main_arg4)))) := by
  unfold V1
  after_reads_simp

theorem c6_host (c : Dev nD) : V1 m c (Proc.devRef .tc main_c_6) = constantI S_ 32 4294967295#32 := by
  unfold V1
  after_reads_simp

/-- The masked table from the comparison, the table and the constant. -/
theorem tab_after (W : Valuation τ sig (Elt Ideal)) :
    StableHlo.after hostOps0_1 W (Proc.devRef .tc main_v21) =
      (select (W (Proc.devRef .tc main_v20) : IVec S32x256 1) (W (Proc.devRef .tc main_arg3) : IVec S32x256 32)
        (broadcastInDim S32x256 ![] bcast_S_S32x256 (id (W (Proc.devRef .tc main_c_6) : IVec S_ 32))) : IVec S32x256 32) := by
  after_reads_simp
  rfl

theorem tab_host (c : Dev nD) : V2 m c (Proc.devRef .tc main_v21) = kTab (m ((c.tc : Thread nD τ).loc main_arg3)) (m ((c.tc : Thread nD τ).loc main_arg4)) := by
  have h3 : V1 m c (Proc.devRef .tc main_arg3) = m ((c.tc : Thread nD τ).loc main_arg3) := (V1_of m c main_arg3 (by decide)).trans rfl
  refine (tab_after (V1 m c)).trans ?_
  rw [lt_host, c6_host, h3]
  rfl

/-- The weights from the masked table and the device's coordinates. -/
theorem w_after (W : Valuation τ sig (Elt Ideal)) :
    StableHlo.after hostOps0_2 W (Proc.devRef .tc main_v37) =
      kWk (kCnt (W (Proc.devRef .tc main_v21) : IVec S32x256 32) (addi (muli (W (Proc.devRef .tc main_v4) : IVec S_ 32) (constantI S_ 32 256#32))
        (muli (W (Proc.devRef .tc main_v14) : IVec S_ 32) (constantI S_ 32 64#32)))) := by
  unfold kWk kCnt
  after_reads_simp
  rfl

theorem w_host (c : Dev nD) :
    V3 m c (Proc.devRef .tc main_v37) = kWk (kCnt (kTab (m ((c.tc : Thread nD τ).loc main_arg3)) (m ((c.tc : Thread nD τ).loc main_arg4))) (kBase c)) := by
  refine (w_after (V2 m c)).trans ?_
  rw [tab_host, x_host, yz_host]
  rfl

theorem kBase_at (c : Dev nD) : kBase c ix0 = BitVec.ofNat 32 (64 * c.val) := by
  unfold kBase kX kYZ
  revert c
  decide +kernel

/-- The page of 64 from a device's first on, as a word, in the masked table: the slot is in use and names it. -/
theorem kTab_at (bt : IVec S32x256 32) (lens : IVec S32 32) (b : Fin 32) (j : Fin 256) :
    kTab bt lens (ix2 b j) = if IntOp.cmpi .slt (BitVec.ofNat 32 j.val) (lens (ix1 b)) = 1#1 then bt (ix2 b j) else 4294967295#32 := by
  pointwise [kTab]
  rfl

/-- The count is the number of slots that name the page. -/
theorem kCnt_at (tab : IVec S32x256 32) (base : IVec S_ 32) (b : Fin 32) (l : Fin 64) :
    (kCnt tab base (ix2 b l)).toInt = ((Finset.univ.filter fun j : Fin 256 => tab (ix2 b j) = base ix0 + BitVec.ofNat 32 l.val).card : Int) := by
  have hb (x : Fin 256) : (BitVec.setWidth 32 (IntOp.cmpi .eq (tab (ix2 b x)) (IntOp.addi (base ix0) (BitVec.ofNat 32 l.val)))).toNat
      = if tab (ix2 b x) = base ix0 + BitVec.ofNat 32 l.val then 1 else 0 := by
    by_cases e : tab (ix2 b x) = base ix0 + BitVec.ofNat 32 l.val
    · have h1 : IntOp.cmpi .eq (tab (ix2 b x)) (IntOp.addi (base ix0) (BitVec.ofNat 32 l.val)) = 1#1 := StableHlo.Predicate.cmpi_eq_iff.2 e
      rw [if_pos e, h1]; rfl
    · rw [if_neg e]
      have h0 : IntOp.cmpi .eq (tab (ix2 b x)) (IntOp.addi (base ix0) (BitVec.ofNat 32 l.val)) = 0#1 :=
        (BitVec.eq_zero_or_eq_one _).resolve_right fun h => e (StableHlo.Predicate.cmpi_eq_iff.1 h)
      rw [h0]; rfl
  have hs : ∑ x : Fin 256, (BitVec.setWidth 32 (IntOp.cmpi .eq (tab (ix2 b x)) (IntOp.addi (base ix0) (BitVec.ofNat 32 l.val)))).toNat
      = (Finset.univ.filter fun j : Fin 256 => tab (ix2 b j) = base ix0 + BitVec.ofNat 32 l.val).card := by
    rw [Finset.sum_congr rfl fun x _ => hb x, Finset.sum_boole]
    rfl
  have hle : (Finset.univ.filter fun j : Fin 256 => tab (ix2 b j) = base ix0 + BitVec.ofNat 32 l.val).card ≤ 256 :=
    (Finset.card_le_univ _).trans (by simp)
  have hn : (kCnt tab base (ix2 b l)).toNat = (Finset.univ.filter fun j : Fin 256 => tab (ix2 b j) = base ix0 + BitVec.ofNat 32 l.val).card := by
    rw [← hs]
    pointwise [kCnt]
    exact StableHlo.Predicate.toNat_fold_addi _ _ (by rw [hs]; omega)
  rw [BitVec.toInt_eq_toNat_of_lt (by rw [hn]; omega), hn]

/-- A token's weight is its page's count. -/
theorem kWk_at (cnt : IVec S32x64 32) (b : Fin 32) (x : Fin 2048) :
    kWk cnt (ix2 b x) = (((cnt (ix2 b ⟨x.val / 32, by have := x.isLt; omega⟩)).toInt : ℝ) : EReal) := by
  pointwise [kWk]
  rfl

end Cert.Proof.KV
-- ==== Proof.Blocks.lean ====
/-
  The blocks a device's grid points read, element by element, in the arrays the windows look into.
-/
module

public import proofs.«01_k».proof.Proof.Host

@[expose] public section

set_option synthInstance.maxSize 4096

noncomputable section

namespace Cert.Proof.KV

open Idealize.ShloMosaic Idealize.ShloMosaic.TcCoe
open Idealize.ShloMosaic.Pipeline
open Cert.KernelIdeal Cert.KernelIdeal.Gen

variable {F : FTy → Type} [FloatOps F] (V : Dev nD → Valuation τ sig (Elt F)) (c : Dev nD) (t : Fin grid0.N)

theorem t_lt : t.val < 8 := t.isLt
theorem coord_t : ((grid0.coords t) 0).val = t.val := by revert t; decide +kernel

/-- The queries' block is the whole array. -/
theorem qB_at (h : Fin 16) (b : Fin 32) (d : Fin 128) :
    qB V c t (ix3 h b d) = (V c (Proc.devRef .tc main_v39) : Vec F S16x32x128 .f32) (ix3 h b d) := by
  show (V c (Proc.devRef .tc main_v39) : Vec F S16x32x128 .f32) ((((cf (F := F) c).win 0).rect t).emb (ix3 h b d)) = _
  refine congrArg (V c (Proc.devRef .tc main_v39) : Vec F S16x32x128 .f32) (funext fun a => Fin.ext ?_)
  refine (Window.rect_emb_val ((cf (F := F) c).win 0) t (ix3 h b d) a).trans ?_
  match a with
  | ⟨0, _⟩ => exact Nat.zero_add _
  | ⟨1, _⟩ => exact Nat.zero_add _
  | ⟨2, _⟩ => exact Nat.zero_add _

/-- The page, in the device's half of the pool, that a grid point's block holds at place `i`. -/
def lp (i : Fin 8) : Fin 256 := ⟨(c.val % 4 * 8 + t.val) * 8 + i.val, by have := t_lt t; omega⟩

theorem kB_at (i : Fin 8) (k : Fin 32) (h : Fin 16) (d : Fin 128) :
    kB V c t (ix4 i k h d) = (V c (Proc.devRef .tc main_arg1) : Vec F S256x32x16x128 .f32) (ix4 (lp c t i) k h d) := by
  show (V c (Proc.devRef .tc main_arg1) : Vec F S256x32x16x128 .f32) ((((cf (F := F) c).win 1).rect t).emb (ix4 i k h d)) = _
  refine congrArg (V c (Proc.devRef .tc main_arg1) : Vec F S256x32x16x128 .f32) (funext fun a => Fin.ext ?_)
  refine (Window.rect_emb_val ((cf (F := F) c).win 1) t (ix4 i k h d) a).trans ?_
  have e : ((cf (F := F) c).win 1).index t = ![c.val % 4 * 8 + t.val, 0, 0, 0] := by
    rw [← coord_t t]; exact tr1 (F := F) c (grid0.coords t)
  rw [e]
  match a with
  | ⟨0, _⟩ => rfl
  | ⟨1, _⟩ => exact Nat.zero_add _
  | ⟨2, _⟩ => exact Nat.zero_add _
  | ⟨3, _⟩ => exact Nat.zero_add _

theorem vB_at (i : Fin 8) (k : Fin 32) (h : Fin 16) (d : Fin 128) :
    vB V c t (ix4 i k h d) = (V c (Proc.devRef .tc main_arg2) : Vec F S256x32x16x128 .f32) (ix4 (lp c t i) k h d) := by
  show (V c (Proc.devRef .tc main_arg2) : Vec F S256x32x16x128 .f32) ((((cf (F := F) c).win 2).rect t).emb (ix4 i k h d)) = _
  refine congrArg (V c (Proc.devRef .tc main_arg2) : Vec F S256x32x16x128 .f32) (funext fun a => Fin.ext ?_)
  refine (Window.rect_emb_val ((cf (F := F) c).win 2) t (ix4 i k h d) a).trans ?_
  have e : ((cf (F := F) c).win 2).index t = ![c.val % 4 * 8 + t.val, 0, 0, 0] := by
    rw [← coord_t t]; exact tr2 (F := F) c (grid0.coords t)
  rw [e]
  match a with
  | ⟨0, _⟩ => rfl
  | ⟨1, _⟩ => exact Nat.zero_add _
  | ⟨2, _⟩ => exact Nat.zero_add _
  | ⟨3, _⟩ => exact Nat.zero_add _

theorem wB_at (b : Fin 32) (x : Fin 256) :
    wB V c t (ix2 b x) = (V c (Proc.devRef .tc main_v37) : Vec F S32x2048 .f32) (ix2 b ⟨t.val * 256 + x.val, by have := t_lt t; have := x.isLt; omega⟩) := by
  show (V c (Proc.devRef .tc main_v37) : Vec F S32x2048 .f32) ((((cf (F := F) c).win 3).rect t).emb (ix2 b x)) = _
  refine congrArg (V c (Proc.devRef .tc main_v37) : Vec F S32x2048 .f32) (funext fun a => Fin.ext ?_)
  refine (Window.rect_emb_val ((cf (F := F) c).win 3) t (ix2 b x) a).trans ?_
  have e : ((cf (F := F) c).win 3).index t = ![0, t.val] := by
    have h8 := t_lt t
    show ![0, (BitVec.ofNat 32 ((grid0.coords t) 0).val).toNat] = _
    rw [coord_t, BitVec.toNat_ofNat, Nat.mod_eq_of_lt (by omega)]
  rw [e]
  match a with
  | ⟨0, _⟩ => exact Nat.zero_add _
  | ⟨1, _⟩ => rfl

end Cert.Proof.KV
-- ==== Proof.Nums.lean ====
/-
  Facts on extended reals that are real numbers: their sums, their largest, and the constants the programs name; and a sum over
  a range of whole groups of 32 as a sum over the groups and within each.
-/
module

public import Idealize.ShloMosaic.Lib.Pointwise

@[expose] public section

noncomputable section

namespace Cert.Proof.KV

open Idealize.ShloMosaic

/-- A finite sum of real numbers, as extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real number that is not negative multiplies a finite sum of extended reals term by term. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top _), ih]

/-- The largest of a nonempty family of extended reals below ⊤ of which one is above ⊥ is a real number. -/
theorem fold_max_real {ι : Type} (s : Finset ι) (f : ι → EReal) (ht : ∀ i ∈ s, f i ≠ ⊤) (hb : ∃ i ∈ s, f i ≠ ⊥) :
    ∃ r : ℝ, Finset.fold max ⊥ f s = (r : EReal) := by
  classical
  have h1 : Finset.fold max ⊥ f s ≠ ⊤ := by
    intro e
    rcases Finset.le_fold_max (s := s) (f := f) (b := ⊥) ⊤ |>.1 (e ▸ le_refl _) with h | ⟨i, hi, h⟩
    · exact absurd (le_bot_iff.1 h) (by simp)
    · exact ht i hi (top_le_iff.1 h)
  have h2 : Finset.fold max ⊥ f s ≠ ⊥ := by
    obtain ⟨i, hi, h⟩ := hb
    intro e
    exact h (le_bot_iff.1 (e ▸ Finset.le_fold_max (s := s) (f := f) (b := ⊥) (f i) |>.2 (.inr ⟨i, hi, le_refl _⟩)))
  exact ⟨_, (EReal.coe_toReal h1 h2).symm⟩

/-- The constant below every score is a real number. -/
theorem neg_real : ∃ r : ℝ, Ideal.ofBits .f32 0xF149F2CA#32 = (r : EReal) := by
  exact ⟨_, by simp [Ideal.ofBits, Ideal.ieee]; rfl⟩
/-- The scores' scale is a real number. -/
theorem scale_real : ∃ r : ℝ, Ideal.ofBits .f32 0x3DB504F3#32 = (r : EReal) := by
  exact ⟨_, by simp [Ideal.ofBits, Ideal.ieee]; rfl⟩
theorem ninf_bot : Ideal.ofBits .f32 0xFF800000#32 = ⊥ := by simp [Ideal.ofBits, Ideal.ieee]
theorem inf_top : Ideal.ofBits .f32 0x7F800000#32 = ⊤ := by simp [Ideal.ofBits, Ideal.ieee]

/-- A sum over `n` groups of 32 is the sum over the groups of the sums within them. -/
theorem sum_groups {M : Type} [AddCommMonoid M] (n N : Nat) (hN : N = n * 32) (f : Fin n → Fin 32 → M) :
    ∑ x : Fin N, f ⟨x.val / 32, by have := x.isLt; omega⟩ ⟨x.val % 32, by omega⟩ = ∑ i : Fin n, ∑ t : Fin 32, f i t := by
  subst hN
  rw [← Fintype.sum_prod_type']
  exact Fintype.sum_equiv finProdFinEquiv.symm _ _ fun x => rfl

/-- A real number, as an extended real, less another. -/
theorem exp_sub (a b : ℝ) : Ideal.exp ((a : EReal) - (b : EReal)) = ((Real.exp (a - b) : ℝ) : EReal) := by
  rw [← EReal.coe_sub, Ideal.exp_coe]

/-- The quotient of real numbers. -/
theorem div_real (a b : ℝ) (hb : b ≠ 0) : Ideal.div (a : EReal) (b : EReal) = ((a / b : ℝ) : EReal) := by
  rw [Ideal.div_coe hb, ← EReal.coe_mul, mul_one_div]

end Cert.Proof.KV
-- ==== Proof.Good.lean ====
/-
  What a state of the online softmax holds over the extended reals when the scores are finite: a real maximum, and relative to it
  the weighted sum of the exponentials and of the exponentials times the values, over a set of pages. A step adds its eight
  pages, a merge unites two disjoint sets, travelling changes nothing, and the output is the quotient, free of the maximum.
-/
module

public import proofs.«01_k».proof.Proof.Flow
public import proofs.«01_k».proof.Proof.Nums

@[expose] public section

set_option synthInstance.maxSize 4096

noncomputable section

namespace Cert.Proof.KV

open Idealize.ShloMosaic Idealize.ShloMosaic.TcCoe
open Cert.KernelIdeal Cert.KernelIdeal.Gen

/-- Data of the attention: real scores per head, row, page and token; how often a row counts a page; and the values, which may be infinite. -/
structure Att where
  S : Fin 16 → Fin 32 → Fin 512 → Fin 32 → ℝ
  W : Fin 32 → Fin 512 → ℝ
  v : Fin 512 → Fin 32 → Fin 16 → Fin 128 → EReal
  pos : ∀ b p, 0 ≤ W b p

variable (A : Att)

/-- The weight of the pages `T` relative to `μ`. -/
def Att.Z (T : Finset (Fin 512)) (h : Fin 16) (b : Fin 32) (μ : ℝ) : ℝ :=
  ∑ p ∈ T, ∑ t : Fin 32, Real.exp (A.S h b p t - μ) * A.W b p
/-- The weighted values of the pages `T` relative to `μ`. -/
def Att.N (T : Finset (Fin 512)) (h : Fin 16) (b : Fin 32) (d : Fin 128) (μ : ℝ) : EReal :=
  ∑ p ∈ T, ∑ t : Fin 32, ((Real.exp (A.S h b p t - μ) * A.W b p : ℝ) : EReal) * A.v p t h d

theorem Att.Z_shift (T : Finset (Fin 512)) (h : Fin 16) (b : Fin 32) (μ ν : ℝ) :
    A.Z T h b μ * Real.exp (μ - ν) = A.Z T h b ν := by
  unfold Att.Z
  rw [Finset.sum_mul]
  refine Finset.sum_congr rfl fun p _ => ?_
  rw [Finset.sum_mul]
  refine Finset.sum_congr rfl fun t _ => ?_
  rw [mul_right_comm, ← Real.exp_add]
  congr 2; ring

theorem Att.N_shift (T : Finset (Fin 512)) (h : Fin 16) (b : Fin 32) (d : Fin 128) (μ ν : ℝ) :
    A.N T h b d μ * ((Real.exp (μ - ν) : ℝ) : EReal) = A.N T h b d ν := by
  unfold Att.N
  rw [sum_mul_real _ _ _ (Real.exp_pos _).le]
  refine Finset.sum_congr rfl fun p _ => ?_
  rw [sum_mul_real _ _ _ (Real.exp_pos _).le]
  refine Finset.sum_congr rfl fun t _ => ?_
  rw [mul_right_comm, ← EReal.coe_mul, mul_right_comm _ (A.W b p), ← Real.exp_add]
  congr 4; ring

/-- The state holds the pages `T`. -/
def Good (T : Finset (Fin 512)) (s : St Ideal) : Prop :=
  ∀ (h : Fin 16) (b : Fin 32), ∃ μ : ℝ, s.m (ix2 h b) = (μ : EReal) ∧ s.l (ix2 h b) = (A.Z T h b μ : EReal)
    ∧ ∀ d : Fin 128, s.acc (ix3 h b d) = A.N T h b d μ

/-- The first state holds no page. -/
theorem good_init : Good A ∅ (initSt (F := Ideal)) := by
  intro h b
  obtain ⟨r, hr⟩ := neg_real
  refine ⟨r, ?_, ?_, fun d => ?_⟩
  · unfold initSt; pointwise []; exact hr
  · unfold initSt Att.Z; pointwise []; simp
  · unfold initSt Att.N; pointwise []; simp

/-- A state that has travelled holds what it held. -/
theorem good_rt {T : Finset (Fin 512)} {s : St Ideal} (hs : Good A T s) : Good A T (rt s) := by
  intro h b
  obtain ⟨μ, h1, h2, h3⟩ := hs h b
  refine ⟨μ, h1, h2, fun d => ?_⟩
  rw [← h3 d]
  unfold rt; pointwise []

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- Two states over disjoint sets of pages, merged, hold both. -/
theorem good_merge {T T' : Finset (Fin 512)} (hd : Disjoint T T') {s s' : St Ideal} (hs : Good A T s) (hs' : Good A T' s') :
    Good A (T ∪ T') (mergeSt s s') := by
  intro h b
  obtain ⟨μ, h1, h2, h3⟩ := hs h b
  obtain ⟨ν, g1, g2, g3⟩ := hs' h b
  refine ⟨max μ ν, ?_, ?_, fun d => ?_⟩
  · unfold mergeSt; pointwise []; rw [h1, g1, coe_max]
  · unfold mergeSt; pointwise []
    rw [h1, g1, h2, g2, coe_max, exp_sub, exp_sub, ← EReal.coe_mul, ← EReal.coe_mul, ← EReal.coe_add, A.Z_shift, A.Z_shift]
    congr 1
    exact (Finset.sum_union hd).symm
  · unfold mergeSt; pointwise [spread]
    rw [h1, g1, h3, g3, coe_max, exp_sub, exp_sub, A.N_shift, A.N_shift]
    exact (Finset.sum_union hd).symm

/-- A step over eight pages: its queries, keys, values and counts are those of the data at the pages `p`. -/
structure StepOf (p : Fin 8 → Fin 512) (q : Vec Ideal S16x32x128 .f32) (k v : Vec Ideal S8x32x16x128 .f32)
    (w : Vec Ideal S32x256 .f32) : Prop where
  score : ∀ (h : Fin 16) (b : Fin 32) (i : Fin 8) (t : Fin 32),
    (∑ x : Fin 128, (q (ix3 h b x) : EReal) * k (ix4 i t h x)) * Ideal.ofBits .f32 0x3DB504F3#32 = (A.S h b (p i) t : EReal)
  val : ∀ (h : Fin 16) (i : Fin 8) (t : Fin 32) (d : Fin 128), v (ix4 i t h d) = A.v (p i) t h d
  cnt : ∀ (b : Fin 32) (x : Fin 256), w (ix2 b x) = (A.W b (p ⟨x.val / 32, by have := x.isLt; omega⟩) : EReal)

section Step

variable {p : Fin 8 → Fin 512} {q : Vec Ideal S16x32x128 .f32} {k v : Vec Ideal S8x32x16x128 .f32} {w : Vec Ideal S32x256 .f32}

/-- A step's new maximum is a real number. -/
theorem step_m (H : StepOf A p q k v w) (s : St Ideal) (h : Fin 16) (b : Fin 32) (μ : ℝ) (hμ : s.m (ix2 h b) = (μ : EReal)) :
    ∃ ν : ℝ, k0_pay59 (k0_pay55 q k) (k0_pay56 w) (up3 s.m) (ix2 h b) = (ν : EReal) := by
  obtain ⟨r, hr⟩ := neg_real
  pointwise [k0_pay59, k0_pay58, k0_pay57, k0_pay55, k0_pay56, k0_pay54]
  rw [ninf_bot, hμ, hr]
  obtain ⟨M, hM⟩ := fold_max_real (Finset.univ : Finset (Fin 256)) (fun x => if 0 < w (ix2 b x) then
      (∑ x_1, q (ix3 h b x_1) * k (ix4 ⟨x.val / 32, by have := x.isLt; omega⟩ ⟨x.val % 32, by omega⟩ h x_1)) * Ideal.ofBits FTy.f32 0x3DB504F3#32
        else (r : EReal)) (fun x _ => by
          split
          · rw [H.score]; exact EReal.coe_ne_top _
          · exact EReal.coe_ne_top _) ⟨0, Finset.mem_univ _, by
          split
          · rw [H.score]; exact EReal.coe_ne_bot _
          · exact EReal.coe_ne_bot _⟩
  exact ⟨max μ M, by rw [← coe_max]; exact congrArg _ hM⟩

/-- A token's weight in a step: a token that is not counted weighs nothing. -/
theorem step_w (H : StepOf A p q k v w) (h : Fin 16) (b : Fin 32) (ν : ℝ) (x : Fin 256) :
    Ideal.exp (Scalar.select (k0_pay56 w (ix2 b x)) (k0_pay55 q k (ix3 h b x)) (Ideal.ofBits FTy.f32 0xF149F2CA#32) - (ν : EReal)) * w (ix2 b x)
      = ((Real.exp (A.S h b (p ⟨x.val / 32, by have := x.isLt; omega⟩) ⟨x.val % 32, by omega⟩ - ν)
          * A.W b (p ⟨x.val / 32, by have := x.isLt; omega⟩) : ℝ) : EReal) := by
  obtain ⟨r, hr⟩ := neg_real
  pointwise [k0_pay55, k0_pay56, k0_pay54]
  rw [H.score h b ⟨x.val / 32, by have := x.isLt; omega⟩ ⟨x.val % 32, by omega⟩, hr]
  split
  · rw [exp_sub, H.cnt, ← EReal.coe_mul]
  · next hn =>
    have h0 : A.W b (p ⟨x.val / 32, by have := x.isLt; omega⟩) = 0 := by
      refine le_antisymm ?_ (A.pos _ _)
      rw [H.cnt] at hn
      exact not_lt.1 fun hlt => hn (by exact_mod_cast hlt)
    rw [exp_sub, H.cnt, h0, ← EReal.coe_mul, mul_zero, mul_zero]

/-- A step adds its eight pages. -/
theorem good_step (H : StepOf A p q k v w) (hp : Function.Injective p) {T : Finset (Fin 512)}
    (hd : Disjoint T (Finset.univ.image p)) {s : St Ideal} (hs : Good A T s) :
    Good A (T ∪ Finset.univ.image p) (stepSt q k v w s) := by
  intro h b
  obtain ⟨μ, h1, h2, h3⟩ := hs h b
  obtain ⟨ν, hν⟩ := step_m A H s h b μ h1
  refine ⟨ν, hν, ?_, fun d => ?_⟩
  · unfold stepSt
    pointwise [k0_pay62, k0_pay60, k0_pay61, k0_pay58, k0_pay57, k0_pay54]
    rw [hν, h1, h2, exp_sub, ← EReal.coe_mul, A.Z_shift, Finset.sum_congr rfl (fun x _ => step_w A H h b ν x), coe_sum, ← EReal.coe_add]
    congr 1
    rw [sum_groups 8 256 rfl (fun i t => Real.exp (A.S h b (p i) t - ν) * A.W b (p i))]
    unfold Att.Z
    rw [Finset.sum_union hd, Finset.sum_image (fun _ _ _ _ e => hp e)]
  · unfold stepSt
    pointwise [k0_pay63, k0_pay60, k0_pay61, k0_pay58, k0_pay57, k0_pay54, k0_pay53]
    rw [hν, h1, h3, exp_sub, A.N_shift, Finset.sum_congr rfl (fun x _ => by rw [step_w A H h b ν x, H.val])]
    rw [sum_groups 8 256 rfl (fun i t => ((Real.exp (A.S h b (p i) t - ν) * A.W b (p i) : ℝ) : EReal) * A.v (p i) t h d)]
    unfold Att.N
    rw [Finset.sum_union hd, Finset.sum_image (fun _ _ _ _ e => hp e)]

end Step

/-- The attention's value at a row, head and feature. -/
def Att.val (b : Fin 32) (h : Fin 16) (d : Fin 128) : EReal :=
  A.N Finset.univ h b d 0 * ((1 / A.Z Finset.univ h b 0 : ℝ) : EReal)

/-- The quotient does not depend on what the exponentials are taken relative to. -/
theorem Att.val_shift (b : Fin 32) (h : Fin 16) (d : Fin 128) (μ : ℝ) :
    A.N Finset.univ h b d μ * ((1 / A.Z Finset.univ h b μ : ℝ) : EReal) = A.val b h d := by
  unfold Att.val
  rw [← A.N_shift _ _ _ _ 0 μ, ← A.Z_shift _ _ _ 0 μ, mul_assoc, ← EReal.coe_mul, mul_one_div, div_mul_cancel_right₀ (Real.exp_ne_zero _), one_div]

/-- A row that counts a page has a positive weight. -/
theorem Att.Z_pos (b : Fin 32) (h : Fin 16) (μ : ℝ) (hb : ∃ p, 0 < A.W b p) : 0 < A.Z Finset.univ h b μ := by
  obtain ⟨p, hp⟩ := hb
  unfold Att.Z
  refine Finset.sum_pos' (fun p _ => Finset.sum_nonneg fun t _ => mul_nonneg (Real.exp_pos _).le (A.pos _ _))
    ⟨p, Finset.mem_univ _, Finset.sum_pos (fun t _ => mul_pos (Real.exp_pos _) hp) ⟨0, Finset.mem_univ _⟩⟩

/-- The output of a state that holds every page. -/
theorem good_fin {s : St Ideal} (hs : Good A Finset.univ s) (b : Fin 32) (h : Fin 16) (d : Fin 128) (hb : ∃ p, 0 < A.W b p) :
    fin s (ix4 b (0 : Fin 1) h d) = A.val b h d := by
  obtain ⟨μ, -, h2, h3⟩ := hs h b
  unfold fin
  pointwise [spread]
  rw [h2, h3, Ideal.div_coe (A.Z_pos b h μ hb).ne', A.val_shift]

end Cert.Proof.KV
-- ==== Proof.Pages.lean ====
/-
  Which pages each state covers: a device's grid points cover its 64 pages, eight each, and the three merges unite the devices'
  pages until the last state covers the whole pool.
-/
module

public import proofs.«01_k».proof.Proof.Blocks
public import proofs.«01_k».proof.Proof.Good

@[expose] public section

set_option synthInstance.maxSize 4096

noncomputable section

namespace Cert.Proof.KV

open Idealize.ShloMosaic Idealize.ShloMosaic.TcCoe
open Cert.KernelIdeal Cert.KernelIdeal.Gen

/-- The page, in the whole pool, that device `c` holds at place `i` of grid point `t`'s block. -/
def gp (c : Dev nD) (t : Fin grid0.N) (i : Fin 8) : Fin 512 :=
  ⟨64 * c.val + 8 * t.val + i.val, by have := t_lt t; have h : c.val < 8 := c.isLt; omega⟩

theorem gp_inj (c : Dev nD) (t : Fin grid0.N) : Function.Injective (gp c t) := fun i j h => by
  have := congrArg Fin.val h
  simp only [gp] at this
  exact Fin.ext (by omega)

/-- The pages from `a` up to `b`. -/
def rng (a b : ℕ) : Finset (Fin 512) := Finset.univ.filter fun p => a ≤ p.val ∧ p.val < b

theorem mem_rng {a b : ℕ} {p : Fin 512} : p ∈ rng a b ↔ a ≤ p.val ∧ p.val < b := by
  simp only [rng, Finset.mem_filter, Finset.mem_univ, true_and]

theorem mem_gp {c : Dev nD} {t : Fin grid0.N} {p : Fin 512} :
    p ∈ Finset.univ.image (gp c t) ↔ 64 * c.val + 8 * t.val ≤ p.val ∧ p.val < 64 * c.val + 8 * t.val + 8 := by
  rw [Finset.mem_image]
  constructor
  · rintro ⟨i, -, rfl⟩
    have := i.isLt
    simp only [gp]
    omega
  · rintro ⟨h1, h2⟩
    exact ⟨⟨p.val - (64 * c.val + 8 * t.val), by omega⟩, Finset.mem_univ _, Fin.ext (by simp only [gp]; omega)⟩

variable (A : Att) {V : Dev nD → Valuation τ sig (Elt Ideal)}

/-- One grid point extends the pages covered by its eight. -/
theorem good_stp (H : ∀ c t, StepOf A (gp c t) (qB V c t) (kB V c t) (vB V c t) (wB V c t)) (c : Dev nD) (t : Fin grid0.N)
    (a b : ℕ) (hab : a ≤ b) (hb : b = 64 * c.val + 8 * t.val) {s : St Ideal} (hs : Good A (rng a b) s) :
    Good A (rng a (b + 8)) (stp V c s t) := by
  subst hb
  have e : rng a (64 * c.val + 8 * t.val + 8) = rng a (64 * c.val + 8 * t.val) ∪ Finset.univ.image (gp c t) := by
    ext p
    rw [Finset.mem_union, mem_gp, mem_rng, mem_rng]
    omega
  rw [e]
  refine good_step A (H c t) (gp_inj c t) ?_ hs
  rw [Finset.disjoint_left]
  intro p h1 h2
  rw [mem_rng] at h1
  rw [mem_gp] at h2
  omega

theorem good_none (a : ℕ) : Good A (rng a a) (initSt (F := Ideal)) := by
  have e : rng a a = ∅ := by
    ext p
    rw [mem_rng]
    simp only [Finset.notMem_empty, iff_false]
    omega
  rw [e]
  exact good_init A

variable (H : ∀ c t, StepOf A (gp c t) (qB V c t) (kB V c t) (vB V c t) (wB V c t)) (c : Dev nD)
include H

theorem good_A : Good A (rng (64 * c.val) (64 * c.val + 32)) (sA V c 4) := by
  simp only [sA, List.take_succ_cons, List.take_zero, List.foldl_cons, List.foldl_nil]
  refine good_stp A H c t0_3 _ (64 * c.val + 24) (by omega) rfl ?_
  refine good_stp A H c t0_2 _ (64 * c.val + 16) (by omega) rfl ?_
  refine good_stp A H c t0_1 _ (64 * c.val + 8) (by omega) rfl ?_
  exact good_stp A H c t0_0 _ (64 * c.val) (by omega) rfl (good_none A _)

theorem good_B : Good A (rng (64 * c.val + 32) (64 * c.val + 64)) (sB V c 4) := by
  simp only [sB, List.take_succ_cons, List.take_zero, List.foldl_cons, List.foldl_nil]
  refine good_stp A H c t0_7 _ (64 * c.val + 56) (by omega) rfl ?_
  refine good_stp A H c t0_6 _ (64 * c.val + 48) (by omega) rfl ?_
  refine good_stp A H c t0_5 _ (64 * c.val + 40) (by omega) rfl ?_
  exact good_stp A H c t0_4 _ (64 * c.val + 32) (by omega) rfl (good_none A _)

omit H in
/-- A merge of states that cover disjoint sets of pages covers any set that is their union. -/
theorem good_join {T T' U : Finset (Fin 512)} {s s' : St Ideal} (hs : Good A T s) (hs' : Good A T' s')
    (hd : ∀ p, p ∈ T → p ∈ T' → False) (hU : ∀ p, p ∈ U ↔ p ∈ T ∨ p ∈ T') : Good A U (mergeSt s s') := by
  have e : U = T ∪ T' := by
    ext p
    rw [Finset.mem_union, hU p]
  rw [e]
  exact good_merge A (Finset.disjoint_left.2 fun {p} h1 h2 => hd p h1 h2) hs hs'

omit H in
theorem nb0 : (nb 0 c).val / 2 = c.val / 2 ∧ (nb 0 c).val ≠ c.val := by revert c; decide
omit H in
theorem nb1 : (nb 1 c).val / 4 = c.val / 4 ∧ (nb 1 c).val / 2 ≠ c.val / 2 := by revert c; decide
omit H in
theorem nb2 : (nb 2 c).val / 4 ≠ c.val / 4 ∧ (nb 2 c).val / 4 < 2 ∧ c.val / 4 < 2 := by revert c; decide

/-- After the exchange along `z` a device covers the pages of the two devices that differ along it. -/
theorem good_M1 : Good A (rng (128 * (c.val / 2)) (128 * (c.val / 2) + 128)) (M1 V c) := by
  have n := nb0 c
  unfold M1
  refine good_join A (T := rng (64 * c.val) (64 * c.val + 64) ∪ rng (64 * (nb 0 c).val) (64 * (nb 0 c).val + 32))
    (good_join A (T := rng (64 * c.val) (64 * c.val + 64))
      (good_join A (good_rt A (good_A A H c)) (good_B A H c) ?_ ?_) (good_rt A (good_A A H (nb 0 c))) ?_ ?_)
    (good_rt A (good_B A H (nb 0 c))) ?_ ?_ <;> intro p <;> simp only [Finset.mem_union, mem_rng] <;> omega

/-- After the exchange along `y`: the pages of the four devices of one half of the pool. -/
theorem good_M2 : Good A (rng (256 * (c.val / 4)) (256 * (c.val / 4) + 256)) (M2 V c) := by
  have n := nb1 c
  unfold M2
  refine good_join A (good_M1 A H c) (good_rt A (good_M1 A H (nb 1 c))) ?_ ?_ <;> intro p <;> simp only [mem_rng] <;> omega

/-- After the exchange along `x`: the whole pool. -/
theorem good_M3 : Good A Finset.univ (M3 V c) := by
  have n := nb2 c
  unfold M3
  refine good_join A (good_M2 A H c) (good_rt A (good_M2 A H (nb 2 c))) ?_ ?_ <;> intro p <;> have hp := p.isLt <;>
    simp only [mem_rng, Finset.mem_univ, true_iff] <;> omega

end Cert.Proof.KV
-- ==== Proof.RefVal.lean ====
/-
  The reference's result, spelt in named steps, and each step read at an index.
-/
module

public import proofs.«01_k».proof.Proof.Gen.ReferenceIdeal.Run
public import proofs.«01_k».proof.Proof.Good

@[expose] public section

set_option synthInstance.maxSize 4096

noncomputable section

namespace Cert.Proof.KV

open Idealize.ShloMosaic Idealize.ShloMosaic.TcCoe
open Cert.ReferenceIdeal Cert.ReferenceIdeal.Gen

/-- Where a row's table slot is in use and names a page of the pool. -/
def rSeen (bt : IVec S32x256 32) (lens : IVec S32 32) : IVec S32x256 1 :=
  andi (andi (cmpi .slt (broadcastInDim S32x256 ![0, 1] bcast_S1x256_S32x256_0_1 (broadcastInDim S1x256 ![1] bcast_S256_S1x256_1 (iotaInDim S256 32 0))) (broadcastInDim S32x256 ![0, 1] bcast_S32x1_S32x256_0_1 (broadcastInDim S32x1 ![0] bcast_S32_S32x1_0 lens))) (cmpi .sge bt (broadcastInDim S32x256 ![] bcast_S_S32x256 (constantI S_ 32 0#32)))) (cmpi .slt bt (broadcastInDim S32x256 ![] bcast_S_S32x256 (constantI S_ 32 512#32)))

/-- The pages that the table names, one row's slots after another. -/
def rTake (K : FVec Ideal S512x32x16x128 .f32) (bt : IVec S32x256 32) : FVec Ideal S32x8192x16x128 .f32 :=
  shapeCast _ (Host.gather gather_S512x32x16x128_S32x256x1_S32x256x32x16x128_234_0_n_n_0_2_13216128 K (broadcastInDim S32x256x1 ![0, 1] bcast_S32x256_S32x256x1_0_1 bt)) shapeCasts_S32x256x32x16x128_S32x8192x16x128

/-- The scores, −∞ at a slot that is not seen. -/
def rS (Q : FVec Ideal S32x1x16x128 .f32) (Ki : FVec Ideal S32x8192x16x128 .f32) (sn : IVec S32x256 1) : FVec Ideal S32x16x1x8192 .f32 :=
  select (broadcastInDim S32x16x1x8192 ![0, 1, 2, 3] bcast_S32x1x1x8192_S32x16x1x8192_0_1_2_3 (broadcastInDim S32x1x1x8192 ![0, 3] bcast_S32x8192_S32x1x1x8192_0_3 (shapeCast _ (broadcastInDim S32x256x32 ![0, 1, 2] bcast_S32x256x1_S32x256x32_0_1_2 (broadcastInDim S32x256x1 ![0, 1] bcast_S32x256_S32x256x1_0_1 sn)) shapeCasts_S32x256x32_S32x8192))) (mulf (Host.dotGeneral dot_S32x1x16x128_S32x8192x16x128_S32x16x1x8192_3_3_1_1_02_02 none Q Ki) (broadcastInDim S32x16x1x8192 ![] bcast_S_S32x16x1x8192 (constant S_ .f32 0x3DB504F3#32))) (broadcastInDim S32x16x1x8192 ![] bcast_S_S32x16x1x8192 (id (constant S_ .f32 0xFF800000#32)))

/-- The exponentials of the scores less their row's largest. -/
def rE (S : FVec Ideal S32x16x1x8192 .f32) : FVec Ideal S32x16x1x8192 .f32 :=
  Host.exp (subf S (broadcastInDim S32x16x1x8192 ![0, 1, 2, 3] bcast_S32x16x1x1_S32x16x1x8192_0_1_2_3 (broadcastInDim S32x16x1x1 ![0, 1, 2] bcast_S32x16x1_S32x16x1x1_0_1_2 (Host.reduce FloatOps.maximumf S (constant S_ .f32 0xFF800000#32) reducesTo_S32x16x1x8192_S32x16x1_d3 h_S_))))

/-- The exponentials divided by their row's sum, times the values. -/
def rOut (E : FVec Ideal S32x16x1x8192 .f32) (Vi : FVec Ideal S32x8192x16x128 .f32) : FVec Ideal S32x1x16x128 .f32 :=
  transpose S32x1x16x128 [0, 3, 1, 2] (Host.dotGeneral dot_S32x8192x16x128_S32x16x1x8192_S32x16x128x1_1_3_3_2_02_01 none Vi (Host.divf E (broadcastInDim S32x16x1x8192 ![0, 1, 2, 3] bcast_S32x16x1x1_S32x16x1x8192_0_1_2_3 (broadcastInDim S32x16x1x1 ![0, 1, 2] bcast_S32x16x1_S32x16x1x1_0_1_2 (Host.reduceAdd E (constant S_ .f32 0x00000000#32) reducesTo_S32x16x1x8192_S32x16x1_d3 h_S_))))) transposes_S32x16x128x1_S32x1x16x128_0_3_1_2

/-- The reference's result is those steps. -/
theorem ref_eq (m : (ℓ : Loc nD τ sig) → Buf (Elt Ideal) ℓ) (c : Dev nD) :
    Cert.ReferenceIdeal.Value.res_main_v34 m c =
      rOut (rE (rS (m ((c.tc : Thread nD τ).loc main_arg0)) (rTake (m ((c.tc : Thread nD τ).loc main_arg1)) (m ((c.tc : Thread nD τ).loc main_arg3)))
        (rSeen (m ((c.tc : Thread nD τ).loc main_arg3)) (m ((c.tc : Thread nD τ).loc main_arg4)))))
        (rTake (m ((c.tc : Thread nD τ).loc main_arg2)) (m ((c.tc : Thread nD τ).loc main_arg3))) := by
  unfold Cert.ReferenceIdeal.Value.res_main_v34 rOut rE rS rTake rSeen
  rfl

/-- The page that a row's table slot names: its number, clipped into the pool. -/
def rP (bt : IVec S32x256 32) (b : Fin 32) (j : Fin 256) : Fin 512 := ⟨min (bt (ix2 b j)).toInt.toNat 511, by omega⟩

/-- The gather reads the page that the slot names. -/
theorem gather_at (K : FVec Ideal S512x32x16x128 .f32) (idx : IVec S32x256x1 32) (b : Fin 32) (j : Fin 256) (t : Fin 32) (h : Fin 16) (d : Fin 128) :
    Host.gather gather_S512x32x16x128_S32x256x1_S32x256x32x16x128_234_0_n_n_0_2_13216128 K idx (ix5 b j t h d)
      = K (ix4 ⟨min (idx (ix3 b j (0 : Fin 1))).toInt.toNat 511, by omega⟩ t h d) := by
  unfold Host.gather
  congr 1
  funext a
  refine Fin.ext ?_
  show GatherDims.start _ _ idx a + GatherDims.batchCoord _ _ a + GatherDims.offCoord _ _ a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 4) ∈ gather_S512x32x16x128_S32x256x1_S32x256x32x16x128_234_0_n_n_0_2_13216128.startIndexMap from List.mem_singleton.mpr rfl)]
    have hsi : gather_S512x32x16x128_S32x256x1_S32x256x32x16x128_234_0_n_n_0_2_13216128.siIdx (ix5 b j t h d)
        ⟨List.idxOf (0 : Fin 4) gather_S512x32x16x128_S32x256x1_S32x256x32x16x128_234_0_n_n_0_2_13216128.startIndexMap,
          List.idxOf_lt_length_iff.2 (List.mem_singleton.mpr rfl)⟩ = ix3 b j (0 : Fin 1) := by
      funext a; refine Fin.ext ?_
      match a with
      | ⟨0, _⟩ => rfl
      | ⟨1, _⟩ => rfl
      | ⟨2, _⟩ => rfl
    exact congrArg (fun i => min (idx i).toInt.toNat 511) hsi
  | ⟨1, _⟩ => exact Nat.zero_add _
  | ⟨2, _⟩ => exact Nat.zero_add _
  | ⟨3, _⟩ => exact Nat.zero_add _

theorem rTake_at (K : FVec Ideal S512x32x16x128 .f32) (bt : IVec S32x256 32) (b : Fin 32) (x : Fin 8192) (h : Fin 16) (d : Fin 128) :
    rTake K bt (ix4 b x h d) = K (ix4 (rP bt b ⟨x.val / 32, by have := x.isLt; omega⟩) ⟨x.val % 32, by omega⟩ h d) := by
  pointwise [rTake]
  rw [gather_at]
  pointwise [rP]

variable (A : Att)

section

variable {Q : FVec Ideal S32x1x16x128 .f32} {K V : FVec Ideal S512x32x16x128 .f32} {bt : IVec S32x256 32} {sn : IVec S32x256 1}
  (hS : ∀ (h : Fin 16) (b : Fin 32) (p : Fin 512) (t : Fin 32),
    (∑ x : Fin 128, (Q (ix4 b (0 : Fin 1) h x) : EReal) * K (ix4 p t h x)) * Ideal.ofBits .f32 0x3DB504F3#32 = (A.S h b p t : EReal))
  (hV : ∀ (p : Fin 512) (t : Fin 32) (h : Fin 16) (d : Fin 128), V (ix4 p t h d) = A.v p t h d)
  (hW : ∀ (b : Fin 32) (p : Fin 512), A.W b p = ((Finset.univ.filter fun j : Fin 256 => sn (ix2 b j) = 1#1 ∧ rP bt b j = p).card : ℝ))

include hS in
/-- A score: the data's at the slot's page where the slot is seen, −∞ where not. -/
theorem rS_at (b : Fin 32) (x : Fin 8192) (h : Fin 16) :
    rS Q (rTake K bt) sn (ix4 b h (0 : Fin 1) x) = if sn (ix2 b ⟨x.val / 32, by have := x.isLt; omega⟩) = 1#1 then
      (A.S h b (rP bt b ⟨x.val / 32, by have := x.isLt; omega⟩) ⟨x.val % 32, by omega⟩ : EReal) else ⊥ := by
  pointwise [rS]
  rw [Finset.sum_congr rfl (fun y _ => by rw [rTake_at]), hS h b (rP bt b ⟨x.val / 32, by have := x.isLt; omega⟩) ⟨x.val % 32, by omega⟩]
  unfold Scalar.select
  by_cases e : sn (ix2 b ⟨x.val / 32, by have := x.isLt; omega⟩) = 1#1
  · rw [if_pos e]; exact if_pos e
  · rw [if_neg e]; exact (if_neg e).trans ninf_bot

/-- A slot's exponential relative to `μ`: nothing where it is not seen. -/
def rEr (bt : IVec S32x256 32) (sn : IVec S32x256 1) (h : Fin 16) (b : Fin 32) (μ : ℝ) (j : Fin 256) (t : Fin 32) : ℝ :=
  if sn (ix2 b j) = 1#1 then Real.exp (A.S h b (rP bt b j) t - μ) else 0

include hS in
theorem rE_at (b : Fin 32) (h : Fin 16) (hs : ∃ j, sn (ix2 b j) = 1#1) : ∃ μ : ℝ, ∀ x : Fin 8192,
    rE (rS Q (rTake K bt) sn) (ix4 b h (0 : Fin 1) x) =
      (rEr A bt sn h b μ ⟨x.val / 32, by have := x.isLt; omega⟩ ⟨x.val % 32, by omega⟩ : EReal) := by
  obtain ⟨M, hM⟩ := fold_max_real (Finset.univ : Finset (Fin 8192)) (fun x => rS Q (rTake K bt) sn (ix4 b h (0 : Fin 1) x))
    (fun x _ => by
      rw [rS_at A hS]
      split
      · exact EReal.coe_ne_top _
      · exact bot_ne_top)
    (by
      obtain ⟨j, hj⟩ := hs
      refine ⟨⟨j.val * 32, by have := j.isLt; omega⟩, Finset.mem_univ _, ?_⟩
      rw [rS_at A hS, if_pos]
      · exact EReal.coe_ne_bot _
      · rw [← hj]
        congr 2
        exact Fin.ext (Nat.mul_div_cancel _ (by decide)))
  refine ⟨M, fun x => ?_⟩
  pointwise [rE]
  rw [ninf_bot, hM, rS_at A hS]
  unfold rEr
  split
  · exact exp_sub _ _
  · rw [EReal.bot_sub, Ideal.exp_bot]; rfl

include hW in
/-- A sum over the slots that are seen is the sum over the pages, each as often as it is named. -/
theorem slots_pages (b : Fin 32) (g : Fin 512 → ℝ) :
    ∑ j : Fin 256, (if sn (ix2 b j) = 1#1 then g (rP bt b j) else 0) = ∑ p : Fin 512, A.W b p * g p := by
  classical
  rw [← Finset.sum_filter, ← Finset.sum_fiberwise (s := Finset.univ.filter fun j : Fin 256 => sn (ix2 b j) = 1#1) (g := rP bt b)]
  refine Finset.sum_congr rfl fun p _ => ?_
  rw [Finset.sum_congr rfl (fun j hj => by rw [(Finset.mem_filter.1 hj).2]), Finset.sum_const, nsmul_eq_mul, hW, Finset.filter_filter]

include hW in
/-- The same of a sum of extended reals. -/
theorem slots_pages' (b : Fin 32) (g : Fin 512 → EReal) :
    ∑ j : Fin 256, (if sn (ix2 b j) = 1#1 then g (rP bt b j) else 0) = ∑ p : Fin 512, g p * (A.W b p : EReal) := by
  classical
  rw [← Finset.sum_filter, ← Finset.sum_fiberwise (s := Finset.univ.filter fun j : Fin 256 => sn (ix2 b j) = 1#1) (g := rP bt b)]
  refine Finset.sum_congr rfl fun p _ => ?_
  rw [Finset.sum_congr rfl (fun j hj => by rw [(Finset.mem_filter.1 hj).2]), Finset.sum_const, EReal.nsmul_eq_mul, hW, Finset.filter_filter, mul_comm]
  rfl

include hS hV hW in
/-- The reference's result is the attention's value. -/
theorem rOut_at (b : Fin 32) (h : Fin 16) (d : Fin 128) (hs : ∃ j, sn (ix2 b j) = 1#1) :
    rOut (rE (rS Q (rTake K bt) sn)) (rTake V bt) (ix4 b (0 : Fin 1) h d) = A.val b h d := by
  obtain ⟨μ, hμ⟩ := rE_at A hS b h hs
  have hp : ∃ p, 0 < A.W b p := by
    obtain ⟨j, hj⟩ := hs
    refine ⟨rP bt b j, ?_⟩
    rw [hW]
    exact Nat.cast_pos.2 (Finset.card_pos.2 ⟨j, Finset.mem_filter.2 ⟨Finset.mem_univ _, hj, rfl⟩⟩)
  have hZ : ∑ x : Fin 8192, rEr A bt sn h b μ ⟨x.val / 32, by have := x.isLt; omega⟩ ⟨x.val % 32, by omega⟩ = A.Z Finset.univ h b μ := by
    rw [sum_groups 256 8192 rfl (fun j t => rEr A bt sn h b μ j t)]
    unfold Att.Z rEr
    rw [Finset.sum_congr rfl (fun j _ => show (∑ t : Fin 32, if sn (ix2 b j) = 1#1 then Real.exp (A.S h b (rP bt b j) t - μ) else 0)
      = if sn (ix2 b j) = 1#1 then ∑ t : Fin 32, Real.exp (A.S h b (rP bt b j) t - μ) else 0 by split <;> simp),
      slots_pages A hW b (fun p => ∑ t : Fin 32, Real.exp (A.S h b p t - μ))]
    refine Finset.sum_congr rfl fun p _ => ?_
    rw [Finset.mul_sum]
    exact Finset.sum_congr rfl fun t _ => mul_comm _ _
  have hN : ∑ x : Fin 8192, A.v (rP bt b ⟨x.val / 32, by have := x.isLt; omega⟩) ⟨x.val % 32, by omega⟩ h d
      * ((rEr A bt sn h b μ ⟨x.val / 32, by have := x.isLt; omega⟩ ⟨x.val % 32, by omega⟩ / A.Z Finset.univ h b μ : ℝ) : EReal)
      = A.N Finset.univ h b d μ * ((1 / A.Z Finset.univ h b μ : ℝ) : EReal) := by
    rw [sum_groups 256 8192 rfl (fun j t => A.v (rP bt b j) t h d * ((rEr A bt sn h b μ j t / A.Z Finset.univ h b μ : ℝ) : EReal))]
    unfold Att.N
    have hz : 0 ≤ 1 / A.Z Finset.univ h b μ := (one_div_pos.2 (A.Z_pos b h μ hp)).le
    rw [sum_mul_real _ _ _ hz, Finset.sum_congr rfl (fun j _ => show (∑ t : Fin 32, A.v (rP bt b j) t h d * ((rEr A bt sn h b μ j t / A.Z Finset.univ h b μ : ℝ) : EReal))
      = if sn (ix2 b j) = 1#1 then ∑ t : Fin 32, A.v (rP bt b j) t h d * ((Real.exp (A.S h b (rP bt b j) t - μ) / A.Z Finset.univ h b μ : ℝ) : EReal) else 0 by
        unfold rEr; split <;> simp),
      slots_pages' A hW b (fun p => ∑ t : Fin 32, A.v p t h d * ((Real.exp (A.S h b p t - μ) / A.Z Finset.univ h b μ : ℝ) : EReal))]
    refine Finset.sum_congr rfl fun p _ => ?_
    rw [sum_mul_real _ _ _ (A.pos b p), sum_mul_real _ _ _ hz]
    refine Finset.sum_congr rfl fun t _ => ?_
    rw [mul_assoc, ← EReal.coe_mul, mul_comm _ (A.v p t h d), mul_assoc, ← EReal.coe_mul]
    exact congrArg (fun r : ℝ => A.v p t h d * (r : EReal)) (by ring)
  pointwise [rOut]
  rw [Finset.sum_congr rfl (fun x _ => hμ x), coe_sum, hZ,
    Finset.sum_congr rfl (fun x _ => by rw [hμ x, rTake_at, hV, div_real _ _ (A.Z_pos b h μ hp).ne']), hN, A.val_shift]

end

end Cert.Proof.KV
-- ==== Proof.Words.lean ====
/-
  The table's words: the slots that a device counts for one of its pages are the slots that the reference sees and reads at it.
-/
module

public import proofs.«01_k».proof.Proof.Host
public import proofs.«01_k».proof.Proof.RefVal

@[expose] public section

set_option synthInstance.maxSize 4096

noncomputable section

namespace Cert.Proof.KV

open Idealize.ShloMosaic Idealize.ShloMosaic.TcCoe
open Cert.KernelIdeal

/-- A slot is seen where it lies within the row's length and its word is a page's number. -/
theorem seen_iff (bt : IVec S32x256 32) (lens : IVec S32 32) (b : Fin 32) (j : Fin 256) :
    rSeen bt lens (ix2 b j) = 1#1 ↔ (IntOp.cmpi .slt (BitVec.ofNat 32 j.val) (lens (ix1 b)) = 1#1
      ∧ 0 ≤ (bt (ix2 b j)).toInt) ∧ (bt (ix2 b j)).toInt < 512 := by
  pointwise [rSeen]
  rw [IntOp.andi_eq_one, IntOp.andi_eq_one, IntOp.cmpi_sge, IntOp.cmpi_slt (x := bt (ix2 b j))]
  exact Iff.rfl

/-- The word that the masked table holds at a slot is page `p`'s number just where the slot is seen and names page `p`. -/
theorem tab_iff (bt : IVec S32x256 32) (lens : IVec S32 32) (b : Fin 32) (j : Fin 256) (p : Fin 512) :
    kTab bt lens (ix2 b j) = BitVec.ofNat 32 p.val ↔ rSeen bt lens (ix2 b j) = 1#1 ∧ rP bt b j = p := by
  have hp := p.isLt
  have hi : (BitVec.ofNat 32 p.val).toInt = (p.val : Int) := by
    rw [BitVec.toInt_ofNat']
    exact Int.bmod_eq_of_le (by omega) (by omega)
  rw [kTab_at, seen_iff]
  by_cases hl : IntOp.cmpi .slt (BitVec.ofNat 32 j.val) (lens (ix1 b)) = 1#1
  · rw [if_pos hl]
    constructor
    · intro e
      rw [e, hi]
      refine ⟨⟨⟨hl, by omega⟩, by omega⟩, Fin.ext ?_⟩
      simp only [rP]
      rw [e, hi]
      omega
    · rintro ⟨⟨⟨-, h0⟩, h1⟩, h2⟩
      have := congrArg Fin.val h2
      simp only [rP] at this
      refine BitVec.eq_of_toInt_eq ?_
      rw [hi]
      omega
  · rw [if_neg hl]
    constructor
    · intro e
      exfalso
      have := congrArg BitVec.toNat e
      rw [BitVec.toNat_ofNat, Nat.mod_eq_of_lt (by omega)] at this
      simp only [BitVec.toNat_ofNat] at this
      omega
    · rintro ⟨⟨⟨h, -⟩, -⟩, -⟩
      exact absurd h hl

/-- A device's count of one of its pages is the number of slots that are seen and name it. -/
theorem count_eq (bt : IVec S32x256 32) (lens : IVec S32 32) (c : Dev nD) (b : Fin 32) (l : Fin 64) (p : Fin 512)
    (hp : p.val = 64 * c.val + l.val) :
    (kCnt (kTab bt lens) (kBase c) (ix2 b l)).toInt
      = ((Finset.univ.filter fun j : Fin 256 => rSeen bt lens (ix2 b j) = 1#1 ∧ rP bt b j = p).card : Int) := by
  rw [kCnt_at, kBase_at]
  have e : BitVec.ofNat 32 (64 * c.val) + BitVec.ofNat 32 l.val = BitVec.ofNat 32 p.val := by
    rw [hp, BitVec.ofNat_add]
  rw [e]
  refine congrArg (fun s : Finset (Fin 256) => (s.card : Int)) ?_
  ext j
  simp only [Finset.mem_filter, Finset.mem_univ, true_and]
  exact tab_iff bt lens b j p

end Cert.Proof.KV
-- ==== Proof.Whole.lean ====
/-
  From the arrays that the devices hold to the data of one attention: where each device holds its block of the pool and a copy of
  the rest, every device's last state covers the whole pool, and its output is the reference's.
-/
module

public import proofs.«01_k».proof.Proof.Pages
public import proofs.«01_k».proof.Proof.Words
public import Idealize.ShloMosaic.Lib.Layout

@[expose] public section

set_option synthInstance.maxSize 4096

noncomputable section

namespace Cert.Proof.KV

open Idealize.ShloMosaic Idealize.ShloMosaic.TcCoe
open Cert.KernelIdeal Cert.KernelIdeal.Gen

/-- Device `c`'s half of the pool. -/
abbrev part (c : Dev nD) (K : FVec Ideal Cert.ReferenceIdeal.S512x32x16x128 .f32) : FVec Ideal S256x32x16x128 .f32 :=
  Layout.blockN ⟨4, ![256, 32, 16, 128]⟩ ⟨4, ![512, 32, 16, 128]⟩ (Layout.meshBlock [2, 2, 2] ![[0], [], [], []] c) K

theorem part_at (c : Dev nD) (K : FVec Ideal Cert.ReferenceIdeal.S512x32x16x128 .f32) (p : Fin 256) (g : Fin 512)
    (hg : g.val = c.val / 4 * 256 + p.val) (k : Fin 32) (h : Fin 16) (d : Fin 128) : part c K (ix4 p k h d) = K (ix4 g k h d) := by
  refine congrArg K (funext fun a => Fin.ext ?_)
  have e : Layout.meshLin [2, 2, 2] c.val [0] = c.val / 4 := (by decide : ∀ c : Dev nD, Layout.meshLin [2, 2, 2] c.val [0] = c.val / 4) c
  match a with
  | ⟨0, _⟩ =>
    show Layout.meshLin [2, 2, 2] c.val [0] * 256 + p.val = g.val
    rw [e, hg]
  | ⟨1, _⟩ =>
    show 0 * 32 + k.val = k.val
    omega
  | ⟨2, _⟩ =>
    show 0 * 16 + h.val = h.val
    omega
  | ⟨3, _⟩ =>
    show 0 * 128 + d.val = d.val
    omega

theorem gp_part (c : Dev nD) (t : Fin grid0.N) (i : Fin 8) : (gp c t i).val = c.val / 4 * 256 + (lp c t i).val := by
  simp only [gp, lp]
  omega

variable (A : Att) {m : (ℓ : Loc nD τ sig) → Buf (Elt Ideal) ℓ} (c : Dev nD)
  {Q : FVec Ideal S32x1x16x128 .f32} {K V : FVec Ideal Cert.ReferenceIdeal.S512x32x16x128 .f32}
  {bt : IVec S32x256 32} {lens : IVec S32 32}

theorem keep (r : Ref sig .tc) (h3 : r ∉ hostOps0_2_W) (h2 : r ∉ hostOps0_1_W) (h1 : r ∉ hostOps0_W) :
    V3 m c (Proc.devRef .tc r) = m ((c.tc : Thread nD τ).loc r) :=
  (V3_of m c r h3).trans ((V2_of m c r h2).trans ((V1_of m c r h1).trans rfl))

/-- A grid point reads the data of its eight pages. -/
theorem step_host
    (h0 : m ((c.tc : Thread nD τ).loc main_arg0) = Q) (h1 : m ((c.tc : Thread nD τ).loc main_arg1) = part c K)
    (h2 : m ((c.tc : Thread nD τ).loc main_arg2) = part c V) (h3 : m ((c.tc : Thread nD τ).loc main_arg3) = bt)
    (h4 : m ((c.tc : Thread nD τ).loc main_arg4) = lens)
    (hS : ∀ (h : Fin 16) (b : Fin 32) (p : Fin 512) (t : Fin 32),
      (∑ x : Fin 128, (Q (ix4 b (0 : Fin 1) h x) : EReal) * K (ix4 p t h x)) * Ideal.ofBits .f32 0x3DB504F3#32 = (A.S h b p t : EReal))
    (hV : ∀ (p : Fin 512) (t : Fin 32) (h : Fin 16) (d : Fin 128), V (ix4 p t h d) = A.v p t h d)
    (hW : ∀ (b : Fin 32) (p : Fin 512), A.W b p = ((Finset.univ.filter fun j : Fin 256 => rSeen bt lens (ix2 b j) = 1#1 ∧ rP bt b j = p).card : ℝ))
    (t : Fin grid0.N) :
    StepOf A (gp c t) (qB (V3 m) c t) (kB (V3 m) c t) (vB (V3 m) c t) (wB (V3 m) c t) where
  score h b i k := by
    rw [← hS h b (gp c t i) k]
    refine congrArg (· * Ideal.ofBits .f32 0x3DB504F3#32) (Finset.sum_congr rfl fun x _ => ?_)
    refine congrArg₂ (fun a b : EReal => a * b) ?_ ?_
    · exact (qB_at (V3 m) c t h b x).trans ((q_host m c h b x).trans (congrFun h0 _))
    · exact (kB_at (V3 m) c t i k h x).trans ((congrFun ((keep c main_arg1 (by decide) (by decide) (by decide)).trans h1) _).trans
        (part_at c K (lp c t i) (gp c t i) (gp_part c t i) k h x))
  val h i k d := by
    rw [← hV (gp c t i) k h d]
    exact (vB_at (V3 m) c t i k h d).trans ((congrFun ((keep c main_arg2 (by decide) (by decide) (by decide)).trans h2) _).trans
      (part_at c V (lp c t i) (gp c t i) (gp_part c t i) k h d))
  cnt b x := by
    have ht := t_lt t
    have hx := x.isLt
    refine (wB_at (V3 m) c t b x).trans ((congrFun (w_host m c) _).trans ((kWk_at _ b _).trans ?_))
    rw [h3, h4, hW, count_eq bt lens c b _ (gp c t ⟨x.val / 32, by omega⟩) (by simp only [gp]; omega)]
    rw [Int.cast_natCast]

variable
  (H0 : ∀ c : Dev nD, m ((c.tc : Thread nD τ).loc main_arg0) = Q) (H1 : ∀ c : Dev nD, m ((c.tc : Thread nD τ).loc main_arg1) = part c K)
  (H2 : ∀ c : Dev nD, m ((c.tc : Thread nD τ).loc main_arg2) = part c V) (H3 : ∀ c : Dev nD, m ((c.tc : Thread nD τ).loc main_arg3) = bt)
  (H4 : ∀ c : Dev nD, m ((c.tc : Thread nD τ).loc main_arg4) = lens)

include H0 H1 H2 H3 H4 in
/-- Over finite queries and keys, and where every row has a slot that is seen, each device's output is the reference's result. -/
theorem out_ref (hQ : ∀ i, ∃ r : ℝ, Q i = (r : EReal)) (hK : ∀ i, ∃ r : ℝ, K i = (r : EReal))
    (hn : ∀ b : Fin 32, ∃ j : Fin 256, rSeen bt lens (ix2 b j) = 1#1) :
    out (V3 m) c = rOut (rE (rS Q (rTake K bt) (rSeen bt lens))) (rTake V bt) := by
  choose q eq using hQ
  choose k ek using hK
  obtain ⟨sc, esc⟩ := scale_real
  let A : Att :=
    { S := fun h b p t => (∑ x : Fin 128, q (ix4 b (0 : Fin 1) h x) * k (ix4 p t h x)) * sc
      W := fun b p => ((Finset.univ.filter fun j : Fin 256 => rSeen bt lens (ix2 b j) = 1#1 ∧ rP bt b j = p).card : ℝ)
      v := fun p t h d => V (ix4 p t h d)
      pos := fun b p => Nat.cast_nonneg _ }
  have hS : ∀ (h : Fin 16) (b : Fin 32) (p : Fin 512) (t : Fin 32),
      (∑ x : Fin 128, (Q (ix4 b (0 : Fin 1) h x) : EReal) * K (ix4 p t h x)) * Ideal.ofBits .f32 0x3DB504F3#32 = (A.S h b p t : EReal) := by
    intro h b p t
    rw [esc, Finset.sum_congr rfl fun x _ => by rw [eq (ix4 b (0 : Fin 1) h x), ek (ix4 p t h x), ← EReal.coe_mul], coe_sum, ← EReal.coe_mul]
  have hVv : ∀ (p : Fin 512) (t : Fin 32) (h : Fin 16) (d : Fin 128), V (ix4 p t h d) = A.v p t h d := fun p t h d => rfl
  have hW : ∀ (b : Fin 32) (p : Fin 512), A.W b p = ((Finset.univ.filter fun j : Fin 256 => rSeen bt lens (ix2 b j) = 1#1 ∧ rP bt b j = p).card : ℝ) :=
    fun b p => rfl
  have hg : Good A Finset.univ (M3 (V3 m) c) :=
    good_M3 A (fun c t => step_host A c (H0 c) (H1 c) (H2 c) (H3 c) (H4 c) hS hVv hW t) c
  funext i
  obtain ⟨b, z, h, d, rfl⟩ : ∃ (b : Fin 32) (z : Fin 1) (h : Fin 16) (d : Fin 128), i = ix4 b z h d :=
    ⟨i 0, i 1, i 2, i 3, by funext a; match a with | ⟨0, _⟩ => rfl | ⟨1, _⟩ => rfl | ⟨2, _⟩ => rfl | ⟨3, _⟩ => rfl⟩
  obtain rfl : z = 0 := Subsingleton.elim _ _
  have hp : ∃ p, 0 < A.W b p := by
    obtain ⟨j, hj⟩ := hn b
    exact ⟨rP bt b j, Nat.cast_pos.2 (Finset.card_pos.2 ⟨j, Finset.mem_filter.2 ⟨Finset.mem_univ _, hj, rfl⟩⟩)⟩
  exact (good_fin A hg b h d hp).trans (rOut_at A hS hVv hW b h d (hn b)).symm

end Cert.Proof.KV
-- ==== Proof.PreRead.lean ====
/-
  What the precondition says: the queries and a device's keys are finite, and every row of the table has a slot that names a page.
-/
module

public import proofs.«01_k».proof.Proof.RefVal
public import proofs.«01_k».proof.Proof.Gen.Pre_finite_and_named_KernelIdeal
public import proofs.«01_k».proof.Pre_finite_and_named_KernelIdeal
public import Idealize.ShloMosaic.Lib.ReduceAll
public import Idealize.ShloMosaic.Lib.Routing.OpsOrder

@[expose] public section

set_option synthInstance.maxSize 4096

noncomputable section

namespace Cert.Proof.KV

open Idealize.ShloMosaic Idealize.ShloMosaic.TcCoe
open Cert.Pre_finite_and_named_KernelIdeal Cert.Pre_finite_and_named_KernelIdeal.Gen

/-- Below infinity in absolute value is real. -/
theorem real_of_lt {x : EReal} (h : Ideal.cmp .olt (max x (-x)) (Ideal.ofBits .f32 0x7F800000#32) = 1#1) : ∃ r : ℝ, x = (r : EReal) := by
  rw [inf_top] at h
  have h2 : max x (-x) < (⊤ : EReal) := by
    by_contra hn
    simp [Ideal.cmp, hn] at h
  induction x with
  | bot => simp at h2
  | top => simp at h2
  | coe r => exact ⟨r, rfl⟩

/-- Where the test of an array's absolute values against infinity is one, every element is real. -/
theorem real_all {s : Shape} (hb : S_.BroadcastsInDim s (![] : Fin 0 → Fin s.rank)) {axes : List (Fin s.rank)} (hr : s.ReducesTo axes S_)
    (x : FVec Ideal s .f32) (init : IVec S_ 1)
    (e : Host.reduce IntOp.andi (cmpf .olt (Host.absf x) (broadcastInDim s ![] hb (constant S_ .f32 0x7F800000#32))) init hr h_S_ ix0 = 1#1)
    (i : s.Idx) : ∃ r : ℝ, x i = (r : EReal) := by
  haveI : Subsingleton S_.Idx := ⟨fun a b => funext fun k => k.elim0⟩
  exact real_of_lt (Host.reduce_andi_all _ _ hr h_S_ ix0 e i)

/-- Where the row's or over the slots is one, some slot is one. -/
theorem any_named (x : IVec S32x256 1) (b : Fin 32)
    (e : Host.reduce IntOp.ori x (constantI S_ 1 0#1) reducesTo_S32x256_S32_d1 h_S_ (ix1 b) = 1#1) : ∃ j : Fin 256, x (ix2 b j) = 1#1 := by
  revert e
  pointwise []
  intro e
  obtain ⟨j, -, hj⟩ := (Routing.fold_ori _ _).1 e
  exact ⟨j, hj⟩

/-- The precondition, read. -/
theorem pre_read (q : FVec Ideal S32x1x16x128 .f32) (k v : FVec Ideal S256x32x16x128 .f32) (bt : IVec S32x256 32) (lens : IVec S32 32)
    (h : fn (F := Ideal) q k v bt lens = fun _ => 1#1) :
    (∀ i, ∃ r : ℝ, q i = (r : EReal)) ∧ (∀ i, ∃ r : ℝ, k i = (r : EReal))
      ∧ ∀ b : Fin 32, ∃ j : Fin 256, rSeen bt lens (ix2 b j) = 1#1 := by
  have e := congrFun h ix0
  dsimp only [fn, fn_part1] at e
  obtain ⟨e, en⟩ := IntOp.andi_eq_one.1 e
  obtain ⟨eq, ek⟩ := IntOp.andi_eq_one.1 e
  haveI : Subsingleton S_.Idx := ⟨fun a b => funext fun k => k.elim0⟩
  refine ⟨real_all _ _ q _ eq, real_all _ _ k _ ek, fun b => ?_⟩
  exact any_named _ b (Host.reduce_andi_all _ _ _ _ _ en (ix1 b))

end Cert.Proof.KV
-- ==== Proof.Algebraic.lean ====
/-
  The value claim: from memories that agree on the arguments, over finite queries and keys and tables that name a page in every row, every
  device of the kernel ends with the reference's result in its output.
-/
module

public import proofs.«01_k».proof.Defs
public import proofs.«01_k».proof.Proof.Whole
public import proofs.«01_k».proof.Proof.PreRead
public import proofs.«01_k».proof.Proof.Frames

@[expose] public section

set_option synthInstance.maxSize 4096

noncomputable section

namespace Cert.Proof.KV

open Idealize.ShloMosaic Idealize.ShloMosaic.TcCoe
open Cert.KernelIdeal Cert.KernelIdeal.Gen

/-- Every element of the pool lies in a device's half: the half of device 0 or of device 4. -/
theorem whole_real {K : FVec Ideal Cert.ReferenceIdeal.S512x32x16x128 .f32}
    (h : ∀ (c : Dev nD) (i : S256x32x16x128.Idx), ∃ r : ℝ, part c K i = (r : EReal)) (i : Cert.ReferenceIdeal.S512x32x16x128.Idx) :
    ∃ r : ℝ, K i = (r : EReal) := by
  obtain ⟨p, k, a, d, rfl⟩ : ∃ (p : Fin 512) (k : Fin 32) (a : Fin 16) (d : Fin 128), i = ix4 p k a d :=
    ⟨i 0, i 1, i 2, i 3, by funext a; match a with | ⟨0, _⟩ => rfl | ⟨1, _⟩ => rfl | ⟨2, _⟩ => rfl | ⟨3, _⟩ => rfl⟩
  have hp := p.isLt
  let c : Dev nD := (⟨p.val / 256 * 4, by omega⟩ : Fin 8)
  have hc : c.val = p.val / 256 * 4 := rfl
  obtain ⟨r, hr⟩ := h c (ix4 (⟨p.val % 256, by omega⟩ : Fin 256) k a d)
  refine ⟨r, (part_at c K ⟨p.val % 256, by omega⟩ p ?_ k a d).symm.trans hr⟩
  rw [hc]
  show p.val = p.val / 256 * 4 / 4 * 256 + p.val % 256
  omega

/-- The value claim holds. -/
theorem value [hP : Cert.Pre_finite_and_named_KernelIdeal.Facts] :
    Cert.algebraic_KernelIdeal_ReferenceIdeal_pre_finite_and_named_KernelIdeal := by
  intro m g m' g' hpre hag
  have hr := fun c => pre_read _ _ _ _ _ (hpre c)
  have he : ∀ c, out (V3 m) c = Cert.ReferenceIdeal.Value.res_main_v34 m' 0 := by
    intro c
    refine (out_ref c (fun c => (hag c).1) (fun c => (hag c).2.1) (fun c => (hag c).2.2.1) (fun c => (hag c).2.2.2.1)
      (fun c => (hag c).2.2.2.2) ?_ ?_ ?_).trans (ref_eq m' 0).symm
    · rw [← (hag 0).1]; exact (hr 0).1
    · exact whole_real fun c i => ((hr c).2.1 i).imp fun _ e => (congrFun (hag c).2.1 i).symm.trans e
    · rw [← (hag 0).2.2.2.1, ← (hag 0).2.2.2.2]; exact (hr 0).2.2
  refine ⟨Cert.ReferenceIdeal.Value.res_main_v34 m' 0, ?_, ?_⟩
  · refine (θ_run Cert.KernelIdeal.defs _ _).mono (fun r h c => ?_) (run_main (F := Ideal) m g)
    obtain ⟨⟨ha, ho⟩, -⟩ := h.1 c
    exact ⟨ho.trans (he c), ha⟩
  · exact (θ_run Cert.ReferenceIdeal.defs _ _).mono (fun r h => h 0) (Cert.ReferenceIdeal.Value.run (F := Ideal) m' g')

end Cert.Proof.KV
-- ==== Proof.lean ====
/-
  The proof of `Cert.Claim`: the frames of the kernel, of its idealization and of the reference, the step from the kernel to its idealization,
  and the value claim between the idealization and the reference.
-/
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_finite_and_named_KernelIdeal
public import proofs.«01_k».proof.Proof.Gen.Pre_finite_and_named_ReferenceIdeal

@[expose] public section

noncomputable section

namespace Cert.Proof

/-- What the certificate claims. -/
theorem claim : Cert.Claim := ⟨Cert.Kernel.Gen.facts, Cert.KernelIdeal.Gen.facts, Cert.ReferenceIdeal.Gen.facts,
  Cert.Pre_finite_and_named_KernelIdeal.Gen.facts, Cert.Pre_finite_and_named_ReferenceIdeal.Gen.facts,
  KV.frame_kernel, KV.frame_ideal, fun m g _ => KV.frame_ideal m g trivial, KV.frame_reference,
  fun m g _ => KV.frame_reference m g trivial, KV.kept, KV.value⟩

end Cert.Proof

end
